-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 128]⟩ ⟨2, ![4096, 256]⟩ (Layout.meshBlock [2, 2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 4096]⟩ ⟨2, ![256, 4096]⟩ (Layout.meshBlock [2, 2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 4096]⟩ ⟨2, ![256, 4096]⟩ (Layout.meshBlock [2, 2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x4096 : Shape := ⟨3, ![4, 256, 4096]⟩
abbrev S4096x128 : Shape := ⟨2, ![4096, 128]⟩
abbrev S128x4096 : Shape := ⟨2, ![128, 4096]⟩
abbrev S4096x4096 : Shape := ⟨2, ![4096, 4096]⟩
abbrev S4096x2048 : Shape := ⟨2, ![4096, 2048]⟩
abbrev S4096x64 : Shape := ⟨2, ![4096, 64]⟩
abbrev S_ : Shape := ⟨0, ![]⟩
abbrev S1x256x4096 : Shape := ⟨3, ![1, 256, 4096]⟩
abbrev S256x4096 : Shape := ⟨2, ![256, 4096]⟩
abbrev S256x128 : Shape := ⟨2, ![256, 128]⟩
abbrev S256x64 : Shape := ⟨2, ![256, 64]⟩
abbrev S256x2048 : Shape := ⟨2, ![256, 2048]⟩
abbrev S4096x512 : Shape := ⟨2, ![4096, 512]⟩
abbrev S256x512 : Shape := ⟨2, ![256, 512]⟩
abbrev S2x256x128 : Shape := ⟨3, ![2, 256, 128]⟩
abbrev S2x128x4096 : Shape := ⟨3, ![2, 128, 4096]⟩
abbrev S3 : Shape := ⟨1, ![3]⟩
abbrev S1x256x128 : Shape := ⟨3, ![1, 256, 128]⟩
abbrev S1x128x4096 : Shape := ⟨3, ![1, 128, 4096]⟩
abbrev S1 : Shape := ⟨1, ![1]⟩
abbrev S128x2048 : Shape := ⟨2, ![128, 2048]⟩
abbrev S3x8 : Shape := ⟨2, ![3, 8]⟩
abbrev S256x192 : Shape := ⟨2, ![256, 192]⟩
abbrev S256x256 : Shape := ⟨2, ![256, 256]⟩
abbrev S256 : Shape := ⟨1, ![256]⟩
abbrev S256x1 : Shape := ⟨2, ![256, 1]⟩
abbrev S1x256x512 : Shape := ⟨3, ![1, 256, 512]⟩
abbrev S1x1 : Shape := ⟨2, ![1, 1]⟩

abbrev nBuf : Space → Nat
  | .hbm => 40
  | .vmem => 33
  | .smem => 0
  | _ => 0

abbrev bufTy : (tb : Table) → Fin (tcTables nBuf tb) → BufTy
  | .hbm, ⟨0, _⟩ => ⟨S4x256x4096, .bf16⟩
  | .hbm, ⟨1, _⟩ => ⟨S4096x128, .bf16⟩
  | .hbm, ⟨2, _⟩ => ⟨S128x4096, .bf16⟩
  | .hbm, ⟨3, _⟩ => ⟨S128x4096, .bf16⟩
  | .hbm, ⟨4, _⟩ => ⟨S4096x4096, .bf16⟩
  | .hbm, ⟨5, _⟩ => ⟨S4096x2048, .bf16⟩
  | .hbm, ⟨6, _⟩ => ⟨S4096x64, .bf16⟩
  | .hbm, ⟨7, _⟩ => ⟨S4096x4096, .bf16⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x256x4096, .bf16⟩
  | .hbm, ⟨31, _⟩ => ⟨S256x4096, .bf16⟩
  | .hbm, ⟨32, _⟩ => ⟨S256x128, .bf16⟩
  | .hbm, ⟨33, _⟩ => ⟨S256x64, .bf16⟩
  | .hbm, ⟨34, _⟩ => ⟨S256x4096, .bf16⟩
  | .hbm, ⟨35, _⟩ => ⟨S256x4096, .bf16⟩
  | .hbm, ⟨36, _⟩ => ⟨S256x4096, .bf16⟩
  | .hbm, ⟨37, _⟩ => ⟨S256x4096, .bf16⟩
  | .hbm, ⟨38, _⟩ => ⟨S256x2048, .bf16⟩
  | .hbm, ⟨39, _⟩ => ⟨S4x256x4096, .f32⟩
  | .local _ .vmem, ⟨0, _⟩ => ⟨S256x4096, .bf16⟩
  | .local _ .vmem, ⟨1, _⟩ => ⟨S4096x128, .bf16⟩
  | .local _ .vmem, ⟨2, _⟩ => ⟨S4096x64, .bf16⟩
  | .local _ .vmem, ⟨3, _⟩ => ⟨S256x128, .bf16⟩
  | .local _ .vmem, ⟨4, _⟩ => ⟨S256x64, .bf16⟩
  | .local _ .vmem, ⟨5, _⟩ => ⟨S256x4096, .bf16⟩
  | .local _ .vmem, ⟨6, _⟩ => ⟨S256x128, .bf16⟩
  | .local _ .vmem, ⟨7, _⟩ => ⟨S128x4096, .bf16⟩
  | .local _ .vmem, ⟨8, _⟩ => ⟨S128x4096, .bf16⟩
  | .local _ .vmem, ⟨9, _⟩ => ⟨S256x4096, .bf16⟩
  | .local _ .vmem, ⟨10, _⟩ => ⟨S4096x512, .bf16⟩
  | .local _ .vmem, ⟨11, _⟩ => ⟨S4096x512, .bf16⟩
  | .local _ .vmem, ⟨12, _⟩ => ⟨S4096x512, .bf16⟩
  | .local _ .vmem, ⟨13, _⟩ => ⟨S4096x512, .bf16⟩
  | .local _ .vmem, ⟨14, _⟩ => ⟨S256x4096, .bf16⟩
  | .local _ .vmem, ⟨15, _⟩ => ⟨S256x4096, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S2x256x128, .bf16⟩
  | .local _ .vmem, ⟨21, _⟩ => ⟨S2x128x4096, .bf16⟩
  | .local _ .vmem, ⟨22, _⟩ => ⟨S2x128x4096, .bf16⟩
  | .local _ .vmem, ⟨23, _⟩ => ⟨S256x4096, .bf16⟩
  | .local _ .vmem, ⟨24, _⟩ => ⟨S256x4096, .bf16⟩
  | .local _ .vmem, ⟨25, _⟩ => ⟨S256x4096, .bf16⟩
  | .local _ .vmem, ⟨26, _⟩ => ⟨S256x2048, .bf16⟩
  | .local _ .vmem, ⟨27, _⟩ => ⟨S256x64, .bf16⟩
  | .local _ .vmem, ⟨28, _⟩ => ⟨S4096x512, .bf16⟩
  | .local _ .vmem, ⟨29, _⟩ => ⟨S4096x512, .bf16⟩
  | .local _ .vmem, ⟨30, _⟩ => ⟨S4x256x4096, .f32⟩
  | .local _ .vmem, ⟨31, _⟩ => ⟨S256x4096, .bf16⟩
  | .local _ .vmem, ⟨32, _⟩ => ⟨S4x256x4096, .bf16⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 2 → Bool
  | ⟨0, _⟩ => false
  | ⟨1, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 2 82 bufScoped semScoped dmaSemScoped tileCredit tileCredit_eq_zero tileCredit_pos).withBarriers [(0, 0), (1, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_call0_c : Ref sig .tc := ⟨.hbm, 23, rfl⟩
abbrev main_call0_v0 : Ref sig .tc := ⟨.hbm, 24, rfl⟩
abbrev main_call0_c_0 : Ref sig .tc := ⟨.hbm, 25, rfl⟩
abbrev main_call0_v1 : Ref sig .tc := ⟨.hbm, 26, rfl⟩
abbrev main_call0_v2 : Ref sig .tc := ⟨.hbm, 27, rfl⟩
abbrev main_call0_c_1 : Ref sig .tc := ⟨.hbm, 28, rfl⟩
abbrev main_call0_c_2 : Ref sig .tc := ⟨.hbm, 29, rfl⟩
abbrev main_call0_v3 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v12_2 : Ref sig .tc := ⟨.hbm, 34, rfl⟩
abbrev main_v13_0 : Ref sig .tc := ⟨.hbm, 35, rfl⟩
abbrev main_v13_1 : Ref sig .tc := ⟨.hbm, 36, rfl⟩
abbrev main_v13_2 : Ref sig .tc := ⟨.hbm, 37, rfl⟩
abbrev main_v13_3 : Ref sig .tc := ⟨.hbm, 38, rfl⟩
abbrev main_v14 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_scratch0 : Ref sig .tc := ⟨.vmem, 31, rfl⟩
abbrev cc2_scratch1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem7_0 : DmaSem sig := 15
abbrev cc1_sem8_0 : DmaSem sig := 16
abbrev cc1_sem8_1 : DmaSem sig := 17
abbrev cc1_sem9_0 : DmaSem sig := 18
abbrev cc1_sem9_1 : DmaSem sig := 19
abbrev cc2_sem0_0 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32
abbrev cc2_sem6_0 : DmaSem sig := 33
abbrev barrier0 : Sem sig := 0
abbrev barrier1 : Sem sig := 1

abbrev nD : Nat := 8
abbrev τ : Topo := Topo.v7x

variable {F : FTy → Type} [FloatOps F]

abbrev grid0 : Pipeline.Grid := .none

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![12], ![false]⟩

def k1_cond1 (i : grid1.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_4 : BitVec 32 := 0#32
  let v12 : BitVec 1 := Scalar.cmpi .ne v11 c0_i32_4
  v12

def k1_off1 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : Index := Scalar.indexCast v2
  let c0_10 : Index := 0#32
  let c0_11 : Index := 0#32
  ![v24.toNat, 0, 0]
def k1_off2 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : Index := Scalar.indexCast v2
  let c0_14 : Index := 0#32
  let c0_15 : Index := 0#32
  ![v30.toNat, 0, 0]
def k1_dev1 (d0 : Dev nD) : Nat :=
  let c0_i32_22 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_21 : BitVec 32 := 4#32
  let v41 : BitVec 32 := Scalar.muli v9 c4_i32_21
  let v42 : BitVec 32 := Scalar.addi c0_i32_22 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v43 : BitVec 32 := Scalar.muli v5 c2_i32_23
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v45 : BitVec 32 := Scalar.muli v8 c1_i32_24
  let v46 : BitVec 32 := Scalar.addi v44 v45
  v46.toNat
def k1_off3 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_32 : BitVec 32 := 0#32
  let c0_i32_33 : BitVec 32 := 0#32
  ![v2.toNat, 0, 0]
def k1_dev2 (d0 : Dev nD) : Nat :=
  let c0_i32_29 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_28 : BitVec 32 := 4#32
  let v47 : BitVec 32 := Scalar.muli v9 c4_i32_28
  let v48 : BitVec 32 := Scalar.addi c0_i32_29 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v49 : BitVec 32 := Scalar.muli v5 c2_i32_30
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v51 : BitVec 32 := Scalar.muli v8 c1_i32_31
  let v52 : BitVec 32 := Scalar.addi v50 v51
  v52.toNat
def k1_off4 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_42 : BitVec 32 := 0#32
  let c0_i32_43 : BitVec 32 := 0#32
  ![v2.toNat, 0, 0]
def k1_dev3 (d0 : Dev nD) : Nat :=
  let c0_i32_39 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_38 : BitVec 32 := 4#32
  let v61 : BitVec 32 := Scalar.muli v9 c4_i32_38
  let v62 : BitVec 32 := Scalar.addi c0_i32_39 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v63 : BitVec 32 := Scalar.muli v5 c2_i32_40
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v65 : BitVec 32 := Scalar.muli v8 c1_i32_41
  let v66 : BitVec 32 := Scalar.addi v64 v65
  v66.toNat
def k1_dev4 (d0 : Dev nD) : Nat :=
  let c0_i32_49 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_48 : BitVec 32 := 4#32
  let v75 : BitVec 32 := Scalar.muli v9 c4_i32_48
  let v76 : BitVec 32 := Scalar.addi c0_i32_49 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v77 : BitVec 32 := Scalar.muli v5 c2_i32_50
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v79 : BitVec 32 := Scalar.muli v8 c1_i32_51
  let v80 : BitVec 32 := Scalar.addi v78 v79
  v80.toNat
def k1_cond4 (i : grid1.Coords) : BitVec 1 :=
  let arg0 : BitVec 32 := BitVec.ofNat 32 (i 0).val
  let c11_i32 : BitVec 32 := 11#32
  let v19 : BitVec 1 := Scalar.cmpi .eq arg0 c11_i32
  let v20 : BitVec 32 := Scalar.extui v19
  let c0_i32_8 : BitVec 32 := 0#32
  let v21 : BitVec 1 := Scalar.cmpi .ne v20 c0_i32_8
  v21

def k1_off5 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_12 : BitVec 32 := 0#32
  let c0_i32_13 : BitVec 32 := 0#32
  ![v2.toNat, 0, 0]
def k1_off6 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_29 : BitVec 32 := 0#32
  let c0_i32_30 : BitVec 32 := 0#32
  ![v2.toNat, 0, 0]
def k1_cond2 (i : grid1.Coords) : BitVec 1 :=
  let arg0 : BitVec 32 := BitVec.ofNat 32 (i 0).val
  let c8_i32 : BitVec 32 := 8#32
  let v13 : BitVec 1 := Scalar.cmpi .slt arg0 c8_i32
  let v14 : BitVec 32 := Scalar.extui v13
  let c0_i32_5 : BitVec 32 := 0#32
  let v15 : BitVec 1 := Scalar.cmpi .ne v14 c0_i32_5
  v15

def k1_cond3 (i : grid1.Coords) : BitVec 1 :=
  let arg0 : BitVec 32 := BitVec.ofNat 32 (i 0).val
  let c8_i32_6 : BitVec 32 := 8#32
  let v16 : BitVec 1 := Scalar.cmpi .sge arg0 c8_i32_6
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c8_i32 : BitVec 32 := 8#32
  let v0 : BitVec 32 := Scalar.maxsi arg0 c8_i32
  let c8_i32_0 : BitVec 32 := 8#32
  let v1 : BitVec 32 := Scalar.subi v0 c8_i32_0
  let c0_i32 : BitVec 32 := 0#32
  let c0_i32_1 : BitVec 32 := 0#32
  ![c0_i32.toNat, v1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_9 (i : grid1.Coords) : Fin 2 → Nat :=
  let arg0 : BitVec 32 := BitVec.ofNat 32 (i 0).val
  let c8_i32 : BitVec 32 := 8#32
  let v0 : BitVec 32 := Scalar.maxsi arg0 c8_i32
  let c8_i32_0 : BitVec 32 := 8#32
  let v1 : BitVec 32 := Scalar.subi v0 c8_i32_0
  let c0_i32 : BitVec 32 := 0#32
  let c0_i32_1 : BitVec 32 := 0#32
  ![c0_i32.toNat, v1.toNat]

abbrev stage1_0 : Fin 1 → Memref sig .tc .vmem S256x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4096x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x4096 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x4096 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_15 : BitVec 32 := 0#32
  let v27 : BitVec 1 := Scalar.cmpi .ne v26 c0_i32_15
  v27

def k2_dev1 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v91 : BitVec 32 := Scalar.muli v2 c4_i32_52
  let v92 : BitVec 32 := Scalar.addi c0_i32_53 v91
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_54 : BitVec 32 := 2#32
  let v93 : BitVec 32 := Scalar.muli v11 c2_i32_54
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v95 : BitVec 32 := Scalar.muli v8 c1_i32_55
  let v96 : BitVec 32 := Scalar.addi v94 v95
  v96.toNat
def k2_dev2 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v97 : BitVec 32 := Scalar.muli v2 c4_i32_57
  let v98 : BitVec 32 := Scalar.addi c0_i32_58 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v99 : BitVec 32 := Scalar.muli v5 c2_i32_59
  let v100 : BitVec 32 := Scalar.addi v98 v99
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1_i32_60 : BitVec 32 := 1#32
  let v101 : BitVec 32 := Scalar.muli v15 c1_i32_60
  let v102 : BitVec 32 := Scalar.addi v100 v101
  v102.toNat
def k2_dev3 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v103 : BitVec 32 := Scalar.muli v2 c4_i32_62
  let v104 : BitVec 32 := Scalar.addi c0_i32_63 v103
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_64 : BitVec 32 := 2#32
  let v105 : BitVec 32 := Scalar.muli v19 c2_i32_64
  let v106 : BitVec 32 := Scalar.addi v104 v105
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c1_i32_65 : BitVec 32 := 1#32
  let v107 : BitVec 32 := Scalar.muli v20 c1_i32_65
  let v108 : BitVec 32 := Scalar.addi v106 v107
  v108.toNat
def k2_off1 (i : grid2.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v34 : Index := Scalar.indexCast v10
  let c0_19 : Index := 0#32
  let arg0 : BitVec 32 := BitVec.ofNat 32 (i 0).val
  let c512_i32 : BitVec 32 := 512#32
  let v33 : BitVec 32 := Scalar.muli arg0 c512_i32
  let v35 : Index := Scalar.indexCast v33
  ![v34.toNat, 0, v35.toNat]
def k2_off2 (i : grid2.Coords) : Fin 2 → Nat :=
  let c0_i32_27 : BitVec 32 := 0#32
  let arg0 : BitVec 32 := BitVec.ofNat 32 (i 0).val
  ![0, arg0.toNat]
def k2_off3 (i : grid2.Coords) (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_32 : BitVec 32 := 0#32
  let arg0 : BitVec 32 := BitVec.ofNat 32 (i 0).val
  let c512_i32_21 : BitVec 32 := 512#32
  let v40 : BitVec 32 := Scalar.muli arg0 c512_i32_21
  ![v10.toNat, 0, v40.toNat]
def k2_dev4 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v45 : BitVec 32 := Scalar.muli v2 c4_i32_28
  let v46 : BitVec 32 := Scalar.addi c0_i32_29 v45
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let c2_i32_30 : BitVec 32 := 2#32
  let v47 : BitVec 32 := Scalar.muli v11 c2_i32_30
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v49 : BitVec 32 := Scalar.muli v8 c1_i32_31
  let v50 : BitVec 32 := Scalar.addi v48 v49
  v50.toNat
def k2_off4 (i : grid2.Coords) : Fin 2 → Nat :=
  let c1_i32_35 : BitVec 32 := 1#32
  let arg0 : BitVec 32 := BitVec.ofNat 32 (i 0).val
  ![1, arg0.toNat]
def k2_dev5 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v59 : BitVec 32 := Scalar.muli v2 c4_i32_36
  let v60 : BitVec 32 := Scalar.addi c0_i32_37 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v61 : BitVec 32 := Scalar.muli v5 c2_i32_38
  let v62 : BitVec 32 := Scalar.addi v60 v61
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1_i32_39 : BitVec 32 := 1#32
  let v63 : BitVec 32 := Scalar.muli v15 c1_i32_39
  let v64 : BitVec 32 := Scalar.addi v62 v63
  v64.toNat
def k2_off5 (i : grid2.Coords) : Fin 2 → Nat :=
  let c2_i32_43 : BitVec 32 := 2#32
  let arg0 : BitVec 32 := BitVec.ofNat 32 (i 0).val
  ![2, arg0.toNat]
def k2_dev6 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v73 : BitVec 32 := Scalar.muli v2 c4_i32_44
  let v74 : BitVec 32 := Scalar.addi c0_i32_45 v73
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_46 : BitVec 32 := 2#32
  let v75 : BitVec 32 := Scalar.muli v19 c2_i32_46
  let v76 : BitVec 32 := Scalar.addi v74 v75
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c1_i32_47 : BitVec 32 := 1#32
  let v77 : BitVec 32 := Scalar.muli v20 c1_i32_47
  let v78 : BitVec 32 := Scalar.addi v76 v77
  v78.toNat
def k2_cond2 (i : grid2.Coords) : BitVec 1 :=
  let arg0 : BitVec 32 := BitVec.ofNat 32 (i 0).val
  let c7_i32 : BitVec 32 := 7#32
  let v87 : BitVec 1 := Scalar.cmpi .eq arg0 c7_i32
  let v88 : BitVec 32 := Scalar.extui v87
  let c0_i32_50 : BitVec 32 := 0#32
  let v89 : BitVec 1 := Scalar.cmpi .ne v88 c0_i32_50
  v89

def k2_off6 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v90 : Index := Scalar.indexCast v10
  let c0_51 : Index := 0#32
  let c0_52 : Index := 0#32
  ![v90.toNat, 0, 0]
def k2_off7 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_60 : BitVec 32 := 0#32
  let c0_i32_61 : BitVec 32 := 0#32
  ![v10.toNat, 0, 0]
def k2_off8 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_87 : BitVec 32 := 0#32
  let c512_i32_88 : BitVec 32 := 512#32
  ![v10.toNat, 0, 512]
def k2_off9 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_114 : BitVec 32 := 0#32
  let c1024_i32 : BitVec 32 := 1024#32
  ![v10.toNat, 0, 1024]
def k2_off10 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_139 : BitVec 32 := 0#32
  let c1536_i32 : BitVec 32 := 1536#32
  ![v10.toNat, 0, 1536]
def k2_off11 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_165 : BitVec 32 := 0#32
  let c2048_i32 : BitVec 32 := 2048#32
  ![v10.toNat, 0, 2048]
def k2_off12 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_190 : BitVec 32 := 0#32
  let c2560_i32 : BitVec 32 := 2560#32
  ![v10.toNat, 0, 2560]
def k2_off13 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_215 : BitVec 32 := 0#32
  let c3072_i32 : BitVec 32 := 3072#32
  ![v10.toNat, 0, 3072]
def k2_off14 (d0 : Dev nD) : Fin 3 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c0_i32_241 : BitVec 32 := 0#32
  let c3584_i32 : BitVec 32 := 3584#32
  ![v10.toNat, 0, 3584]
def k2_off15 (d0 : Dev nD) : Fin 3 → Nat :=
  let c2_i32_6 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v13 : BitVec 32 := Scalar.muli c2_i32_6 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.addi v13 v8
  let v338 : Index := Scalar.indexCast v14
  let c0_358 : Index := 0#32
  let c0_359 : Index := 0#32
  ![v338.toNat, 0, 0]
def k2_off16 (d0 : Dev nD) : Fin 3 → Nat :=
  let c2_i32_8 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.muli c2_i32_8 v5
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let v18 : BitVec 32 := Scalar.addi v16 v17
  let v442 : Index := Scalar.indexCast v18
  let c0_458 : Index := 0#32
  let c0_459 : Index := 0#32
  ![v442.toNat, 0, 0]
def k2_off17 (d0 : Dev nD) : Fin 3 → Nat :=
  let c2_i32_13 : BitVec 32 := 2#32
  let c1_i32_12 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_12 v5
  let v22 : BitVec 32 := Scalar.muli c2_i32_13 v21
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_14 v8
  let v24 : BitVec 32 := Scalar.addi v22 v23
  let v546 : Index := Scalar.indexCast v24
  let c0_558 : Index := 0#32
  let c0_559 : Index := 0#32
  ![v546.toNat, 0, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 1 → Memref sig .tc .vmem S256x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S4x256x4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== ReferenceIdeal.lean ====
abbrev S4x256x4096 : Shape := ⟨3, ![4, 256, 4096]⟩
abbrev S4096x256 : Shape := ⟨2, ![4096, 256]⟩
abbrev S256x4096 : Shape := ⟨2, ![256, 4096]⟩
abbrev S4096x4096 : Shape := ⟨2, ![4096, 4096]⟩
abbrev S4096x2048 : Shape := ⟨2, ![4096, 2048]⟩
abbrev S4096x64 : Shape := ⟨2, ![4096, 64]⟩
abbrev S4x256x256 : Shape := ⟨3, ![4, 256, 256]⟩
abbrev S4x256x32x128 : Shape := ⟨4, ![4, 256, 32, 128]⟩
abbrev S4x256x2048 : Shape := ⟨3, ![4, 256, 2048]⟩
abbrev S4x256x32x64 : Shape := ⟨4, ![4, 256, 32, 64]⟩
abbrev S4x256x64 : Shape := ⟨3, ![4, 256, 64]⟩
abbrev S4x256x1x64 : Shape := ⟨4, ![4, 256, 1, 64]⟩
abbrev S4x32x256x256 : Shape := ⟨4, ![4, 32, 256, 256]⟩
abbrev S_ : Shape := ⟨0, ![]⟩
abbrev S4x32x256 : Shape := ⟨3, ![4, 32, 256]⟩
abbrev S4x32x256x1 : Shape := ⟨4, ![4, 32, 256, 1]⟩
abbrev S4x32x128x256 : Shape := ⟨4, ![4, 32, 128, 256]⟩

abbrev nBuf : Space → Nat
  | .hbm => 49
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S4096x256, .bf16⟩
  | .hbm, ⟨2, _⟩ => ⟨S256x4096, .bf16⟩
  | .hbm, ⟨3, _⟩ => ⟨S256x4096, .bf16⟩
  | .hbm, ⟨4, _⟩ => ⟨S4096x4096, .bf16⟩
  | .hbm, ⟨5, _⟩ => ⟨S4096x2048, .bf16⟩
  | .hbm, ⟨6, _⟩ => ⟨S4096x64, .bf16⟩
  | .hbm, ⟨7, _⟩ => ⟨S4096x4096, .bf16⟩
  | .hbm, ⟨8, _⟩ => ⟨S4x256x4096, .f32⟩
  | .hbm, ⟨9, _⟩ => ⟨S4096x256, .f32⟩
  | .hbm, ⟨10, _⟩ => ⟨S256x4096, .f32⟩
  | .hbm, ⟨11, _⟩ => ⟨S256x4096, .f32⟩
  | .hbm, ⟨12, _⟩ => ⟨S4096x4096, .f32⟩
  | .hbm, ⟨13, _⟩ => ⟨S4096x2048, .f32⟩
  | .hbm, ⟨14, _⟩ => ⟨S4096x64, .f32⟩
  | .hbm, ⟨15, _⟩ => ⟨S4096x4096, .f32⟩
  | .hbm, ⟨16, _⟩ => ⟨S4x256x256, .f32⟩
  | .hbm, ⟨17, _⟩ => ⟨S4x256x4096, .f32⟩
  | .hbm, ⟨18, _⟩ => ⟨S4x256x32x128, .f32⟩
  | .hbm, ⟨19, _⟩ => ⟨S4x256x4096, .f32⟩
  | .hbm, ⟨20, _⟩ => ⟨S4x256x32x128, .f32⟩
  | .hbm, ⟨21, _⟩ => ⟨S4x256x4096, .f32⟩
  | .hbm, ⟨22, _⟩ => ⟨S4x256x32x128, .f32⟩
  | .hbm, ⟨23, _⟩ => ⟨S4x256x2048, .f32⟩
  | .hbm, ⟨24, _⟩ => ⟨S4x256x32x64, .f32⟩
  | .hbm, ⟨25, _⟩ => ⟨S4x256x64, .f32⟩
  | .hbm, ⟨26, _⟩ => ⟨S4x256x1x64, .f32⟩
  | .hbm, ⟨27, _⟩ => ⟨S4x32x256x256, .f32⟩
  | .hbm, ⟨28, _⟩ => ⟨S4x256x32x64, .f32⟩
  | .hbm, ⟨29, _⟩ => ⟨S4x32x256x256, .f32⟩
  | .hbm, ⟨30, _⟩ => ⟨S4x32x256x256, .f32⟩
  | .hbm, ⟨31, _⟩ => ⟨S_, .f32⟩
  | .hbm, ⟨32, _⟩ => ⟨S4x32x256x256, .f32⟩
  | .hbm, ⟨33, _⟩ => ⟨S4x32x256x256, .f32⟩
  | .hbm, ⟨34, _⟩ => ⟨S_, .f32⟩
  | .hbm, ⟨35, _⟩ => ⟨S4x32x256, .f32⟩
  | .hbm, ⟨36, _⟩ => ⟨S4x32x256x1, .f32⟩
  | .hbm, ⟨37, _⟩ => ⟨S4x32x256x256, .f32⟩
  | .hbm, ⟨38, _⟩ => ⟨S4x32x256x256, .f32⟩
  | .hbm, ⟨39, _⟩ => ⟨S4x32x256x256, .f32⟩
  | .hbm, ⟨40, _⟩ => ⟨S_, .f32⟩
  | .hbm, ⟨41, _⟩ => ⟨S4x32x256, .f32⟩
  | .hbm, ⟨42, _⟩ => ⟨S4x32x256x1, .f32⟩
  | .hbm, ⟨43, _⟩ => ⟨S4x32x256x256, .f32⟩
  | .hbm, ⟨44, _⟩ => ⟨S4x32x256x256, .f32⟩
  | .hbm, ⟨45, _⟩ => ⟨S4x32x128x256, .f32⟩
  | .hbm, ⟨46, _⟩ => ⟨S4x256x32x128, .f32⟩
  | .hbm, ⟨47, _⟩ => ⟨S4x256x4096, .f32⟩
  | .hbm, ⟨48, _⟩ => ⟨S4x256x4096, .f32⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Mesh.lean ====
/-
  The protocol of the two talking calls of `@main`, on the 2 × 2 × 2 mesh (device d = 4 x + 2 y + z).

  CALL 1 (`cc1`, partner `px c`: the device across axis x). Per device three scratch buffers of two slots, slot x filled by the
  device itself, the other slot by its partner:
    * `sig.barrier 0`: waited by c for one unit; signalled by the partner, which hands over ITS slots c will write, and the
      knowledge that its receiving cells are open;
    * sending cells (20, 21, 22): c's copies of its own slot; returned with the slot;
    * receiving cells (23, 24, 25): the partner's copies; they bring c's other slot at the partner's values.
  CALL 2 (`cc2`, peers `pe 0 c`, `pe 1 c`, `pe 2 c`: across y, across z, across both). Per device one gathering buffer of four rows
  of eight column chunks; row g c is computed by the device itself, the others come from the peers:
    * `sig.barrier 1`: waited by c for three units; signalled by each peer, which hands over the chunks of ITS row g c;
    * sending cells (34 + 8 i + k): c's copy of chunk k of its row to peer i, returned with a share of the chunk;
    * receiving cells (58 + 8 i + k): peer i's copy of chunk k of ITS row, which brings it at the peer's values.
  Every cell serves one round. Levels: barrier 0 below the receiving cells of call 1, below barrier 1, below those of call 2.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

/-! ## The mesh -/

/-- The device across axis x. -/
def px (c : Dev nD) : Dev nD := ⟨(c.val + 4) % 8, Nat.mod_lt _ (by decide)⟩
/-- The three peers of call 2. -/
def pe : Fin 3 → Dev nD → Dev nD
  | 0, c => ⟨4 * (c.val / 4) + (c.val + 2) % 4, by have := c.isLt; simp only [nD] at *; omega⟩
  | 1, c => ⟨2 * (c.val / 2) + (c.val + 1) % 2, by have := c.isLt; simp only [nD] at *; omega⟩
  | 2, c => ⟨4 * (c.val / 4) + (3 - c.val % 4), by have := c.isLt; simp only [nD] at *; omega⟩
/-- The group of a device: its row of the gathering buffer. -/
def gr (c : Dev nD) : ℕ := c.val % 4
/-- The place of a device on axis x: its slot. -/
def sx (c : Dev nD) : ℕ := c.val / 4
/-- The device of group `g` on c's side of axis x. -/
def at4 (c : Dev nD) (g : ℕ) (h : g < 4) : Dev nD := ⟨4 * (c.val / 4) + g, by have := c.isLt; simp only [nD] at *; omega⟩

theorem k1_dev1_px (c : Dev nD) : k1_dev1 c = (px c).val := by revert c; decide +kernel
theorem k1_dev2_px (c : Dev nD) : k1_dev2 c = (px c).val := by revert c; decide +kernel
theorem k1_dev3_px (c : Dev nD) : k1_dev3 c = (px c).val := by revert c; decide +kernel
theorem k1_dev4_px (c : Dev nD) : k1_dev4 c = (px c).val := by revert c; decide +kernel
theorem k2_dev1_pe (c : Dev nD) : k2_dev1 c = (pe 0 c).val := by revert c; decide +kernel
theorem k2_dev2_pe (c : Dev nD) : k2_dev2 c = (pe 1 c).val := by revert c; decide +kernel
theorem k2_dev3_pe (c : Dev nD) : k2_dev3 c = (pe 2 c).val := by revert c; decide +kernel
theorem k2_dev4_pe (c : Dev nD) : k2_dev4 c = (pe 0 c).val := by revert c; decide +kernel
theorem k2_dev5_pe (c : Dev nD) : k2_dev5 c = (pe 1 c).val := by revert c; decide +kernel
theorem k2_dev6_pe (c : Dev nD) : k2_dev6 c = (pe 2 c).val := by revert c; decide +kernel
theorem px_px (c : Dev nD) : px (px c) = c := by revert c; decide +kernel
theorem pe_pe (i : Fin 3) (c : Dev nD) : pe i (pe i c) = c := by revert i c; decide +kernel
theorem gr_lt (c : Dev nD) : gr c < 4 := Nat.mod_lt _ (by decide)
theorem sx_lt (c : Dev nD) : sx c < 2 := by revert c; decide
theorem sx_px (c : Dev nD) : sx (px c) = 1 - sx c := by revert c; decide +kernel
theorem gr_px (c : Dev nD) : gr (px c) = gr c := by revert c; decide +kernel
theorem sx_pe (i : Fin 3) (c : Dev nD) : sx (pe i c) = sx c := by revert i c; decide +kernel
theorem gr_pe_ne (i : Fin 3) (c : Dev nD) : gr (pe i c) ≠ gr c := by revert i c; decide +kernel
theorem gr_pe_inj (i j : Fin 3) (h : i ≠ j) (c : Dev nD) : gr (pe i c) ≠ gr (pe j c) := by revert i j c; decide +kernel
theorem at4_gr (c : Dev nD) : at4 c (gr c) (gr_lt c) = c := by revert c; decide
theorem at4_gr_pe (i : Fin 3) (c : Dev nD) : at4 c (gr (pe i c)) (gr_lt _) = pe i c := by revert i c; decide +kernel
theorem at4_pe (i : Fin 3) (c : Dev nD) (g : ℕ) (h : g < 4) : at4 (pe i c) g h = at4 c g h := by
  unfold at4; exact Fin.ext (by have := sx_pe i c; unfold sx at this; show 4 * _ + g = 4 * _ + g; rw [this])
theorem rows_cover (c : Dev nD) (g : Fin 4) : g.val = gr c ∨ ∃ i, g.val = gr (pe i c) := by revert c g; decide +kernel

def pxE : Dev nD ≃ Dev nD := ⟨px, px, px_px, px_px⟩
def peE (i : Fin 3) : Dev nD ≃ Dev nD := ⟨pe i, pe i, pe_pe i, pe_pe i⟩

/-! ## The pieces of the scratch buffers -/

/-- The kernel's own scratch. -/
abbrev bC : Ref sig .tc := cc1_scratch0
abbrev bU : Ref sig .tc := cc1_scratch1
abbrev bV : Ref sig .tc := cc1_scratch2
abbrev bO : Ref sig .tc := cc2_scratch0
abbrev bG : Ref sig .tc := cc2_scratch1

/-- Slot x of the two-slot buffers. -/
def slC (x : ℕ) : Finset S2x256x128.Idx := Finset.univ.filter fun i => (i 0).val = x
def slW (x : ℕ) : Finset S2x128x4096.Idx := Finset.univ.filter fun i => (i 0).val = x
/-- Row g of the gathering buffer; its chunk k. -/
def rowG (g : ℕ) : Finset S4x256x4096.Idx := Finset.univ.filter fun i => (i 0).val = g
def chG (g k : ℕ) : Finset S4x256x4096.Idx := Finset.univ.filter fun i => (i 0).val = g ∧ 512 * k ≤ (i 2).val ∧ (i 2).val < 512 * k + 512

theorem mem_slC {x : ℕ} {i : S2x256x128.Idx} : i ∈ slC x ↔ (i 0).val = x := by simp [slC]
theorem mem_slW {x : ℕ} {i : S2x128x4096.Idx} : i ∈ slW x ↔ (i 0).val = x := by simp [slW]
theorem mem_rowG {g : ℕ} {i : S4x256x4096.Idx} : i ∈ rowG g ↔ (i 0).val = g := by simp [rowG]
theorem mem_chG {g k : ℕ} {i : S4x256x4096.Idx} : i ∈ chG g k ↔ (i 0).val = g ∧ 512 * k ≤ (i 2).val ∧ (i 2).val < 512 * k + 512 := by
  simp [chG]

/-- What the scratch buffers come to hold, on each device. -/
structure Vals (F : FTy → Type) where
  cF : Dev nD → bC.ty.Contents (Elt F)
  uF : Dev nD → bU.ty.Contents (Elt F)
  vF : Dev nD → bV.ty.Contents (Elt F)
  gF : Dev nD → bG.ty.Contents (Elt F)

/-! ## The resource algebra -/

abbrev RT : Type := URounds (GSem nD τ sig) (Fin 3)
abbrev UU : Type := UR sig nD τ × RT

local notation "𝕄" => MT nD τ sig Unit (Elt F) ℕ UU ℕ

abbrev EP : Emb (UR sig nD τ) (MT nD τ sig Unit (Elt F) ℕ UU ℕ) := embL
abbrev ER : Emb RT (MT nD τ sig Unit (Elt F) ℕ UU ℕ) := embR

/-- Elements `S` of buffer `b` on device `c`, at share `q` and contents `f`; at contents not named. -/
abbrev pc (c : Dev nD) (b : Ref sig .tc) (S : Finset b.ty.shape.Idx) (q : PosShare TreeShare) (f : b.ty.Contents (Elt F)) : sProp 𝕄 :=
  ((c : Thread nD τ).loc b) ↦[S]{q} f
abbrev pcAny (c : Dev nD) (b : Ref sig .tc) (S : Finset b.ty.shape.Idx) : sProp 𝕄 := iprop(∃ f : b.ty.Contents (Elt F), pc c b S fullShare f)

/-- The share of a chunk each of the three copies reads it at, and the one the device keeps. -/
def sq : Fin 3 → PosShare TreeShare
  | 0 => fullShare.left.left
  | 1 => fullShare.left.right
  | 2 => fullShare.right.left
def kq : PosShare TreeShare := fullShare.right.right

/-! ## The cells -/

abbrev bar0 (c : Dev nD) : GSem nD τ sig := ((c : Thread nD τ), .reg barrier0)
abbrev bar1 (c : Dev nD) : GSem nD τ sig := ((c : Thread nD τ), .reg barrier1)
def s1S (a : Fin 3) : DmaSem sig := ⟨20 + a.val, by have := a.isLt; show _ < 82; omega⟩
def r1S (a : Fin 3) : DmaSem sig := ⟨23 + a.val, by have := a.isLt; show _ < 82; omega⟩
def s2S (i : Fin 3) (k : Fin 8) : DmaSem sig := ⟨34 + 8 * i.val + k.val, by have := i.isLt; have := k.isLt; show _ < 82; omega⟩
def r2S (i : Fin 3) (k : Fin 8) : DmaSem sig := ⟨58 + 8 * i.val + k.val, by have := i.isLt; have := k.isLt; show _ < 82; omega⟩
abbrev s1C (c : Dev nD) (a : Fin 3) : GSem nD τ sig := ((c : Thread nD τ), .dma (s1S a))
abbrev r1C (c : Dev nD) (a : Fin 3) : GSem nD τ sig := ((c : Thread nD τ), .dma (r1S a))
abbrev s2C (c : Dev nD) (i : Fin 3) (k : Fin 8) : GSem nD τ sig := ((c : Thread nD τ), .dma (s2S i k))
abbrev r2C (c : Dev nD) (i : Fin 3) (k : Fin 8) : GSem nD τ sig := ((c : Thread nD τ), .dma (r2S i k))

/-- What a semaphore is for. -/
inductive CK where
  | b0 | b1 | s1 (a : Fin 3) | r1 (a : Fin 3) | s2 (i : Fin 3) (k : Fin 8) | r2 (i : Fin 3) (k : Fin 8) | no
  deriving DecidableEq

def ck : SemLoc sig → CK
  | .reg s => if s.val = 0 then .b0 else if s.val = 1 then .b1 else .no
  | .dma s =>
    if s.val < 20 then .no
    else if s.val < 23 then .s1 (Fin.ofNat 3 (s.val - 20))
    else if s.val < 26 then .r1 (Fin.ofNat 3 (s.val - 23))
    else if s.val < 34 then .no
    else if s.val < 58 then .s2 (Fin.ofNat 3 ((s.val - 34) / 8)) (Fin.ofNat 8 ((s.val - 34) % 8))
    else if s.val < 82 then .r2 (Fin.ofNat 3 ((s.val - 58) / 8)) (Fin.ofNat 8 ((s.val - 58) % 8))
    else .no

theorem ck_b0 : ck (.reg barrier0) = .b0 := by decide
theorem ck_b1 : ck (.reg barrier1) = .b1 := by decide
theorem ck_s1 (a : Fin 3) : ck (.dma (s1S a)) = .s1 a := by revert a; decide
theorem ck_r1 (a : Fin 3) : ck (.dma (r1S a)) = .r1 a := by revert a; decide
theorem ck_s2 (i : Fin 3) (k : Fin 8) : ck (.dma (s2S i k)) = .s2 i k := by revert i k; decide
theorem ck_r2 (i : Fin 3) (k : Fin 8) : ck (.dma (r2S i k)) = .r2 i k := by revert i k; decide

/-! ## The schedule -/

/-- The credits of the copies: of a slot of the latent or of a projection weight, of a chunk. -/
def n1 : Fin 3 → ℕ
  | 0 => bC.dmaCredit S256x128 .bf16
  | 1 => bU.dmaCredit S128x4096 .bf16
  | 2 => bV.dmaCredit S128x4096 .bf16
def n2 : ℕ := bG.dmaCredit S256x512 .bf16

theorem n1_pos (a : Fin 3) : 0 < n1 a := by
  match a with
  | 0 => exact sig.dmaCredit_pos _ _ _ _ _ (by decide)
  | 1 => exact sig.dmaCredit_pos _ _ _ _ _ (by decide)
  | 2 => exact sig.dmaCredit_pos _ _ _ _ _ (by decide)
theorem n2_pos : 0 < n2 := sig.dmaCredit_pos _ _ _ _ _ (by decide)

variable (v : Vals F)

/-- Slot x of the a-th scratch buffer of call 1 on device c, at its final contents; at contents not named. -/
def slot1 (c : Dev nD) (x : ℕ) : Fin 3 → sProp 𝕄
  | 0 => pc c bC (slC x) fullShare (v.cF c)
  | 1 => pc c bU (slW x) fullShare (v.uF c)
  | 2 => pc c bV (slW x) fullShare (v.vF c)
def slot1Any (c : Dev nD) (x : ℕ) : Fin 3 → sProp 𝕄
  | 0 => pcAny c bC (slC x)
  | 1 => pcAny c bU (slW x)
  | 2 => pcAny c bV (slW x)

/-- Paid to device c's barrier of call 1 by its partner: the partner's slots that c will write. -/
def pay0 (c : Dev nD) : sProp 𝕄 :=
  iprop((slot1Any (px c) (sx c) 0 ∗ slot1Any (px c) (sx c) 1 ∗ slot1Any (px c) (sx c) 2)
    ∗ reached ER (r1C (px c) 0) 0 ∗ reached ER (r1C (px c) 1) 0 ∗ reached ER (r1C (px c) 2) 0)
/-- Paid to device c's barrier of call 2 by its i-th peer: the chunks of the peer's row `gr c`. -/
def pay1 (c : Dev nD) (i : Fin 3) : sProp 𝕄 :=
  bigSep Finset.univ fun k : Fin 8 => iprop(pcAny (pe i c) bG (chG (gr c) k.val) ∗ reached ER (r2C (pe i c) i k) 0)

/-- What each cell's landing, copy or signal hands over. -/
def payOf (c : Dev nD) : CK → Fin 3 → sProp 𝕄
  | .b0, _ => pay0 c
  | .b1, i => pay1 c i
  | .s1 a, _ => slot1 v c (sx c) a
  | .r1 a, _ => slot1 v c (sx (px c)) a
  | .s2 i k, _ => pc c bG (chG (gr c) k.val) (sq i) (v.gF c)
  | .r2 i k, _ => pc c bG (chG (gr (pe i c)) k.val) fullShare (v.gF c)
  | .no, _ => iprop(emp)
def amtOf : CK → ℕ
  | .b0 => 1
  | .b1 => 1
  | .s1 a => n1 a
  | .r1 a => n1 a
  | .s2 _ _ => n2
  | .r2 _ _ => n2
  | .no => 1
def dutOf : CK → Finset (Fin 3)
  | .b1 => Finset.univ
  | .no => ∅
  | _ => {0}

theorem amtOf_pos (k : CK) : 0 < amtOf k := by
  cases k <;> first | exact Nat.one_pos | exact n1_pos _ | exact n2_pos

/-- The schedule: every cell one round. -/
def Rd : Rounds.Schedule (GSem nD τ sig) (Fin 3) 𝕄 where
  duties g r := if r = 0 ∧ g.1.2 = .tc then dutOf (ck g.2) else ∅
  unitless _ := False
  amount g _ _ := amtOf (ck g.2)
  payload g _ d := payOf v g.1.1 (ck g.2) d
  amount_pos g _ _ _ := amtOf_pos _

instance slot1_storable (c : Dev nD) (x : ℕ) (a : Fin 3) : BI.Storable (upEmb : UEmb _ 𝕄) (slot1 v c x a) := by
  match a with
  | 0 => unfold slot1; infer_instance
  | 1 => unfold slot1; infer_instance
  | 2 => unfold slot1; infer_instance
instance slot1Any_storable (c : Dev nD) (x : ℕ) (a : Fin 3) : BI.Storable (upEmb : UEmb _ 𝕄) (slot1Any (F := F) c x a) := by
  match a with
  | 0 => unfold slot1Any; infer_instance
  | 1 => unfold slot1Any; infer_instance
  | 2 => unfold slot1Any; infer_instance
instance pay0_storable (c : Dev nD) : BI.Storable (upEmb : UEmb _ 𝕄) (pay0 (F := F) c) := by unfold pay0; infer_instance
instance pay1_storable (c : Dev nD) (i : Fin 3) : BI.Storable (upEmb : UEmb _ 𝕄) (pay1 (F := F) c i) := by unfold pay1; infer_instance
instance payOf_storable (c : Dev nD) (k : CK) (d : Fin 3) : BI.Storable (upEmb : UEmb _ 𝕄) (payOf v c k d) := by
  cases k <;> unfold payOf <;> infer_instance
instance Rd_storable (g : GSem nD τ sig) (r : ℕ) (d : Fin 3) : BI.Storable (upEmb : UEmb _ 𝕄) ((Rd v).payload g r d) :=
  payOf_storable v _ _ _

/-! ### The schedule's table -/

theorem duties_of (c : Dev nD) (s : SemLoc sig) : (Rd v).duties ((c : Thread nD τ), s) 0 = dutOf (ck s) := by
  dsimp only [Rd]; exact if_pos ⟨rfl, rfl⟩
theorem duties_later (g : GSem nD τ sig) : ∀ r, 1 ≤ r → (Rd v).duties g r = ∅ := fun r hr => by
  dsimp only [Rd]; exact if_neg fun h => by omega
theorem amount_of (g : GSem nD τ sig) (r : ℕ) (d : Fin 3) : (Rd v).amount g r d = amtOf (ck g.2) := rfl
theorem payload_of (g : GSem nD τ sig) (r : ℕ) (d : Fin 3) : (Rd v).payload g r d = payOf v g.1.1 (ck g.2) d := rfl
theorem expect_of (c : Dev nD) (s : SemLoc sig) : (Rd v).expect ((c : Thread nD τ), s) 0 = (dutOf (ck s)).card * amtOf (ck s) := by
  unfold Schedule.expect Schedule.amountOf
  rw [duties_of, Finset.sum_congr rfl fun d _ => amount_of v _ _ d, Finset.sum_const, smul_eq_mul]
theorem rest_of (c : Dev nD) (s : SemLoc sig) :
    bigSep ((Rd v).duties ((c : Thread nD τ), s) 0 \ ∅) (fun d => (Rd v).payload ((c : Thread nD τ), s) 0 d)
      = bigSep (dutOf (ck s)) (payOf v c (ck s)) := by
  rw [Finset.sdiff_empty, duties_of]; rfl

/-! ## What each device owes; the levels -/

/-- Due in call 1: a unit of the partner's barrier and the credits of its receiving cells. -/
def owe1r (c : Dev nD) : CellTallies nD τ sig Unit :=
  tallyAt (r1C (px c) 2) () (n1 2) + tallyAt (r1C (px c) 1) () (n1 1) + tallyAt (r1C (px c) 0) () (n1 0)
def owe1 (c : Dev nD) : CellTallies nD τ sig Unit := owe1r c + tallyAt (bar0 (px c)) () 1
/-- Due in call 2 for chunk k: the credits of the peers' receiving cells; for the chunks from t on; with the barriers. -/
def oweK (c : Dev nD) (k : Fin 8) : CellTallies nD τ sig Unit :=
  tallyAt (r2C (pe 2 c) 2 k) () n2 + tallyAt (r2C (pe 1 c) 1 k) () n2 + tallyAt (r2C (pe 0 c) 0 k) () n2
def oweF (c : Dev nD) (t : ℕ) : CellTallies nD τ sig Unit := ∑ k ∈ rangeSet 8 t 8, oweK c k
def owe2 (c : Dev nD) : CellTallies nD τ sig Unit :=
  oweF c 0 + tallyAt (bar1 (pe 2 c)) () 1 + tallyAt (bar1 (pe 1 c)) () 1 + tallyAt (bar1 (pe 0 c)) () 1

theorem oweF_step (c : Dev nD) (k : Fin 8) : oweF c k.val = oweF c (k.val + 1) + oweK c k := by
  unfold oweF
  rw [rangeSet_head k.isLt k.isLt, Finset.sum_insert (head_not_mem_rangeSet k.isLt), add_comm]
theorem oweF_end (c : Dev nD) : oweF c 8 = 0 := by
  unfold oweF; rw [rangeSet_empty le_rfl, Finset.sum_empty]

def L (g : GSem nD τ sig) : Finset Unit := if g.1.2 = .tc then {()} else ∅
def lvK : CK → ℕ
  | .b0 => 1
  | .r1 _ => 2
  | .b1 => 3
  | .r2 _ _ => 4
  | _ => 0
def lv (g : GSem nD τ sig) (_ : Unit) : ℕ := lvK (ck g.2)

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Hand

end
-- ==== Proof.Ops.lean ====
/-
  Rules for one operation at the head of a program: loads and stores of memrefs held at named contents, and the signals, waits and
  copies of the protocol.
-/
module

public import proofs.«01_k».proof.Proof.Mesh
public import Idealize.ShloMosaic.Lib.Writes
public import Idealize.ShloMosaic.Lib.Memref

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head head_not_mem_rangeSet rangeSet_empty rangeSet_last last_not_mem_rangeSet rangeSet_univ)

variable {F : FTy → Type} [FloatOps F]

local notation "𝕄" => MT nD τ sig Unit (Elt F) ℕ UU ℕ

abbrev 𝒱₀ : Variants := Variants.none

section Mem

variable {c : Dev nD} {s : Shape} {e : EltTy} {cs : CoreSpace} {α : Type}

/-- A load through a rectangle of a memref owned at `X` reads `X` there. -/
theorem ld {m : Memref sig .tc cs s e} {r : LoadRect s} {hl : m.view.LoadsAt r}
    {k : (r.shape.Idx → Elt F e) → Prog (TpuEff nD τ sig (Elt F) Λ₀ .tc) α} {q : PosShare TreeShare} {X : s.Idx → Elt F e} {Q : α → sProp 𝕄} :
    (owns (c : Thread nD τ) m q X : sProp 𝕄)
      ⊢ iprop((owns (c : Thread nD τ) m q X -∗ wp frame (wpE (defs₀ (F := F)) 𝒱₀ (c : Thread nD τ) none) Set.univ (k fun i => X (r.idx i)) Q)
        -∗ wp frame (wpE (defs₀ (F := F)) 𝒱₀ (c : Thread nD τ) none) Set.univ (.op (.load m r hl) k) Q) := by
  unfold owns
  iintro ⟨%f, %hf, H⟩ Hk
  iapply (wp_load 𝒱₀ (c : Thread nD τ) none Set.univ (hl := hl) (k := k) (View.setOn_subset_set m.view r.set)) $$ H
  iintro H
  rw [show (fun i => X (r.idx i)) = m.view.readAt (Elt F) r f from by funext i; rw [View.readAt_apply, hf]]
  iapply Hk
  iexists f; isplitr; · ipureintro; exact hf
  iexact H

/-- A load through the rectangle that is the whole memref. -/
theorem ldw {m : Memref sig .tc cs s e} {off : Fin s.rank → ℕ} {inb : ∀ a, off a + s.size a ≤ s.size a} {hl : m.view.LoadsAt (Rect.unit (s := s) off s.size inb).toLoadRect}
    {k : (s.Idx → Elt F e) → Prog (TpuEff nD τ sig (Elt F) Λ₀ .tc) α} {q : PosShare TreeShare} {X : s.Idx → Elt F e} {Q : α → sProp 𝕄} :
    (owns (c : Thread nD τ) m q X : sProp 𝕄)
      ⊢ iprop((owns (c : Thread nD τ) m q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := s) off s.size inb).toLoadRect hl) k) Q) := by
  refine (ld (hl := hl) (k := k) (q := q) (X := X) (Q := Q)).trans ?_
  rw [show (fun i => X ((Rect.unit (s := s) off s.size inb).toLoadRect.idx i)) = X from by
    funext i; congr 1; funext a; apply Fin.ext
    have := inb a
    show off a + 1 * (i a).val = (i a).val
    omega]

/-- A store into a rectangle of a memref owned at `X` leaves it at `X` overlaid there. -/
theorem st {m : Memref sig .tc cs s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} {X : s.Idx → Elt F e} {Q : α → sProp 𝕄} :
    (owns (c : Thread nD τ) m fullShare X : sProp 𝕄)
      ⊢ iprop((owns (c : Thread nD τ) m fullShare (r.overlay X w) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold owns
  iintro ⟨%f, %hf, H⟩ Hk
  iapply (wp_store_writes₀ 𝒱₀ (c : Thread nD τ) none Set.univ (r := r) (w := w) (hx := hx) (hm := hm) (k := k) (S := m.view.set)
    (by rw [View.set_slice]; exact View.setOn_subset_set m.view r.set)) $$ H
  iintro H
  iapply Hk
  iexists m.view.writes (Elt F) f [⟨r, w⟩]
  isplitr
  · ipureintro; funext j
    by_cases hj : j ∈ r.set
    · obtain ⟨i, rfl⟩ : ∃ i, r.emb i = j := LoadRect.exists_idx_of_mem _ hj
      rw [View.read_writes_cons_emb, Rect.overlay_emb]
    · rw [View.read_writes_apply_of_forall_not_mem _ _ _ _ (fun p hp => by rw [List.mem_singleton] at hp; rw [hp]; exact hj),
        Rect.overlay_of_not_mem _ _ _ hj, hf]
  iexact H

end Mem

/-! ## The protocol's operations -/

/-- What core c owes, whatever its recorded waits. -/
def Ow (c : Dev nD) (O : CellTallies nD τ sig Unit) : sProp 𝕄 := iprop(∃ W, owes (c : Thread nD τ) O W)

section Proto

variable (v : Vals F) {c : Dev nD} {α : Type}

/-- A signal to a peer: it pays its duty with the payload. -/
theorem sg {κ₁ : ℕ} {n p : Dev nD} (hn : n = p) {s : Sem sig} (d : Fin 3) (hd : d ∈ dutOf (ck (.reg s))) (ha : amtOf (ck (.reg s)) = 1)
    {k : PUnit → Prog (TpuEff nD τ sig (Elt F) Λ₀ .tc) α} (O : CellTallies nD τ sig Unit) {Q : α → sProp 𝕄} :
    iprop(cellInv ER (Rd v) κ₁ ((p : Thread nD τ), .reg s) ∗ Ow c (O + tallyAt ((p : Thread nD τ), .reg s) () 1)
        ∗ dutyTok ER ((p : Thread nD τ), .reg s) 0 d ∗ payOf v p (ck (.reg s)) d ∗ reached ER ((p : Thread nD τ), .reg s) 0)
      ⊢ iprop((Ow c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, Proc.tc) s (1#32 : BitVec 32).toInt) k) Q) := by
  subst hn
  unfold Ow
  iintro ⟨HI, ⟨%W, HO⟩, Ht, Hp, Hr⟩ Hk
  iapply (Rounds.wp_signal 𝒱₀ ER (Rd v) (c : Thread nD τ) none (dst := (n : Thread nD τ)) (sem := s) (r := 0) (d := d) (κ := κ₁) (k := k)
    (by rw [duties_of]; exact hd) ((amount_of v _ _ _).trans ha) () O rfl) $$ [HI HO Ht Hp Hr]
  · isplitl [HI]; · iexact HI
    isplitl [HO]; · iexact HO
    isplitl [Ht]; · iexact Ht
    isplitl [Hp]; · iapply (Entails.of_eq (payload_of v ((n : Thread nD τ), SemLoc.reg s) 0 d).symm) $$ Hp
    iexact Hr
  iintro HO; iapply Hk; iexists _; iexact HO

/-- A wait for all of its cell's units: the cell is closed behind it, and every payload comes. -/
theorem wt {w : TpuEff nD τ sig (Elt F) Λ₀ .tc PUnit} {κ₁ : ℕ} {sm : SemLoc sig} (n : ℕ) (hn : n = (dutOf (ck sm)).card * amtOf (ck sm))
    (hw : ∀ K : PUnit → sProp 𝕄, wpE (defs₀ (F := F)) 𝒱₀ (c : Thread nD τ) none Set.univ w K = waitSpec (c : Thread nD τ) Set.univ sm n K)
    {k : PUnit → Prog (TpuEff nD τ sig (Elt F) Λ₀ .tc) α} {O : CellTallies nD τ sig Unit} {Q : α → sProp 𝕄} :
    iprop(cellInv ER (Rd v) κ₁ ((c : Thread nD τ), sm) ∗ cred (tallyAt ((c : Thread nD τ), sm) () n) ∗ Ow c O
        ∗ MayWait (c : Thread nD τ) sm () O ∗ atPos ER ((c : Thread nD τ), sm) 0 ∅ 0)
      ⊢ iprop(((Ow c O ∗ semVal ((c : Thread nD τ), sm) 0 ∗ bigSep (dutOf (ck sm)) (payOf v c (ck sm)))
            -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  unfold Ow
  iintro ⟨#HI, Hc, ⟨%W, HO⟩, Hm, Ha⟩ Hk
  iapply (Rounds.wp_wait_rest_token 𝒱₀ ER (Rd v) (c : Thread nD τ) none (κ := κ₁) (sm := sm) hw (Set.mem_univ _) () (O := O) (W := W) (R := 0) (m := 0) (T := ∅)
    (k := k) (by rw [Nat.zero_add, expect_of]; exact hn)) $$ [Hc HO Hm Ha]
  · isplitr; · iexact HI
    isplitl [Hc]; · iexact Hc
    isplitl [HO]; · iexact HO
    isplitl [Hm]; · iexact Hm
    iexact Ha
  iintro ⟨HO, Ha, -, Hp⟩
  imod (Rounds.cell_close ER (Rd v) (Set.mem_univ κ₁) id (duties_later v _)) $$ [Ha] with Hs
  · isplitr; · iexact HI
    iexact Ha
  iapply Hk
  isplitl [HO]; · iexists _; iexact HO
  isplitl [Hs]; · iexact Hs
  rw [← rest_of]; iexact Hp

/-- A copy into a peer's memref. -/
theorem sd {κ₁ κ₂ : ℕ} {n p : Dev nD} (hn : n = p) {sp sp' : Space} {s : Shape} {e : EltTy} {src : Memref sig .tc sp s e} {dst : Memref sig .tc sp' s e}
    {hsc : dst.view.ref.isScScratch = false} (sS sR : DmaSem sig) {sS' sR' : DmaSem sig} (hS : sS' = sS) (hR : sR' = sR)
    {hsrc : src.view.WordExact} {hdst : dst.view.WordExact} {hsem : DmaTarget.Typed sp (.dma sR') (.remote (Dev.tc n) dst (.dma sS') hsc)}
    {k : PUnit → Prog (TpuEff nD τ sig (Elt F) Λ₀ .tc) α} (q : PosShare TreeShare)
    (fs : Buf (Elt F) (src.view.loc (c : Thread nD τ))) (fd : Buf (Elt F) (dst.view.loc (p : Thread nD τ)))
    (N : ℕ) (hN : dst.view.amount (.dma sR) = N) (hd₁ : 0 ∈ dutOf (ck (.dma sS))) (hd₂ : 0 ∈ dutOf (ck (.dma sR)))
    (ha₁ : amtOf (ck (.dma sS)) = N) (ha₂ : amtOf (ck (.dma sR)) = N) (O : CellTallies nD τ sig Unit)
    (hp₁ : (src.view.loc (c : Thread nD τ) ↦[src.view.set]{q} fs) ⊢ (payOf v c (ck (.dma sS)) 0 : sProp 𝕄))
    (hp₂ : (dst.view.loc (p : Thread nD τ) ↦[dst.view.set]{fullShare} (dst.view.write (Elt F) fd (src.view.read (Elt F) fs) Finset.univ))
      ⊢ (payOf v p (ck (.dma sR)) 0 : sProp 𝕄)) {Q : α → sProp 𝕄} :
    iprop(cellInv ER (Rd v) κ₁ ((c : Thread nD τ), .dma sS) ∗ cellInv ER (Rd v) κ₂ ((p : Thread nD τ), .dma sR)
        ∗ (src.view.loc (c : Thread nD τ) ↦[src.view.set]{q} fs) ∗ (dst.view.loc (p : Thread nD τ) ↦[dst.view.set]{fullShare} fd)
        ∗ Ow c (O + tallyAt ((p : Thread nD τ), .dma sR) () N)
        ∗ dutyTok ER ((c : Thread nD τ), .dma sS) 0 0 ∗ reached ER ((c : Thread nD τ), .dma sS) 0
        ∗ dutyTok ER ((p : Thread nD τ), .dma sR) 0 0 ∗ reached ER ((p : Thread nD τ), .dma sR) 0)
      ⊢ iprop(((cred (tallyAt ((c : Thread nD τ), .dma sS) () N) ∗ Ow c O)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n) dst (.dma sS') hsc) (.dma sR') hsrc hdst hsem) k) Q) := by
  subst hn hS hR
  unfold Ow
  iintro ⟨HI, HI', Hs, Hd, ⟨%W, HO⟩, Ht, Hr, Ht', Hr'⟩ Hk
  iapply (Rounds.wp_send_pointsTo 𝒱₀ ER (Rd v) (c : Thread nD τ) none (c' := (n : Thread nD τ)) (src := src) (dst := dst) (sS := .dma sS') (sem := .dma sR')
    (q := q) (fs := fs) (κ₁ := κ₁) (κ₂ := κ₂) (r₁ := 0) (r₂ := 0) (d₁ := 0) (d₂ := 0) (fd := fd) (k := k)
    (by rw [duties_of]; exact hd₁) (by rw [duties_of]; exact hd₂) () () N hN ((amount_of v _ _ _).trans ha₁) ((amount_of v _ _ _).trans ha₂) O rfl (W := W) hp₁ hp₂)
    $$ [HI HI' Hs Hd HO Ht Hr Ht' Hr']
  · isplitl [HI]; · iexact HI
    isplitl [HI']; · iexact HI'
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists _; iexact HO

end Proto

end Cert.KernelIdeal.Hand

end
-- ==== Proof.Attn.lean ====
/-
  Call 2's contents, as functions of what its windows hold: the attention of each head, the projected chunks, the gathered rows; and
  the run of the attention block, which fills the scratch of heads.
-/
module

public import proofs.«01_k».proof.Proof.Ops

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head head_not_mem_rangeSet rangeSet_empty rangeSet_last last_not_mem_rangeSet rangeSet_univ)

variable {F : FTy → Type} [FloatOps F]

local notation "𝕄" => MT nD τ sig Unit (Elt F) ℕ UU ℕ

/-! ## A head's attention -/

theorem inbH (h : Fin 32) : ∀ a, (![0, 128 * h.val] : Fin 2 → Nat) a + S256x128.size a ≤ S256x4096.size a := by
  revert h; decide
theorem slicesH (h : Fin 32) : S256x2048.Slices ![0, 64 * h.val] S256x64 := by
  revert h; decide
theorem inbK (k : Fin 8) : ∀ a, (![0, 512 * k.val] : Fin 2 → Nat) a + S256x512.size a ≤ S256x4096.size a := by
  revert k; decide

/-- The columns of head h. -/
def colsH (x : FVec F S256x4096 .bf16) (h : Fin 32) : FVec F S256x128 .bf16 :=
  fun i => x ((Rect.unit (s := S256x4096) ![0, 128 * h.val] S256x128.size (inbH h)).toLoadRect.idx i)

/-- The attention of one head: its query columns, its rotary query columns, key, rotary key and value columns. -/
def attn1 (q : FVec F S256x128 .bf16) (qr : FVec F S256x64 .bf16) (k : FVec F S256x128 .bf16) (kr : FVec F S256x64 .bf16)
    (v : FVec F S256x128 .bf16) : FVec F S256x128 .bf16 :=
  let a : FVec F S256x192 .bf16 := concatenate S256x192 1 [⟨S256x128, shapeCast S256x128 q shapeCasts_S256x128_S256x128⟩, ⟨S256x64, qr⟩] concatenates_S256x128_S256x64_S256x192_d1
  let b : FVec F S256x192 .bf16 := concatenate S256x192 1 [⟨S256x128, shapeCast S256x128 k shapeCasts_S256x128_S256x128⟩, ⟨S256x64, kr⟩] concatenates_S256x128_S256x64_S256x192_d1
  let s : FVec F S256x256 .f32 := matmul dot_S256x192_S256x192_S256x256_1_1_0_0_n_n none a b (constant S256x256 .f32 0x00000000#32)
  let mx : FVec F S256x1 .f32 := shapeCast S256x1 (multiReduction .maximumf [1] S256 s 0xFF800000#32 reduces_S256x256_S256 (.inl rfl) rfl) shapeCasts_S256_S256x1
  let p : FVec F S256x256 .f32 := exp (subf s (broadcastTo S256x256 mx broadcasts_S256x1_S256x256))
  let dn : FVec F S256x1 .f32 := shapeCast S256x1 (multiReduction .add [1] S256 p 0x00000000#32 reduces_S256x256_S256 (.inl rfl) rfl) shapeCasts_S256_S256x1
  let w : FVec F S256x256 .bf16 := truncf .bf16 (divf p (broadcastTo S256x256 dn broadcasts_S256x1_S256x256)) bitsLt_bf16_f32
  let o : FVec F S256x128 .f32 := matmul dot_S256x256_S256x128_S256x128_1_0_0_1_n_n none w (shapeCast S256x128 v shapeCasts_S256x128_S256x128) (constant S256x128 .f32 0x00000000#32)
  shapeCast S256x128 (truncf .bf16 o bitsLt_bf16_f32) shapeCasts_S256x128_S256x128

/-- Head h of the attention. -/
def headO (q k v : FVec F S256x4096 .bf16) (qr : FVec F S256x2048 .bf16) (kr : FVec F S256x64 .bf16) (h : Fin 32) : FVec F S256x128 .bf16 :=
  attn1 (colsH q h) (extractStridedSlice S256x64 ![0, 64 * h.val] (shapeCast S256x2048 qr shapeCasts_S256x2048_S256x2048) (slicesH h))
    (colsH k h) (shapeCast S256x64 kr shapeCasts_S256x64_S256x64) (colsH v h)

/-- The heads side by side. -/
def attO (q k v : FVec F S256x4096 .bf16) (qr : FVec F S256x2048 .bf16) (kr : FVec F S256x64 .bf16) : FVec F S256x4096 .bf16 := fun j =>
  headO q k v qr kr ⟨(j 1).val / 128, by have : (j 1).val < 4096 := (j 1).isLt; omega⟩
    (Shape.pair (d := ![256, 128]) (j 0) ⟨(j 1).val % 128, Nat.mod_lt _ (by decide)⟩)

/-- The first n heads are in place. -/
def UpTo (O : FVec F S256x4096 .bf16) (n : ℕ) (f : FVec F S256x4096 .bf16) : Prop :=
  ∀ j : S256x4096.Idx, (j 1).val < 128 * n → f j = O j

theorem upTo_zero (O f : FVec F S256x4096 .bf16) : UpTo O 0 f := fun j h => absurd h (by omega)
theorem upTo_all {O f : FVec F S256x4096 .bf16} (h : UpTo O 32 f) : f = O :=
  funext fun j => h j (by have : (j 1).val < 4096 := (j 1).isLt; omega)

variable (q k v : FVec F S256x4096 .bf16) (qr : FVec F S256x2048 .bf16) (kr : FVec F S256x64 .bf16)

theorem upTo_step (h : Fin 32) (off : Fin 2 → ℕ) (ho : off = ![0, 128 * h.val]) (inb : ∀ a, off a + S256x128.size a ≤ S256x4096.size a)
    {f : FVec F S256x4096 .bf16} (hf : UpTo (attO q k v qr kr) h.val f) :
    UpTo (attO q k v qr kr) (h.val + 1) ((Rect.unit (s := S256x4096) off S256x128.size inb).overlay f (headO q k v qr kr h)) := by
  subst ho
  intro j hj
  by_cases hlt : (j 1).val < 128 * h.val
  · rw [Rect.overlay_of_not_mem _ _ _ (Rect.not_mem_set_of_axis _ j 1 (128 * h.val) 128 rfl rfl rfl (.inl hlt))]
    exact hf j hlt
  · have e : (Rect.unit (s := S256x4096) ![0, 128 * h.val] S256x128.size inb).emb
        (Shape.pair (d := ![256, 128]) (j 0) ⟨(j 1).val - 128 * h.val, by show _ < 128; omega⟩) = j :=
      Rect.emb_eq_of_coords _ _ _ fun a => by
        match a with
        | 0 => show (j 0).val = 0 + 1 * (j 0).val; omega
        | 1 => show (j 1).val = 128 * h.val + 1 * ((j 1).val - 128 * h.val); omega
    conv_lhs => rw [← e]
    rw [Rect.overlay_emb]
    have e1 : (⟨(j 1).val / 128, by have : (j 1).val < 4096 := (j 1).isLt; omega⟩ : Fin 32) = h := Fin.ext (by show (j 1).val / 128 = h.val; omega)
    have e2 : (⟨(j 1).val % 128, Nat.mod_lt _ (by decide)⟩ : Fin 128) = ⟨(j 1).val - 128 * h.val, by omega⟩ := Fin.ext (by show (j 1).val % 128 = (j 1).val - 128 * h.val; omega)
    unfold attO
    rw [e1]; exact congrArg (fun x => headO q k v qr kr h (Shape.pair (d := ![256, 128]) (j 0) x)) e2.symm

/-! ## The run of a head -/

variable {c : Dev nD} {α : Type}

/-- What the attention block holds: the query, key and value windows, and the scratch with its first n heads in place. -/
def HS (c : Dev nD) (a1 a2 a3 a8 : Memref sig .tc .vmem S256x4096 .bf16) (n : ℕ) : sProp 𝕄 :=
  iprop(owns (c : Thread nD τ) a1 fullShare q ∗ owns (c : Thread nD τ) a2 fullShare k ∗ owns (c : Thread nD τ) a3 fullShare v
    ∗ ∃ f, ⌜UpTo (attO q k v qr kr) n f⌝ ∗ owns (c : Thread nD τ) a8 fullShare f)

set_option maxHeartbeats 400000 in
theorem hd_step (h : Fin 32) (n : ℕ) (hn : h.val = n) {a1 a2 a3 a8 : Memref sig .tc .vmem S256x4096 .bf16} {off : Fin 2 → ℕ}
    {inb : ∀ a, off a + S256x128.size a ≤ S256x4096.size a} (ho : off = ![0, 128 * h.val])
    {hl1 : a1.view.LoadsAt (Rect.unit (s := S256x4096) off S256x128.size inb).toLoadRect} {hl2 : a2.view.LoadsAt (Rect.unit (s := S256x4096) off S256x128.size inb).toLoadRect}
    {hl3 : a3.view.LoadsAt (Rect.unit (s := S256x4096) off S256x128.size inb).toLoadRect} {hl8 : a8.view.LoadsAt (Rect.unit (s := S256x4096) off S256x128.size inb).toLoadRect}
    {hx : (a8.access (Rect.unit (s := S256x4096) off S256x128.size inb)).Stores Finset.univ}
    {hm : (Finset.univ : Finset S256x128.Idx) = Finset.univ ∨ ∀ a, (Rect.unit (s := S256x4096) off S256x128.size inb).stride a = 1}
    {p : FVec F S256x128 .bf16 → FVec F S256x128 .bf16 → FVec F S256x128 .bf16 → FVec F S256x128 .bf16}
    {kk : PUnit → Prog (TpuEff nD τ sig (Elt F) Λ₀ .tc) α} {Q : α → sProp 𝕄}
    (hp : p (colsH q h) (colsH k h) (colsH v h) = headO q k v qr kr h) :
    HS q k v qr kr c a1 a2 a3 a8 n
      ⊢ iprop((HS q k v qr kr c a1 a2 a3 a8 (n + 1) -∗ wp frame (wpE (defs₀ (F := F)) 𝒱₀ (c : Thread nD τ) none) Set.univ (kk ⟨⟩) Q)
        -∗ wp frame (wpE (defs₀ (F := F)) 𝒱₀ (c : Thread nD τ) none) Set.univ
          (.op (.load (e := .bf16) a1 (Rect.unit (s := S256x4096) off S256x128.size inb).toLoadRect hl1) fun (v1 : Vec F S256x128 .bf16) =>
            .op (.load (e := .bf16) a2 (Rect.unit (s := S256x4096) off S256x128.size inb).toLoadRect hl2) fun (v2 : Vec F S256x128 .bf16) =>
            .op (.load (e := .bf16) a3 (Rect.unit (s := S256x4096) off S256x128.size inb).toLoadRect hl3) fun (v3 : Vec F S256x128 .bf16) =>
            .op (.load (e := .bf16) a8 (Rect.unit (s := S256x4096) off S256x128.size inb).toLoadRect hl8) fun (_ : Vec F S256x128 .bf16) =>
            .op (.store a8 (Rect.unit (s := S256x4096) off S256x128.size inb) (p v1 v2 v3) Finset.univ hx hm) kk) Q) := by
  subst ho hn
  unfold HS
  iintro ⟨H1, H2, H3, ⟨%f, %hf, H8⟩⟩ Hk
  iapply (ld (hl := hl1)) $$ H1; iintro H1
  iapply (ld (hl := hl2)) $$ H2; iintro H2
  iapply (ld (hl := hl3)) $$ H3; iintro H3
  iapply (ld (hl := hl8)) $$ H8; iintro H8
  iapply (st (hx := hx) (hm := hm)) $$ H8; iintro H8
  iapply Hk
  isplitl [H1]; · iexact H1
  isplitl [H2]; · iexact H2
  isplitl [H3]; · iexact H3
  iexists _
  isplitr
  · ipureintro; exact upTo_step q k v qr kr h _ rfl inb hf
  rw [← hp]; iexact H8

end Cert.KernelIdeal.Hand

end
-- ==== Proof.Pieces.lean ====
/-
  Operations on parts of a whole buffer, the chunks of the gathering buffer, and the cells' invariants.
-/
module

public import proofs.«01_k».proof.Proof.Attn

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head head_not_mem_rangeSet rangeSet_empty rangeSet_last last_not_mem_rangeSet rangeSet_univ)

variable {F : FTy → Type} [FloatOps F]

local notation "𝕄" => MT nD τ sig Unit (Elt F) ℕ UU ℕ

theorem bindI {A B : Type} {c : Dev nD} {P : sProp 𝕄} {p : Prog (TpuEff nD τ sig (Elt F) Λ₀ .tc) A} {f : A → Prog (TpuEff nD τ sig (Elt F) Λ₀ .tc) B}
    {Q' : A → sProp 𝕄} {Q : B → sProp 𝕄} (h : P ⊢ wp frame (wpE (defs₀ (F := F)) 𝒱₀ (c : Thread nD τ) none) Set.univ p Q')
    (h' : ∀ x, Q' x ⊢ wp frame (wpE (defs₀ (F := F)) 𝒱₀ (c : Thread nD τ) none) Set.univ (f x) Q) :
    P ⊢ wp frame (wpE (defs₀ (F := F)) 𝒱₀ (c : Thread nD τ) none) Set.univ (p >>= f) Q := by
  rw [wp_bind]; exact h.trans (wp_mono _ _ _ h')

theorem bigSep_weaken {I : Type} {s : Finset I} {Φ Ψ : I → sProp 𝕄} (h : ∀ i, Φ i ⊢ Ψ i) : bigSep s Φ ⊢ bigSep s Ψ := BI.bigSep_mono fun i _ => h i
theorem bigSep_swap {A B : Type} [Fintype A] [Fintype B] (Φ : A → B → sProp 𝕄) :
    (bigSep Finset.univ (fun a => bigSep Finset.univ (fun b => Φ a b)) : sProp 𝕄) = bigSep Finset.univ (fun b => bigSep Finset.univ (fun a => Φ a b)) :=
  BI.bigSep_univ_comm Φ

/-! ## Loads, stores and copies of parts of a whole buffer -/

section Parts

variable {c : Dev nD} {α : Type}

/-- A load of a memref at a share of elements that include those read. -/
theorem ldM {s : Shape} {e : EltTy} {cs : CoreSpace} {m : Memref sig .tc cs s e} {r : LoadRect s} {hl : m.view.LoadsAt r}
    {k : (r.shape.Idx → Elt F e) → Prog (TpuEff nD τ sig (Elt F) Λ₀ .tc) α} {S : Finset (Idx (m.view.loc (c : Thread nD τ)))} (hS : m.view.setOn r.set ⊆ S)
    {q : PosShare TreeShare} {f : Buf (Elt F) (m.view.loc (c : Thread nD τ))} {X : r.shape.Idx → Elt F e} (hX : ∀ i, m.view.readAt (Elt F) r f i = X i) {Q : α → sProp 𝕄} :
    (m.view.loc (c : Thread nD τ) ↦[S]{q} f : sProp 𝕄)
      ⊢ iprop(((m.view.loc (c : Thread nD τ) ↦[S]{q} f) -∗ wp frame (wpE (defs₀ (F := F)) 𝒱₀ (c : Thread nD τ) none) Set.univ (k X) Q)
        -∗ wp frame (wpE (defs₀ (F := F)) 𝒱₀ (c : Thread nD τ) none) Set.univ (.op (.load m r hl) k) Q) := by
  rw [← show m.view.readAt (Elt F) r f = X from funext hX]
  exact wp_load 𝒱₀ (c : Thread nD τ) none Set.univ (hl := hl) (k := k) hS

/-- A store of contents that are `g`'s, at the elements written. -/
theorem stM {s : Shape} {e : EltTy} {cs : CoreSpace} {m : Memref sig .tc cs s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} {S : Finset (Idx ((m.access r).loc (c : Thread nD τ)))} (hS : (m.access r).set = S)
    {f : Buf (Elt F) ((m.access r).loc (c : Thread nD τ))} (g : Buf (Elt F) ((m.access r).loc (c : Thread nD τ)))
    (hg : ∀ x, _root_.cast (congrArg (Elt F) (m.access r).elt_eq.symm) (w x) = g ((m.access r).emb x)) {Q : α → sProp 𝕄} :
    ((m.access r).loc (c : Thread nD τ) ↦[S]{fullShare} f : sProp 𝕄)
      ⊢ iprop((((m.access r).loc (c : Thread nD τ) ↦[S]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  rw [show ((m.access r).loc (c : Thread nD τ) ↦[S]{fullShare} g : sProp 𝕄)
      = ((m.access r).loc (c : Thread nD τ) ↦[S]{fullShare} ((m.access r).write (Elt F) f w Finset.univ)) from
    pointsTo_congr fun i hi => by
      rw [← hS] at hi
      obtain ⟨x, -, rfl⟩ := Finset.mem_map.mp hi
      exact (hg x).symm.trans (View.write_emb_of_mem _ _ (Finset.mem_univ x)).symm]
  exact wp_store 𝒱₀ (c : Thread nD τ) none Set.univ (hx := hx) (hm := hm) (k := k) (by rw [View.setOn_univ, hS])

/-! ### The gathering buffer -/

theorem ldG {r : LoadRect S4x256x4096} {hl : (Memref.whole bG).view.LoadsAt r}
    {k : (r.shape.Idx → Elt F .bf16) → Prog (TpuEff nD τ sig (Elt F) Λ₀ .tc) α} {S : Finset S4x256x4096.Idx} (hS : r.set ⊆ S)
    {q : PosShare TreeShare} {f : S4x256x4096.Idx → Elt F .bf16} {Q : α → sProp 𝕄} :
    (pc c bG S q f : sProp 𝕄)
      ⊢ iprop((pc c bG S q f -∗ wp frame (wpE (defs₀ (F := F)) 𝒱₀ (c : Thread nD τ) none) Set.univ (k fun i => f (r.idx i)) Q)
        -∗ wp frame (wpE (defs₀ (F := F)) 𝒱₀ (c : Thread nD τ) none) Set.univ (.op (.load (cs := .vmem) (e := .bf16) (Memref.whole bG) r hl) k) Q) :=
  ldM (m := Memref.whole bG) (r := r) (hl := hl) (k := k) (S := S)
    (by intro x hx; obtain ⟨y, hy, rfl⟩ := Finset.mem_map.mp hx; exact hS hy) (f := f) (fun i => rfl)

theorem stG {r : Rect S4x256x4096} {w : r.shape.Idx → Elt F .bf16} {hx : ((Memref.whole bG).access r).Stores Finset.univ}
    {hm : (Finset.univ : Finset r.shape.Idx) = Finset.univ ∨ ∀ a, r.stride a = 1}
    {k : PUnit → Prog (TpuEff nD τ sig (Elt F) Λ₀ .tc) α} {S : Finset S4x256x4096.Idx} (hS : r.set = S)
    {f : S4x256x4096.Idx → Elt F .bf16} (g : S4x256x4096.Idx → Elt F .bf16) (hg : ∀ x, w x = g (r.emb x)) {Q : α → sProp 𝕄} :
    (pc c bG S fullShare f : sProp 𝕄)
      ⊢ iprop((pc c bG S fullShare g -∗ wp frame (wpE (defs₀ (F := F)) 𝒱₀ (c : Thread nD τ) none) Set.univ (k ⟨⟩) Q)
        -∗ wp frame (wpE (defs₀ (F := F)) 𝒱₀ (c : Thread nD τ) none) Set.univ
          (.op (.store (cs := .vmem) (e := .bf16) (Memref.whole bG) r w Finset.univ hx hm) k) Q) :=
  stM (m := Memref.whole bG) (r := r) (hx := hx) (hm := hm) (k := k) (S := S) (by rw [← hS]; exact View.set_slice_whole bG r) (f := f) g hg

/-- Chunk k of row g, as the copies name it. -/
theorem chunk_set {off : Fin 3 → ℕ} {inb : ∀ a, off a + S1x256x512.size a ≤ S4x256x4096.size a} (g k : ℕ) (ho : off = ![g, 0, 512 * k]) :
    (Rect.unit (s := S4x256x4096) off S1x256x512.size inb).set = chG g k := by
  subst ho
  ext i
  rw [Rect.mem_set_unit, mem_chG]
  have h1 : (i 1).val < 256 := (i 1).isLt
  constructor
  · intro h
    have h0 := h 0; have h2 := h 2
    change g ≤ (i 0).val ∧ (i 0).val < g + 1 at h0
    change 512 * k ≤ (i 2).val ∧ (i 2).val < 512 * k + 512 at h2
    omega
  · rintro ⟨h0, h2, h3⟩ a
    match a with
    | 0 => show g ≤ (i 0).val ∧ (i 0).val < g + 1; omega
    | 1 => show 0 ≤ (i 1).val ∧ (i 1).val < 0 + 256; omega
    | 2 => show 512 * k ≤ (i 2).val ∧ (i 2).val < 512 * k + 512; omega
theorem row_set {off : Fin 3 → ℕ} {inb : ∀ a, off a + S1x256x4096.size a ≤ S4x256x4096.size a} (g : ℕ) (ho : off = ![g, 0, 0]) :
    (Rect.unit (s := S4x256x4096) off S1x256x4096.size inb).set = rowG g := by
  subst ho
  ext i
  rw [Rect.mem_set_unit, mem_rowG]
  have h1 : (i 1).val < 256 := (i 1).isLt
  have h2 : (i 2).val < 4096 := (i 2).isLt
  constructor
  · intro h
    have h0 := h 0
    change g ≤ (i 0).val ∧ (i 0).val < g + 1 at h0
    omega
  · rintro h0 a
    match a with
    | 0 => show g ≤ (i 0).val ∧ (i 0).val < g + 1; omega
    | 1 => show 0 ≤ (i 1).val ∧ (i 1).val < 0 + 256; omega
    | 2 => show 0 ≤ (i 2).val ∧ (i 2).val < 0 + 4096; omega

theorem own_off (c : Dev nD) : 2 * ((c.val / 2) % 2) + c.val % 2 = gr c := by revert c; decide
theorem off15_pe (c : Dev nD) : k2_off15 c = ![gr (pe 0 c), 0, 0] := by revert c; decide +kernel
theorem off16_pe (c : Dev nD) : k2_off16 c = ![gr (pe 1 c), 0, 0] := by revert c; decide +kernel
theorem off17_pe (c : Dev nD) : k2_off17 c = ![gr (pe 2 c), 0, 0] := by revert c; decide +kernel
theorem off6_gr (c : Dev nD) : k2_off6 c = ![gr c, 0, 0] := by revert c; decide +kernel
theorem off1_gr (i : grid2.Coords) (c : Dev nD) : k2_off1 i c = ![gr c, 0, 512 * (i 0).val] := by rw [k2_off1_eq, own_off]
theorem off3_gr (i : grid2.Coords) (c : Dev nD) : k2_off3 i c = ![gr c, 0, 512 * (i 0).val] := by rw [k2_off3_eq, own_off]

/-! ### The pieces of the gathering buffer -/

/-- A row's chunks. -/
theorem row_eq (c : Dev nD) (g : ℕ) (q : PosShare TreeShare) (f : S4x256x4096.Idx → Elt F .bf16) :
    (pc c bG (rowG g) q f : sProp 𝕄) = bigSep Finset.univ fun k : Fin 8 => pc c bG (chG g k.val) q f := by
  rw [show rowG g = (Finset.univ : Finset (Fin 8)).biUnion fun k => chG g k.val from by
    ext i
    have h2 : (i 2).val < 4096 := (i 2).isLt
    simp only [Finset.mem_biUnion, Finset.mem_univ, true_and, mem_rowG, mem_chG]
    constructor
    · intro h; exact ⟨⟨(i 2).val / 512, by omega⟩, h, by show 512 * ((i 2).val / 512) ≤ _; omega, by show _ < 512 * ((i 2).val / 512) + 512; omega⟩
    · rintro ⟨k, h, -⟩; exact h]
  exact pointsTo_biUnion (ℓ := (c : Thread nD τ).loc bG) Finset.univ (fun k : Fin 8 => chG g k.val) fun k _ k' _ hk => Finset.disjoint_left.mpr fun i hi hi' => by
    rw [mem_chG] at hi hi'
    exact hk (Fin.ext (by omega))

/-- The row of a group: the device's own, or a peer's. -/
def rowOf (c : Dev nD) : Option (Fin 3) → ℕ
  | none => gr c
  | some i => gr (pe i c)
theorem rowOf_inj (c : Dev nD) (x y : Option (Fin 3)) (h : x ≠ y) : rowOf c x ≠ rowOf c y := by revert c x y; decide +kernel
theorem bigSep_opt (Φ : Option (Fin 3) → sProp 𝕄) : bigSep Finset.univ Φ = iprop(Φ none ∗ Φ (some 0) ∗ Φ (some 1) ∗ Φ (some 2)) :=
  bigSep_univ_eq_bigSepL [none, some 0, some 1, some 2] (by decide) (by decide) Φ

/-- The whole buffer's rows. -/
theorem gath_eq (c : Dev nD) (q : PosShare TreeShare) (f : S4x256x4096.Idx → Elt F .bf16) :
    (pc c bG Finset.univ q f : sProp 𝕄)
      = iprop(pc c bG (rowG (gr c)) q f ∗ pc c bG (rowG (gr (pe 0 c))) q f ∗ pc c bG (rowG (gr (pe 1 c))) q f ∗ pc c bG (rowG (gr (pe 2 c))) q f) := by
  refine Eq.trans ?_ (bigSep_opt (fun x => pc c bG (rowG (rowOf c x)) q f))
  rw [show (Finset.univ : Finset bG.ty.shape.Idx) = (Finset.univ : Finset (Option (Fin 3))).biUnion fun x => rowG (rowOf c x) from by
    ext i
    simp only [Finset.mem_biUnion, Finset.mem_univ, true_and, true_iff]
    rcases rows_cover c (i 0) with h | ⟨j, h⟩
    · exact ⟨none, mem_rowG.mpr h⟩
    · exact ⟨some j, mem_rowG.mpr h⟩]
  exact pointsTo_biUnion (ℓ := (c : Thread nD τ).loc bG) Finset.univ (fun x => rowG (rowOf c x)) fun k _ k' _ hk => Finset.disjoint_left.mpr fun i hi hi' => by
    rw [mem_rowG] at hi hi'
    exact rowOf_inj c k k' hk (hi.symm.trans hi')

/-- A chunk's four shares. -/
theorem shares_eq (c : Dev nD) (S : Finset S4x256x4096.Idx) (f : S4x256x4096.Idx → Elt F .bf16) :
    (pc c bG S fullShare f : sProp 𝕄) = iprop(pc c bG S (sq 0) f ∗ pc c bG S (sq 1) f ∗ pc c bG S (sq 2) f ∗ pc c bG S kq f) := by
  have h : ∀ q : PosShare TreeShare, (pc c bG S q f : sProp 𝕄) = iprop(pc c bG S q.left f ∗ pc c bG S q.right f) := fun q =>
    BI.Entails.antisymm (pointsTo_share (PosShare.mem_left_op_right q)).1 (pointsTo_share (PosShare.mem_left_op_right q)).2
  rw [h fullShare, h fullShare.left, h fullShare.right]
  exact BI.Entails.antisymm sep_assoc sep_assoc'

end Parts

/-! ## The cells' invariants -/

/-- The semaphores of one device, by use: the barriers; the copies' of call 1; the copies' of call 2. -/
abbrev IB : Type := Fin 2
abbrev I1 : Type := Fin 3 ⊕ Fin 3
abbrev I2 : Type := (Fin 3 × Fin 8) ⊕ (Fin 3 × Fin 8)
def semB : IB → SemLoc sig
  | 0 => .reg barrier0
  | 1 => .reg barrier1
def semI1 : I1 → SemLoc sig
  | .inl a => .dma (s1S a)
  | .inr a => .dma (r1S a)
def semI2 : I2 → SemLoc sig
  | .inl x => .dma (s2S x.1 x.2)
  | .inr x => .dma (r2S x.1 x.2)
def semS : I1 ⊕ I2 → SemLoc sig
  | .inl x => semI1 x
  | .inr x => semI2 x

theorem semB_inj : Function.Injective semB := by decide
theorem semI2_inj : Function.Injective semI2 := by
  have h : ∀ x, ck (semI2 x) = match x with
      | .inl x => .s2 x.1 x.2
      | .inr x => .r2 x.1 x.2 := by rintro (x | x); exacts [ck_s2 _ _, ck_r2 _ _]
  intro x y e
  have e' := congrArg ck e
  rw [h, h] at e'
  rcases x with ⟨a, b⟩ | ⟨a, b⟩ <;> rcases y with ⟨a', b'⟩ | ⟨a', b'⟩ <;> simp_all
theorem semI1_inj : Function.Injective semI1 := by
  have h : ∀ x, ck (semI1 x) = match x with
      | .inl x => .s1 x
      | .inr x => .r1 x := by rintro (x | x); exacts [ck_s1 _, ck_r1 _]
  intro x y e
  have e' := congrArg ck e
  rw [h, h] at e'
  rcases x with a | a <;> rcases y with a' | a' <;> simp_all
theorem semS_inj : Function.Injective semS := by
  have h1 : ∀ x, ck (semI1 x) = match x with
      | .inl x => .s1 x
      | .inr x => .r1 x := by rintro (x | x); exacts [ck_s1 _, ck_r1 _]
  have h2 : ∀ x, ck (semI2 x) = match x with
      | .inl x => .s2 x.1 x.2
      | .inr x => .r2 x.1 x.2 := by rintro (x | x); exacts [ck_s2 _ _, ck_r2 _ _]
  intro x y e
  rcases x with x | x <;> rcases y with y | y
  · exact congrArg _ (semI1_inj e)
  · exfalso; have e' := congrArg ck e
    change ck (semI1 x) = ck (semI2 y) at e'
    rw [h1, h2] at e'; rcases x with x | x <;> rcases y with y | y <;> cases e'
  · exfalso; have e' := congrArg ck e
    change ck (semI2 x) = ck (semI1 y) at e'
    rw [h1, h2] at e'; rcases x with x | x <;> rcases y with y | y <;> cases e'
  · exact congrArg _ (semI2_inj e)

def barOf (x : Dev nD × IB) : GSem nD τ sig := ((x.1 : Thread nD τ), semB x.2)
def scOf (x : Dev nD × (I1 ⊕ I2)) : GSem nD τ sig := ((x.1 : Thread nD τ), semS x.2)
theorem barOf_inj : Function.Injective barOf := fun x y e => by
  have h1 : x.1 = y.1 := congrArg (fun g : GSem nD τ sig => g.1.1) e
  have h2 : semB x.2 = semB y.2 := congrArg (fun g : GSem nD τ sig => g.2) e
  exact Prod.ext h1 (semB_inj h2)
theorem scOf_inj : Function.Injective scOf := fun x y e => by
  have h1 : x.1 = y.1 := congrArg (fun g : GSem nD τ sig => g.1.1) e
  have h2 : semS x.2 = semS y.2 := congrArg (fun g : GSem nD τ sig => g.2) e
  exact Prod.ext h1 (semS_inj h2)
/-- The cells live from launch; the cells asleep until their call. -/
def barCells : Finset (GSem nD τ sig) := Finset.univ.map ⟨barOf, barOf_inj⟩
def scCells : Finset (GSem nD τ sig) := Finset.univ.map ⟨scOf, scOf_inj⟩
theorem disjoint_cells : Disjoint barCells scCells := Finset.disjoint_left.mpr fun g h h' => by
  obtain ⟨x, -, rfl⟩ := Finset.mem_map.mp h
  obtain ⟨y, -, e⟩ := Finset.mem_map.mp h'
  have h2 : semS y.2 = semB x.2 := congrArg (fun g : GSem nD τ sig => g.2) e
  rcases y with ⟨y, (y | y) | (y | y)⟩ <;> rcases x with ⟨x, x⟩ <;> fin_cases x <;> cases h2

variable (v : Vals F)

/-- Every cell's invariant; the barriers' rounds are reached. -/
def Inv (κ : GSem nD τ sig → ℕ) : sProp 𝕄 :=
  iprop(bigSep (barCells ∪ scCells) (fun g => cellInv ER (Rd v) (κ g) g) ∗ bigSep barCells fun g => reached ER g 0)

instance Inv_persistent (κ : GSem nD τ sig → ℕ) : BI.Persistent (Inv v κ) := by unfold Inv; infer_instance

variable (κ : GSem nD τ sig → ℕ)

theorem inv_cell {g : GSem nD τ sig} (h : g ∈ barCells ∪ scCells) : Inv v κ ⊢ cellInv ER (Rd v) (κ g) g := by
  unfold Inv; exact sep_elim_left.trans (BI.bigSep_elim h)
theorem inv_bar0 (c : Dev nD) : Inv v κ ⊢ cellInv ER (Rd v) (κ (bar0 c)) (bar0 c) :=
  inv_cell v κ (Finset.mem_union_left _ (Finset.mem_map.mpr ⟨(c, 0), Finset.mem_univ _, rfl⟩))
theorem inv_bar1 (c : Dev nD) : Inv v κ ⊢ cellInv ER (Rd v) (κ (bar1 c)) (bar1 c) :=
  inv_cell v κ (Finset.mem_union_left _ (Finset.mem_map.mpr ⟨(c, 1), Finset.mem_univ _, rfl⟩))
theorem inv_s1 (c : Dev nD) (a : Fin 3) : Inv v κ ⊢ cellInv ER (Rd v) (κ (s1C c a)) (s1C c a) :=
  inv_cell v κ (Finset.mem_union_right _ (Finset.mem_map.mpr ⟨(c, .inl (.inl a)), Finset.mem_univ _, rfl⟩))
theorem inv_r1 (c : Dev nD) (a : Fin 3) : Inv v κ ⊢ cellInv ER (Rd v) (κ (r1C c a)) (r1C c a) :=
  inv_cell v κ (Finset.mem_union_right _ (Finset.mem_map.mpr ⟨(c, .inl (.inr a)), Finset.mem_univ _, rfl⟩))
theorem inv_s2 (c : Dev nD) (i : Fin 3) (k : Fin 8) : Inv v κ ⊢ cellInv ER (Rd v) (κ (s2C c i k)) (s2C c i k) :=
  inv_cell v κ (Finset.mem_union_right _ (Finset.mem_map.mpr ⟨(c, .inr (.inl (i, k))), Finset.mem_univ _, rfl⟩))
theorem inv_r2 (c : Dev nD) (i : Fin 3) (k : Fin 8) : Inv v κ ⊢ cellInv ER (Rd v) (κ (r2C c i k)) (r2C c i k) :=
  inv_cell v κ (Finset.mem_union_right _ (Finset.mem_map.mpr ⟨(c, .inr (.inr (i, k))), Finset.mem_univ _, rfl⟩))
theorem rch_bar0 (c : Dev nD) : Inv v κ ⊢ reached ER (bar0 c) 0 := by
  unfold Inv
  exact sep_elim_right.trans (BI.bigSep_elim (i := bar0 c) (Finset.mem_map.mpr ⟨(c, 0), Finset.mem_univ _, rfl⟩))
theorem rch_bar1 (c : Dev nD) : Inv v κ ⊢ reached ER (bar1 c) 0 := by
  unfold Inv
  exact sep_elim_right.trans (BI.bigSep_elim (i := bar1 c) (Finset.mem_map.mpr ⟨(c, 1), Finset.mem_univ _, rfl⟩))

/-! ## What a device may wait for -/

/-- Tallies all on a core's cells of levels above b. -/
def Above (b : ℕ) (O : CellTallies nD τ sig Unit) : Prop := ∀ g u, 0 < O g u → g.1.2 = .tc ∧ b < lvK (ck g.2)

theorem above_add {b : ℕ} {O O' : CellTallies nD τ sig Unit} (h : Above b O) (h' : Above b O') : Above b (O + O') := fun g u hg => by
  have : 0 < O g u + O' g u := hg
  rcases Nat.eq_zero_or_pos (O g u) with e | e
  · exact h' g u (by omega)
  · exact h g u e
theorem above_tally {b : ℕ} (c : Dev nD) (sm : SemLoc sig) (n : ℕ) (h : b < lvK (ck sm)) : Above b (tallyAt ((c : Thread nD τ), sm) () n) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem above_zero (b : ℕ) : Above b 0 := fun g u hg => absurd hg (Nat.lt_irrefl 0)
theorem above_mono {b b' : ℕ} {O : CellTallies nD τ sig Unit} (hb : b ≤ b') (h : Above b' O) : Above b O := fun g u hg =>
  ⟨(h g u hg).1, lt_of_le_of_lt hb (h g u hg).2⟩

theorem mayWait {b : ℕ} {O : CellTallies nD τ sig Unit} (h : Above b O) (c : Dev nD) (sm : SemLoc sig) (hs : lvK (ck sm) ≤ b) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

theorem above_oweK (c : Dev nD) (k : Fin 8) : Above 3 (oweK c k) := by
  unfold oweK
  refine above_add (above_add ?_ ?_) ?_ <;> exact above_tally _ _ _ (by rw [ck_r2]; exact (by decide : 3 < 4))
theorem above_oweF (c : Dev nD) (t : ℕ) : Above 3 (oweF c t) := by
  unfold oweF
  induction (rangeSet 8 t 8) using Finset.induction_on with
  | empty => rw [Finset.sum_empty]; exact above_zero 3
  | insert a s ha ih => rw [Finset.sum_insert ha]; exact above_add (above_oweK c a) ih
theorem above_owe2 (c : Dev nD) : Above 2 (owe2 c) := by
  unfold owe2
  refine above_add (above_add (above_add (above_mono (by decide) (above_oweF c 0)) ?_) ?_) ?_ <;> exact above_tally _ _ _ (by rw [ck_b1]; decide)
theorem above_owe1r (c : Dev nD) : Above 1 (owe1r c) := by
  unfold owe1r
  refine above_add (above_add ?_ ?_) ?_ <;> exact above_tally _ _ _ (by rw [ck_r1]; exact (by decide : 1 < 2))
theorem above_owe1 (c : Dev nD) : Above 0 (owe1 c) := by
  unfold owe1
  exact above_add (above_mono (by decide) (above_owe1r c)) (above_tally _ _ _ (by rw [ck_b0]; decide))

end Cert.KernelIdeal.Hand

end
-- ==== Proof.Call2A.lean ====
/-
  Call 2: what its points hold, the barrier and the attention block.
-/
module

public import proofs.«01_k».proof.Proof.Pieces

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (v : Vals F) (κ : GSem nD τ sig → ℕ)

/-! ## What the points hold -/

/-- The duties of chunk k's copies. -/
def Tok2 (c : Dev nD) (k : Fin 8) : sProp 𝕄 :=
  bigSep Finset.univ fun i : Fin 3 => iprop(dutyTok ER (s2C c i k) 0 0 ∗ dutyTok ER (r2C (pe i c) i k) 0 0 ∗ reached ER (s2C c i k) 0)
/-- Chunk k before it is sent: the device's own, the peers' that it will write, and the copies' duties. -/
def PendK (c : Dev nD) (k : Fin 8) : sProp 𝕄 :=
  iprop(pcAny c bG (chG (gr c) k.val)
    ∗ bigSep Finset.univ (fun i : Fin 3 => iprop(pcAny (pe i c) bG (chG (gr c) k.val) ∗ reached ER (r2C (pe i c) i k) 0))
    ∗ Tok2 c k)
/-- Chunk k sent: the share kept, and the credits of the sending cells. -/
def DoneK (c : Dev nD) (k : Fin 8) : sProp 𝕄 :=
  iprop(pc c bG (chG (gr c) k.val) kq (v.gF c) ∗ bigSep Finset.univ fun i : Fin 3 => cred (tallyAt (s2C c i k) () n2))
/-- Before the first point: the barrier's duties, the cells reached, and the whole buffer. -/
def St2 (c : Dev nD) : sProp 𝕄 :=
  iprop(atPos ER (bar1 c) 0 ∅ 0 ∗ cred (tallyAt (bar1 c) () 3)
    ∗ bigSep Finset.univ (fun i : Fin 3 => dutyTok ER (bar1 (pe i c)) 0 i)
    ∗ bigSep Finset.univ (fun i : Fin 3 => bigSep Finset.univ fun k : Fin 8 => reached ER (r2C c i k) 0)
    ∗ bigSep Finset.univ (fun k : Fin 8 => Tok2 c k)
    ∗ pcAny c bG Finset.univ)
/-- The chunks at point t. -/
def M2 (c : Dev nD) (t : ℕ) : sProp 𝕄 :=
  iprop(bigSep (rangeSet 8 t 8) (PendK (F := F) c) ∗ bigSep (rangeSet 8 0 t) (DoneK v c))

/-- What a device pays its i-th peer's barrier. -/
theorem mkpay (c : Dev nD) (i : Fin 3) (f : S4x256x4096.Idx → Elt F .bf16) :
    iprop(pc c bG (rowG (gr (pe i c))) fullShare f ∗ bigSep Finset.univ fun k : Fin 8 => reached ER (r2C c i k) 0)
      ⊢ (payOf v (pe i c) (ck (.reg barrier1)) i : sProp 𝕄) := by
  rw [ck_b1, row_eq]
  show _ ⊢ pay1 (pe i c) i
  unfold pay1
  rw [pe_pe, ← bigSep_sep']
  have h : ∀ k : Fin 8, iprop(pc c bG (chG (gr (pe i c)) k.val) fullShare f ∗ reached ER (r2C c i k) 0)
      ⊢ (iprop(pcAny c bG (chG (gr (pe i c)) k.val) ∗ reached ER (r2C c i k) 0) : sProp 𝕄) := fun k => by
    iintro ⟨H, Hr⟩
    isplitl [H]; · iexists f; iexact H
    iexact Hr
  exact bigSep_weaken h

theorem pcAny_intro (c : Dev nD) (S : Finset S4x256x4096.Idx) (f : S4x256x4096.Idx → Elt F .bf16) : (pc c bG S fullShare f : sProp 𝕄) ⊢ pcAny c bG S := by
  iintro H; iexists f; iexact H
/-- What the barrier's wait brings, chunk by chunk. -/
theorem pay_b1 (c : Dev nD) : (bigSep (dutOf (ck (.reg barrier1))) (payOf v c (ck (.reg barrier1))) : sProp 𝕄)
    = bigSep Finset.univ fun k : Fin 8 => bigSep Finset.univ fun i : Fin 3 =>
        iprop(pcAny (pe i c) bG (chG (gr c) k.val) ∗ reached ER (r2C (pe i c) i k) 0) := by
  rw [ck_b1]; exact bigSep_swap (A := Fin 3) (B := Fin 8) fun i k => iprop(pcAny (pe i c) bG (chG (gr c) k.val) ∗ reached ER (r2C (pe i c) i k) 0)
theorem PendK_eq (c : Dev nD) : (bigSep Finset.univ (PendK (F := F) c) : sProp 𝕄)
    = iprop(bigSep Finset.univ (fun k : Fin 8 => pcAny c bG (chG (gr c) k.val))
      ∗ bigSep Finset.univ (fun k : Fin 8 => bigSep Finset.univ (fun i : Fin 3 => iprop(pcAny (pe i c) bG (chG (gr c) k.val) ∗ reached ER (r2C (pe i c) i k) 0)))
      ∗ bigSep Finset.univ (Tok2 (F := F) c)) := by
  rw [← bigSep_sep', ← bigSep_sep']; rfl

variable {c : Dev nD} {α : Type}

set_option maxHeartbeats 1000000 in
/-- The barrier of call 2: every peer's chunks of this device's row come. -/
theorem barrier2 {n0 n1 n2 : Dev nD} (h0 : n0 = pe 0 c) (h1 : n1 = pe 1 c) (h2 : n2 = pe 2 c) {k : PUnit → Prog (TpuEff nD τ sig (Elt F) Λ₀ .tc) α} {Q : α → sProp 𝕄} :
    iprop(Inv v κ ∗ levAts L lv ∗ St2 c ∗ Ow c (owe2 c))
      ⊢ iprop(((bigSep Finset.univ (PendK (F := F) c) ∗ semVal (bar1 c) 0 ∗ Ow c (oweF c 0))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal (n0, Proc.tc) barrier1 (1#32 : BitVec 32).toInt) fun _ =>
            .op (.semSignal (n1, Proc.tc) barrier1 (1#32 : BitVec 32).toInt) fun _ =>
            .op (.semSignal (n2, Proc.tc) barrier1 (1#32 : BitVec 32).toInt) fun _ =>
            .op (.semWait barrier1 (3#32 : BitVec 32).toInt) k) Q) := by
  unfold St2 owe2
  iintro ⟨#HI, #Hlev, ⟨Hat, Hcr, Htk, #Hr, HT, ⟨%f, Hg⟩⟩, HO⟩ Hk
  ihave #HI0 := (inv_bar1 v κ (pe 0 c)) $$ HI
  ihave #HI1 := (inv_bar1 v κ (pe 1 c)) $$ HI
  ihave #HI2 := (inv_bar1 v κ (pe 2 c)) $$ HI
  ihave #HIc := (inv_bar1 v κ c) $$ HI
  ihave #HR0 := (rch_bar1 v κ (pe 0 c)) $$ HI
  ihave #HR1 := (rch_bar1 v κ (pe 1 c)) $$ HI
  ihave #HR2 := (rch_bar1 v κ (pe 2 c)) $$ HI
  ihave Htk := (Entails.of_eq (bigSep_fin3 _)) $$ Htk
  ihave #Hr := (Entails.of_eq (bigSep_fin3 _)) $$ Hr
  ihave Hg := (Entails.of_eq (gath_eq c fullShare f)) $$ Hg
  icases Htk with ⟨Ht0, Ht1, Ht2⟩
  icases Hr with ⟨#Hr0, #Hr1, #Hr2⟩
  icases Hg with ⟨Hg, Hg0, Hg1, Hg2⟩
  iapply (sg v h0 (κ₁ := κ (bar1 (pe 0 c))) 0 (by rw [ck_b1]; decide) (by rw [ck_b1]; rfl) _) $$ [HO Ht0 Hg0]
  · isplitr; · iexact HI0
    isplitl [HO]; · iexact HO
    isplitl [Ht0]; · iexact Ht0
    isplitl [Hg0]
    · iapply (mkpay v c 0 f); isplitl [Hg0]; · iexact Hg0
      iexact Hr0
    iexact HR0
  iintro HO
  iapply (sg v h1 (κ₁ := κ (bar1 (pe 1 c))) 1 (by rw [ck_b1]; decide) (by rw [ck_b1]; rfl) _) $$ [HO Ht1 Hg1]
  · isplitr; · iexact HI1
    isplitl [HO]; · iexact HO
    isplitl [Ht1]; · iexact Ht1
    isplitl [Hg1]
    · iapply (mkpay v c 1 f); isplitl [Hg1]; · iexact Hg1
      iexact Hr1
    iexact HR1
  iintro HO
  iapply (sg v h2 (κ₁ := κ (bar1 (pe 2 c))) 2 (by rw [ck_b1]; decide) (by rw [ck_b1]; rfl) _) $$ [HO Ht2 Hg2]
  · isplitr; · iexact HI2
    isplitl [HO]; · iexact HO
    isplitl [Ht2]; · iexact Ht2
    isplitl [Hg2]
    · iapply (mkpay v c 2 f); isplitl [Hg2]; · iexact Hg2
      iexact Hr2
    iexact HR2
  iintro HO
  iapply (wt v (κ₁ := κ (bar1 c)) (sm := .reg barrier1) 3 (by rw [ck_b1]; rfl) (fun K => wpE_semWait_eq ..)) $$ [Hcr HO Hat]
  · isplitr; · iexact HIc
    isplitl [Hcr]; · iexact Hcr
    isplitl [HO]; · iexact HO
    isplitr; · iapply (mayWait (above_oweF c 0) c (.reg barrier1) (by rw [ck_b1]; exact le_rfl)); iexact Hlev
    iexact Hat
  iintro ⟨HO, Hs, Hp⟩
  iapply Hk
  isplitr [HO Hs]
  · ihave Hp := (Entails.of_eq (pay_b1 v c)) $$ Hp
    ihave Hg := (Entails.of_eq (row_eq c (gr c) fullShare f)) $$ Hg
    iapply (Entails.of_eq (PendK_eq c).symm)
    isplitl [Hg]
    · iapply (bigSep_weaken (fun k : Fin 8 => pcAny_intro c (chG (gr c) k.val) f)) $$ Hg
    isplitl [Hp]; · iexact Hp
    iexact HT
  isplitl [Hs]; · iexact Hs
  iexact HO

end Cert.KernelIdeal.Hand

end
-- ==== Proof.Call2B.lean ====
/-
  Call 2: the part of a point up to its chunk of the product.
-/
module

public import proofs.«01_k».proof.Proof.Call2A

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (v : Vals F) (κ : GSem nD τ sig → ℕ)
variable {c : Dev nD} (i : grid2.Coords) {a1 a2 a3 : Memref sig .tc .vmem S256x4096 .bf16} {a4 : Memref sig .tc .vmem S256x2048 .bf16}
  {a5 : Memref sig .tc .vmem S256x64 .bf16} {a6 : Memref sig .tc .vmem S4096x512 .bf16} {a7 : Memref sig .tc .vmem S4x256x4096 .f32}
  (h1 : a1.IsWhole) (h2 : a2.IsWhole) (h3 : a3.IsWhole) (h4 : a4.IsWhole) (h5 : a5.IsWhole) (h6 : a6.IsWhole) (h7 : a7.IsWhole)
  (h8 : (Memref.whole bO).IsWhole) (h9 : (Memref.whole bG).IsWhole)
  (q k vv : FVec F S256x4096 .bf16) (qr : FVec F S256x2048 .bf16) (kr : FVec F S256x64 .bf16) (wo : FVec F S4096x512 .bf16)

/-- The windows' contents. -/
def Win2 (c : Dev nD) (a1 a2 a3 : Memref sig .tc .vmem S256x4096 .bf16) (a4 : Memref sig .tc .vmem S256x2048 .bf16)
    (a5 : Memref sig .tc .vmem S256x64 .bf16) (a6 : Memref sig .tc .vmem S4096x512 .bf16) : sProp 𝕄 :=
  iprop(owns (c : Thread nD τ) a1 fullShare q ∗ owns (c : Thread nD τ) a2 fullShare k ∗ owns (c : Thread nD τ) a3 fullShare vv
    ∗ owns (c : Thread nD τ) a4 fullShare qr ∗ owns (c : Thread nD τ) a5 fullShare kr ∗ owns (c : Thread nD τ) a6 fullShare wo)

theorem hs_start {c : Dev nD} {a1 a2 a3 a8 : Memref sig .tc .vmem S256x4096 .bf16} :
    iprop(owns (c : Thread nD τ) a1 fullShare q ∗ owns (c : Thread nD τ) a2 fullShare k ∗ owns (c : Thread nD τ) a3 fullShare vv ∗ ∃ f, owns (c : Thread nD τ) a8 fullShare f)
      ⊢ (HS q k vv qr kr c a1 a2 a3 a8 0 : sProp 𝕄) := by
  unfold HS
  iintro ⟨H1, H2, H3, ⟨%f, H8⟩⟩
  isplitl [H1]; · iexact H1
  isplitl [H2]; · iexact H2
  isplitl [H3]; · iexact H3
  iexists f; isplitr; · ipureintro; exact upTo_zero _ _
  iexact H8
theorem hs_end {c : Dev nD} {a1 a2 a3 a8 : Memref sig .tc .vmem S256x4096 .bf16} :
    (HS q k vv qr kr c a1 a2 a3 a8 32 : sProp 𝕄)
      ⊢ iprop(owns (c : Thread nD τ) a1 fullShare q ∗ owns (c : Thread nD τ) a2 fullShare k ∗ owns (c : Thread nD τ) a3 fullShare vv
        ∗ owns (c : Thread nD τ) a8 fullShare (attO q k vv qr kr)) := by
  unfold HS
  iintro ⟨H1, H2, H3, ⟨%f, %hf, H8⟩⟩
  rw [← upTo_all hf]
  isplitl [H1]; · iexact H1
  isplitl [H2]; · iexact H2
  isplitl [H3]; · iexact H3
  iexact H8

set_option maxHeartbeats 4000000 in
/-- At the first point. -/
theorem front_first (hc : k2_cond1 i = 1#1) :
    iprop(Inv v κ ∗ levAts L lv ∗ St2 c ∗ Ow c (owe2 c) ∗ Win2 q k vv qr kr wo c a1 a2 a3 a4 a5 a6
        ∗ ∃ f, owns (c : Thread nD τ) (Memref.whole bO) fullShare f)
      ⊢ wp frame (wpE (defs₀ (F := F)) 𝒱₀ (c : Thread nD τ) none) Set.univ
        (k2_part39 i a1 h1 a2 h2 a3 h3 a4 h4 a5 h5 a6 h6 a7 h7 (Memref.whole bO) h8 (Memref.whole bG) h9 cc2_scratch2 cc2_scratch3)
        (fun r => iprop(⌜r.2.1 = c ∧ r.2.2.2.2.2.2.2.2.2.2.2.2.2 = k2_pay64 (attO q k vv qr kr) wo⌝
          ∗ bigSep Finset.univ (PendK (F := F) c) ∗ semVal (bar1 c) 0 ∗ Ow c (oweF c 0) ∗ Win2 q k vv qr kr wo c a1 a2 a3 a4 a5 a6
          ∗ owns (c : Thread nD τ) (Memref.whole bO) fullShare (attO q k vv qr kr))) := by
  simp only [k2_part39_eq_skeleton]; unfold k2_part39_skel
  simp only [Prog.lift, Prog.bind_op, Prog.bind_ret, Prog.pure_eq_ret, wp_deviceId]
  rw [dif_pos hc]
  simp only [k2_part1_eq_skeleton, k2_part2_eq_skeleton, k2_part3_eq_skeleton, k2_part4_eq_skeleton, k2_part5_eq_skeleton, k2_part6_eq_skeleton,
    k2_part7_eq_skeleton, k2_part8_eq_skeleton, k2_part9_eq_skeleton, k2_part10_eq_skeleton, k2_part11_eq_skeleton, k2_part12_eq_skeleton,
    k2_part13_eq_skeleton, k2_part14_eq_skeleton, k2_part15_eq_skeleton, k2_part16_eq_skeleton, k2_part17_eq_skeleton, k2_part18_eq_skeleton,
    k2_part19_eq_skeleton, k2_part20_eq_skeleton, k2_part21_eq_skeleton]
  unfold k2_part1_skel k2_part2_skel k2_part3_skel k2_part4_skel k2_part5_skel k2_part6_skel k2_part7_skel k2_part8_skel k2_part9_skel k2_part10_skel
    k2_part11_skel k2_part12_skel k2_part13_skel k2_part14_skel k2_part15_skel k2_part16_skel k2_part17_skel k2_part18_skel k2_part19_skel k2_part20_skel
    k2_part21_skel
  simp only [semSignalWord, semWaitWord, Prog.lift, Prog.bind_op, Prog.bind_ret, Prog.pure_eq_ret, bind_assoc, pure_bind]
  unfold Win2
  iintro ⟨#HI, #Hlev, Hst, HO, ⟨H1, H2, H3, H4, H5, H6⟩, ⟨%f, H8⟩⟩
  iapply (barrier2 v κ (Fin.ext (k2_dev1_pe c)) (Fin.ext (k2_dev2_pe c)) (Fin.ext (k2_dev3_pe c))) $$ [Hst HO]
  · isplitr; · iexact HI
    isplitr; · iexact Hlev
    isplitl [Hst]; · iexact Hst
    iexact HO
  iintro ⟨HP, Hs, HO⟩
  iapply ldw $$ H4; iintro H4
  iapply ldw $$ H5; iintro H5
  ihave HS := (hs_start q k vv qr kr) $$ [H1 H2 H3 H8]
  · isplitl [H1]; · iexact H1
    isplitl [H2]; · iexact H2
    isplitl [H3]; · iexact H3
    iexists f; iexact H8
  iapply (hd_step q k vv qr kr 0 0 rfl (off := ![0, 0]) rfl ?_) $$ HS; rotate_left; iintro HS
  iapply (hd_step q k vv qr kr 1 1 rfl (off := ![0, 128]) rfl ?_) $$ HS; rotate_left; iintro HS
  iapply (hd_step q k vv qr kr 2 2 rfl (off := ![0, 256]) rfl ?_) $$ HS; rotate_left; iintro HS
  iapply (hd_step q k vv qr kr 3 3 rfl (off := ![0, 384]) rfl ?_) $$ HS; rotate_left; iintro HS
  iapply (hd_step q k vv qr kr 4 4 rfl (off := ![0, 512]) rfl ?_) $$ HS; rotate_left; iintro HS
  iapply (hd_step q k vv qr kr 5 5 rfl (off := ![0, 640]) rfl ?_) $$ HS; rotate_left; iintro HS
  iapply (hd_step q k vv qr kr 6 6 rfl (off := ![0, 768]) rfl ?_) $$ HS; rotate_left; iintro HS
  iapply (hd_step q k vv qr kr 7 7 rfl (off := ![0, 896]) rfl ?_) $$ HS; rotate_left; iintro HS
  iapply (hd_step q k vv qr kr 8 8 rfl (off := ![0, 1024]) rfl ?_) $$ HS; rotate_left; iintro HS
  iapply (hd_step q k vv qr kr 9 9 rfl (off := ![0, 1152]) rfl ?_) $$ HS; rotate_left; iintro HS
  iapply (hd_step q k vv qr kr 10 10 rfl (off := ![0, 1280]) rfl ?_) $$ HS; rotate_left; iintro HS
  iapply (hd_step q k vv qr kr 11 11 rfl (off := ![0, 1408]) rfl ?_) $$ HS; rotate_left; iintro HS
  iapply (hd_step q k vv qr kr 12 12 rfl (off := ![0, 1536]) rfl ?_) $$ HS; rotate_left; iintro HS
  iapply (hd_step q k vv qr kr 13 13 rfl (off := ![0, 1664]) rfl ?_) $$ HS; rotate_left; iintro HS
  iapply (hd_step q k vv qr kr 14 14 rfl (off := ![0, 1792]) rfl ?_) $$ HS; rotate_left; iintro HS
  iapply (hd_step q k vv qr kr 15 15 rfl (off := ![0, 1920]) rfl ?_) $$ HS; rotate_left; iintro HS
  iapply (hd_step q k vv qr kr 16 16 rfl (off := ![0, 2048]) rfl ?_) $$ HS; rotate_left; iintro HS
  iapply (hd_step q k vv qr kr 17 17 rfl (off := ![0, 2176]) rfl ?_) $$ HS; rotate_left; iintro HS
  iapply (hd_step q k vv qr kr 18 18 rfl (off := ![0, 2304]) rfl ?_) $$ HS; rotate_left; iintro HS
  iapply (hd_step q k vv qr kr 19 19 rfl (off := ![0, 2432]) rfl ?_) $$ HS; rotate_left; iintro HS
  iapply (hd_step q k vv qr kr 20 20 rfl (off := ![0, 2560]) rfl ?_) $$ HS; rotate_left; iintro HS
  iapply (hd_step q k vv qr kr 21 21 rfl (off := ![0, 2688]) rfl ?_) $$ HS; rotate_left; iintro HS
  iapply (hd_step q k vv qr kr 22 22 rfl (off := ![0, 2816]) rfl ?_) $$ HS; rotate_left; iintro HS
  iapply (hd_step q k vv qr kr 23 23 rfl (off := ![0, 2944]) rfl ?_) $$ HS; rotate_left; iintro HS
  iapply (hd_step q k vv qr kr 24 24 rfl (off := ![0, 3072]) rfl ?_) $$ HS; rotate_left; iintro HS
  iapply (hd_step q k vv qr kr 25 25 rfl (off := ![0, 3200]) rfl ?_) $$ HS; rotate_left; iintro HS
  iapply (hd_step q k vv qr kr 26 26 rfl (off := ![0, 3328]) rfl ?_) $$ HS; rotate_left; iintro HS
  iapply (hd_step q k vv qr kr 27 27 rfl (off := ![0, 3456]) rfl ?_) $$ HS; rotate_left; iintro HS
  iapply (hd_step q k vv qr kr 28 28 rfl (off := ![0, 3584]) rfl ?_) $$ HS; rotate_left; iintro HS
  iapply (hd_step q k vv qr kr 29 29 rfl (off := ![0, 3712]) rfl ?_) $$ HS; rotate_left; iintro HS
  iapply (hd_step q k vv qr kr 30 30 rfl (off := ![0, 3840]) rfl ?_) $$ HS; rotate_left; iintro HS
  iapply (hd_step q k vv qr kr 31 31 rfl (off := ![0, 3968]) rfl ?_) $$ HS; rotate_left; iintro HS
  ihave HS := (hs_end q k vv qr kr) $$ HS
  icases HS with ⟨H1, H2, H3, H8⟩
  iapply ldw $$ H8; iintro H8
  iapply ldw $$ H6; iintro H6
  · rw [wp_ret]; imodintro
    isplitr; · ipureintro; exact ⟨rfl, rfl⟩
    isplitl [HP]; · iexact HP
    isplitl [Hs]; · iexact Hs
    isplitl [HO]; · iexact HO
    isplitr [H8]
    · isplitl [H1]; · iexact H1
      isplitl [H2]; · iexact H2
      isplitl [H3]; · iexact H3
      isplitl [H4]; · iexact H4
      isplitl [H5]; · iexact H5
      iexact H6
    iexact H8
  all_goals rfl

/-- At the later points. -/
theorem front_later (hc : ¬ k2_cond1 i = 1#1) :
    iprop(Win2 q k vv qr kr wo c a1 a2 a3 a4 a5 a6 ∗ owns (c : Thread nD τ) (Memref.whole bO) fullShare (attO q k vv qr kr))
      ⊢ wp frame (wpE (defs₀ (F := F)) 𝒱₀ (c : Thread nD τ) none) Set.univ
        (k2_part39 i a1 h1 a2 h2 a3 h3 a4 h4 a5 h5 a6 h6 a7 h7 (Memref.whole bO) h8 (Memref.whole bG) h9 cc2_scratch2 cc2_scratch3)
        (fun r => iprop(⌜r.2.1 = c ∧ r.2.2.2.2.2.2.2.2.2.2.2.2.2 = k2_pay64 (attO q k vv qr kr) wo⌝
          ∗ Win2 q k vv qr kr wo c a1 a2 a3 a4 a5 a6
          ∗ owns (c : Thread nD τ) (Memref.whole bO) fullShare (attO q k vv qr kr))) := by
  simp only [k2_part39_eq_skeleton]; unfold k2_part39_skel
  simp only [Prog.lift, Prog.bind_op, Prog.bind_ret, Prog.pure_eq_ret, wp_deviceId]
  rw [dif_neg hc]
  unfold Win2
  iintro ⟨⟨H1, H2, H3, H4, H5, H6⟩, H8⟩
  iapply ldw $$ H8; iintro H8
  iapply ldw $$ H6; iintro H6
  rw [wp_ret]; imodintro
  isplitr; · ipureintro; exact ⟨rfl, rfl⟩
  isplitr [H8]
  · isplitl [H1]; · iexact H1
    isplitl [H2]; · iexact H2
    isplitl [H3]; · iexact H3
    isplitl [H4]; · iexact H4
    isplitl [H5]; · iexact H5
    iexact H6
  iexact H8

end Cert.KernelIdeal.Hand

end
-- ==== Proof.Call2C.lean ====
/-
  Call 2: a point's chunk, stored and sent to the three peers.
-/
module

public import proofs.«01_k».proof.Proof.Call2A

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (v : Vals F) (κ : GSem nD τ sig → ℕ)

/-- A chunk of the gathering buffer, as a copy names it. -/
abbrev chV (off : Fin 3 → ℕ) (inb : ∀ a, off a + S1x256x512.size a ≤ S4x256x4096.size a) : Memref sig .tc .vmem S256x512 .bf16 :=
  ((Memref.whole bG).slice (Rect.unit (s := S4x256x4096) off S1x256x512.size inb) (fun _ => rfl)).squeeze S256x512 squeezes_S1x256x512_S256x512

theorem chV_set {off : Fin 3 → ℕ} {inb : ∀ a, off a + S1x256x512.size a ≤ S4x256x4096.size a} (g k : ℕ) (ho : off = ![g, 0, 512 * k]) :
    (chV off inb).view.set = chG g k :=
  (View.set_reshape _ _).trans ((View.set_slice_whole bG _).trans (chunk_set g k ho))

variable {c : Dev nD} {α : Type}

set_option maxHeartbeats 1000000 in
/-- A copy of a chunk of the device's row to its i-th peer. -/
theorem sendG (i : Fin 3) (k : Fin 8) {n : Dev nD} (hn : n = pe i c) {off : Fin 3 → ℕ} {inb : ∀ a, off a + S1x256x512.size a ≤ S4x256x4096.size a}
    (ho : off = ![gr c, 0, 512 * k.val]) (hv : v.gF (pe i c) = v.gF c) {sS' sR' : DmaSem sig} (hS : sS' = s2S i k) (hR : sR' = r2S i k)
    {hsc : (chV off inb).view.ref.isScScratch = false}
    {hsrc : (chV off inb).view.WordExact} {hdst : (chV off inb).view.WordExact}
    {hsem : DmaTarget.Typed .vmem (.dma sR') (.remote (Dev.tc n) (chV off inb) (.dma sS') hsc)}
    {kk : PUnit → Prog (TpuEff nD τ sig (Elt F) Λ₀ .tc) α} (O : CellTallies nD τ sig Unit) {Q : α → sProp 𝕄} :
    iprop(Inv v κ ∗ pc c bG (chG (gr c) k.val) (sq i) (v.gF c) ∗ pcAny (pe i c) bG (chG (gr c) k.val)
        ∗ Ow c (O + tallyAt (r2C (pe i c) i k) () n2)
        ∗ dutyTok ER (s2C c i k) 0 0 ∗ reached ER (s2C c i k) 0 ∗ dutyTok ER (r2C (pe i c) i k) 0 0 ∗ reached ER (r2C (pe i c) i k) 0)
      ⊢ iprop(((cred (tallyAt (s2C c i k) () n2) ∗ Ow c O)
            -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (chV off inb) (.remote (Dev.tc n) (chV off inb) (.dma sS') hsc) (.dma sR') hsrc hdst hsem) kk) Q) := by
  iintro ⟨#HI, Hs, ⟨%fd, Hd⟩, HO, Ht, Hr, Ht', Hr'⟩
  have hset := chV_set (inb := inb) (gr c) k.val ho
  iapply (sd v (κ₁ := κ (s2C c i k)) (κ₂ := κ (r2C (pe i c) i k)) hn (src := chV off inb) (dst := chV off inb) (hsc := hsc) (s2S i k) (r2S i k) hS hR
    (hsrc := hsrc) (hdst := hdst) (hsem := hsem) (k := kk) (sq i) (v.gF c) fd n2 rfl (by rw [ck_s2]; exact Finset.mem_singleton_self _) (by rw [ck_r2]; exact Finset.mem_singleton_self _)
    (by rw [ck_s2]; rfl) (by rw [ck_r2]; rfl) O
    (by rw [ck_s2, hset]; exact .rfl)
    (by
      rw [ck_r2, hset, View.write_read_eq_piecewise, View.setOn_univ, hset]
      show _ ⊢ pc (pe i c) bG (chG (gr (pe i (pe i c))) k.val) fullShare (v.gF (pe i c))
      rw [pe_pe, hv]
      exact Entails.of_eq (pointsTo_congr fun j hj => Finset.piecewise_eq_of_mem _ _ _ hj))) $$ [Hs Hd HO Ht Hr Ht' Hr']
  · isplitr; · iapply (inv_s2 v κ c i k); iexact HI
    isplitr; · iapply (inv_r2 v κ (pe i c) i k); iexact HI
    isplitl [Hs]; · rw [hset]; iexact Hs
    isplitl [Hd]; · rw [hset]; iexact Hd
    isplitl [HO]; · iexact HO
    isplitl [Ht]; · iexact Ht
    isplitl [Hr]; · iexact Hr
    isplitl [Ht']; · iexact Ht'
    iexact Hr'

theorem PendK_open (c : Dev nD) (k : Fin 8) : (PendK c k : sProp 𝕄) ⊢ iprop(pcAny c bG (chG (gr c) k.val)
    ∗ ((pcAny (pe 0 c) bG (chG (gr c) k.val) ∗ reached ER (r2C (pe 0 c) 0 k) 0) ∗ (pcAny (pe 1 c) bG (chG (gr c) k.val) ∗ reached ER (r2C (pe 1 c) 1 k) 0)
      ∗ pcAny (pe 2 c) bG (chG (gr c) k.val) ∗ reached ER (r2C (pe 2 c) 2 k) 0)
    ∗ (dutyTok ER (s2C c 0 k) 0 0 ∗ dutyTok ER (r2C (pe 0 c) 0 k) 0 0 ∗ reached ER (s2C c 0 k) 0)
    ∗ (dutyTok ER (s2C c 1 k) 0 0 ∗ dutyTok ER (r2C (pe 1 c) 1 k) 0 0 ∗ reached ER (s2C c 1 k) 0)
    ∗ dutyTok ER (s2C c 2 k) 0 0 ∗ dutyTok ER (r2C (pe 2 c) 2 k) 0 0 ∗ reached ER (s2C c 2 k) 0) := by
  unfold PendK Tok2; rw [bigSep_fin3, bigSep_fin3]
theorem DoneK_close (c : Dev nD) (k : Fin 8) : iprop(pc c bG (chG (gr c) k.val) kq (v.gF c)
    ∗ cred (tallyAt (s2C c 0 k) () n2) ∗ cred (tallyAt (s2C c 1 k) () n2) ∗ cred (tallyAt (s2C c 2 k) () n2)) ⊢ (DoneK v c k : sProp 𝕄) := by
  unfold DoneK; rw [bigSep_fin3]

set_option maxHeartbeats 2000000 in
/-- Chunk k stored and sent to the three peers. -/
theorem chunk2 (k : Fin 8) (hv : ∀ i, v.gF (pe i c) = v.gF c) {off off' : Fin 3 → ℕ}
    {inb : ∀ a, off a + S1x256x512.size a ≤ S4x256x4096.size a} {inb' : ∀ a, off' a + S1x256x512.size a ≤ S4x256x4096.size a}
    (ho : off = ![gr c, 0, 512 * k.val]) (ho' : off' = ![gr c, 0, 512 * k.val])
    {hl : (Memref.whole bG).view.LoadsAt (Rect.unit (s := S4x256x4096) off S1x256x512.size inb).toLoadRect}
    {w : FVec F S1x256x512 .bf16} {hx : ((Memref.whole bG).access (Rect.unit (s := S4x256x4096) off S1x256x512.size inb)).Stores Finset.univ}
    {hm : (Finset.univ : Finset S1x256x512.Idx) = Finset.univ ∨ ∀ a, (Rect.unit (s := S4x256x4096) off S1x256x512.size inb).stride a = 1}
    (hw : ∀ x, w x = v.gF c ((Rect.unit (s := S4x256x4096) off S1x256x512.size inb).emb x))
    {n0 n1 n2' : Dev nD} (hn0 : n0 = pe 0 c) (hn1 : n1 = pe 1 c) (hn2 : n2' = pe 2 c)
    {s0 r0 s1 r1 s2 r2 : DmaSem sig} (hs0 : s0 = s2S 0 k) (hr0 : r0 = r2S 0 k) (hs1 : s1 = s2S 1 k) (hr1 : r1 = r2S 1 k) (hs2 : s2 = s2S 2 k) (hr2 : r2 = r2S 2 k)
    {hsc0 hsc1 hsc2 : (chV off' inb').view.ref.isScScratch = false}
    {hw0 hw0' hw1 hw1' hw2 hw2' : (chV off' inb').view.WordExact}
    {ht0 : DmaTarget.Typed .vmem (.dma r0) (.remote (Dev.tc n0) (chV off' inb') (.dma s0) hsc0)}
    {ht1 : DmaTarget.Typed .vmem (.dma r1) (.remote (Dev.tc n1) (chV off' inb') (.dma s1) hsc1)}
    {ht2 : DmaTarget.Typed .vmem (.dma r2) (.remote (Dev.tc n2') (chV off' inb') (.dma s2) hsc2)}
    {kk : PUnit → Prog (TpuEff nD τ sig (Elt F) Λ₀ .tc) α} {Q : α → sProp 𝕄} :
    iprop(Inv v κ ∗ PendK c k ∗ Ow c (oweF c k.val))
      ⊢ iprop(((DoneK v c k ∗ Ow c (oweF c (k.val + 1)))
            -∗ wp frame (wpE (defs₀ (F := F)) 𝒱₀ (c : Thread nD τ) none) Set.univ (kk ⟨⟩) Q)
        -∗ wp frame (wpE (defs₀ (F := F)) 𝒱₀ (c : Thread nD τ) none) Set.univ
          (.op (.load (cs := .vmem) (e := .bf16) (Memref.whole bG) (Rect.unit (s := S4x256x4096) off S1x256x512.size inb).toLoadRect hl) fun _ =>
            .op (.store (cs := .vmem) (e := .bf16) (Memref.whole bG) (Rect.unit (s := S4x256x4096) off S1x256x512.size inb) w Finset.univ hx hm) fun _ =>
            .op (.enqueueDma (chV off' inb') (.remote (Dev.tc n0) (chV off' inb') (.dma s0) hsc0) (.dma r0) hw0 hw0' ht0) fun _ =>
            .op (.enqueueDma (chV off' inb') (.remote (Dev.tc n1) (chV off' inb') (.dma s1) hsc1) (.dma r1) hw1 hw1' ht1) fun _ =>
            .op (.enqueueDma (chV off' inb') (.remote (Dev.tc n2') (chV off' inb') (.dma s2) hsc2) (.dma r2) hw2 hw2' ht2) kk) Q) := by
  rw [oweF_step]
  unfold oweK
  rw [← add_assoc, ← add_assoc]
  iintro ⟨#HI, HP, HO⟩ Hk
  ihave HP := (PendK_open c k) $$ HP
  icases HP with ⟨⟨%f, Hc⟩, ⟨⟨Hd0, Hr0⟩, ⟨Hd1, Hr1⟩, ⟨Hd2, Hr2⟩⟩, ⟨Ht0, Hu0, Hq0⟩, ⟨Ht1, Hu1, Hq1⟩, ⟨Ht2, Hu2, Hq2⟩⟩
  have hset := chunk_set (inb := inb) (gr c) k.val ho
  iapply (ldG (hl := hl) (S := chG (gr c) k.val) (le_of_eq hset)) $$ Hc; iintro Hc
  iapply (stG (hx := hx) (hm := hm) (S := chG (gr c) k.val) hset (v.gF c) hw) $$ Hc; iintro Hc
  ihave Hc := (Entails.of_eq (shares_eq c (chG (gr c) k.val) (v.gF c))) $$ Hc
  icases Hc with ⟨Hc0, Hc1, Hc2, Hc⟩
  iapply (sendG v κ 0 k hn0 ho' (hv 0) hs0 hr0 _) $$ [Hc0 Hd0 HO Ht0 Hq0 Hu0 Hr0]
  · isplitr; · iexact HI
    isplitl [Hc0]; · iexact Hc0
    isplitl [Hd0]; · iexact Hd0
    isplitl [HO]; · iexact HO
    isplitl [Ht0]; · iexact Ht0
    isplitl [Hq0]; · iexact Hq0
    isplitl [Hu0]; · iexact Hu0
    iexact Hr0
  iintro ⟨Hc0, HO⟩
  iapply (sendG v κ 1 k hn1 ho' (hv 1) hs1 hr1 _) $$ [Hc1 Hd1 HO Ht1 Hq1 Hu1 Hr1]
  · isplitr; · iexact HI
    isplitl [Hc1]; · iexact Hc1
    isplitl [Hd1]; · iexact Hd1
    isplitl [HO]; · iexact HO
    isplitl [Ht1]; · iexact Ht1
    isplitl [Hq1]; · iexact Hq1
    isplitl [Hu1]; · iexact Hu1
    iexact Hr1
  iintro ⟨Hc1, HO⟩
  iapply (sendG v κ 2 k hn2 ho' (hv 2) hs2 hr2 _) $$ [Hc2 Hd2 HO Ht2 Hq2 Hu2 Hr2]
  · isplitr; · iexact HI
    isplitl [Hc2]; · iexact Hc2
    isplitl [Hd2]; · iexact Hd2
    isplitl [HO]; · iexact HO
    isplitl [Ht2]; · iexact Ht2
    isplitl [Hq2]; · iexact Hq2
    isplitl [Hu2]; · iexact Hu2
    iexact Hr2
  iintro ⟨Hc2, HO⟩
  iapply Hk
  isplitr [HO]
  · iapply (DoneK_close v c k)
    isplitl [Hc]; · iexact Hc
    isplitl [Hc0]; · iexact Hc0
    isplitl [Hc1]; · iexact Hc1
    iexact Hc2
  iexact HO

end Cert.KernelIdeal.Hand

end
-- ==== Proof.Call2D.lean ====
/-
  Call 2: the last point's waits, and the rows taken out.
-/
module

public import proofs.«01_k».proof.Proof.Call2C

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (v : Vals F) (κ : GSem nD τ sig → ℕ)

/-- An index of three coordinates. -/
def tri {d : Fin 3 → ℕ} (a : Fin (d 0)) (b : Fin (d 1)) (e : Fin (d 2)) : (⟨3, d⟩ : Shape).Idx
  | 0 => a
  | 1 => b
  | 2 => e

/-- The result: the gathered rows widened. -/
def outF (c : Dev nD) : FVec F S4x256x4096 .f32 := fun j =>
  k2_pay60 (fun y : S1x256x4096.Idx => (v.gF c : FVec F S4x256x4096 .bf16) (tri (d := ![4, 256, 4096]) (j 0) (y 1) (y 2))) (tri (d := ![1, 256, 4096]) (0 : Fin 1) (j 1) (j 2))

theorem ov_row (c : Dev nD) (g : ℕ) {off : Fin 3 → ℕ} {inb : ∀ a, off a + S1x256x4096.size a ≤ S4x256x4096.size a} (ho : off = ![g, 0, 0])
    (X : FVec F S4x256x4096 .f32) (j : S4x256x4096.Idx) :
    (Rect.unit (s := S4x256x4096) off S1x256x4096.size inb).overlay X
        (k2_pay60 fun i => (v.gF c : FVec F S4x256x4096 .bf16) ((Rect.unit (s := S4x256x4096) off S1x256x4096.size inb).toLoadRect.idx i)) j
      = if (j 0).val = g then outF v c j else X j := by
  subst ho
  by_cases h : (j 0).val = g
  · rw [if_pos h]
    have e : (Rect.unit (s := S4x256x4096) ![g, 0, 0] S1x256x4096.size inb).emb (tri (d := ![1, 256, 4096]) (0 : Fin 1) (j 1) (j 2)) = j :=
      Rect.emb_eq_of_coords _ _ _ fun a => by
        match a with
        | 0 => show (j 0).val = g + 1 * 0; omega
        | 1 => show (j 1).val = 0 + 1 * (j 1).val; omega
        | 2 => show (j 2).val = 0 + 1 * (j 2).val; omega
    conv_lhs => rw [← e]
    rw [Rect.overlay_emb]
    unfold outF
    congr 2
    funext y
    congr 1
    funext a
    have h0 : (y 0).val < 1 := (y 0).isLt
    match a with
    | 0 => exact Fin.ext (by show g + 1 * (y 0).val = (j 0).val; omega)
    | 1 => exact Fin.ext (by show 0 + 1 * (y 1).val = (y 1).val; omega)
    | 2 => exact Fin.ext (by show 0 + 1 * (y 2).val = (y 2).val; omega)
  · rw [if_neg h, Rect.overlay_of_not_mem]
    rw [row_set g rfl, mem_rowG]; exact h

/-! ## The waits -/

variable {c : Dev nD} {α : Type}

/-- A wait for a copy's cell, when nothing is owed. -/
theorem wD {sem : DmaSem sig} (sm : DmaSem sig) (hs : sem = sm) {sp sp' : Space} {s : Shape} {e : EltTy} {src : Memref sig .tc sp s e} {dst : Memref sig .tc sp' s e}
    {hw : src.view.WordExact} {hw' : dst.view.WordExact} (N : ℕ) (hN : dst.view.dmaCredit = N)
    (hn : N = (dutOf (ck (.dma sm))).card * amtOf (ck (.dma sm))) (hI : Inv v κ ⊢ cellInv ER (Rd v) (κ ((c : Thread nD τ), .dma sm)) ((c : Thread nD τ), .dma sm))
    (O : CellTallies nD τ sig Unit) {k : PUnit → Prog (TpuEff nD τ sig (Elt F) Λ₀ .tc) α} {Q : α → sProp 𝕄} :
    iprop(Inv v κ ∗ cred (tallyAt ((c : Thread nD τ), .dma sm) () N) ∗ Ow c O ∗ MayWait (c : Thread nD τ) (.dma sm) () O ∗ atPos ER ((c : Thread nD τ), .dma sm) 0 ∅ 0)
      ⊢ iprop(((Ow c O ∗ semVal ((c : Thread nD τ), .dma sm) 0 ∗ bigSep (dutOf (ck (.dma sm))) (payOf v c (ck (.dma sm))))
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hw hw') k) Q) := by
  subst hs hN
  exact (sep_mono hI .rfl).trans (wt v (κ₁ := κ ((c : Thread nD τ), .dma sem)) (sm := .dma sem) _ hn (fun K => wpE_waitDma2_eq ..))

/-- A slot's sending cells before their waits, and behind them. -/
def AS (c : Dev nD) (k : Fin 8) : sProp 𝕄 := bigSep Finset.univ fun i : Fin 3 => iprop(cred (tallyAt (s2C c i k) () n2) ∗ atPos ER (s2C c i k) 0 ∅ 0)
def BS (c : Dev nD) (k : Fin 8) : sProp 𝕄 := bigSep Finset.univ fun i : Fin 3 => iprop(semVal (s2C c i k) 0 ∗ pc c bG (chG (gr c) k.val) (sq i) (v.gF c))
def WS (c : Dev nD) (k : ℕ) : sProp 𝕄 := iprop(bigSep (rangeSet 8 k 8) (AS (F := F) c) ∗ bigSep (rangeSet 8 0 k) (BS v c))
/-- A peer's receiving cells before their waits, and behind them. -/
def AR (c : Dev nD) (i : Fin 3) (k : Fin 8) : sProp 𝕄 := iprop(cred (tallyAt (r2C c i k) () n2) ∗ atPos ER (r2C c i k) 0 ∅ 0)
def BR (c : Dev nD) (i : Fin 3) (k : Fin 8) : sProp 𝕄 := iprop(semVal (r2C c i k) 0 ∗ pc c bG (chG (gr (pe i c)) k.val) fullShare (v.gF c))
def WR (c : Dev nD) (i : Fin 3) (k : ℕ) : sProp 𝕄 := iprop(bigSep (rangeSet 8 k 8) (AR (F := F) c i) ∗ bigSep (rangeSet 8 0 k) (BR v c i))

theorem range_take (A B : Fin 8 → sProp 𝕄) (k : Fin 8) :
    (iprop(bigSep (rangeSet 8 k.val 8) A ∗ bigSep (rangeSet 8 0 k.val) B) : sProp 𝕄) = iprop(A k ∗ bigSep (rangeSet 8 (k.val + 1) 8) A ∗ bigSep (rangeSet 8 0 k.val) B) := by
  rw [bigSep_rangeSet_head k.isLt k.isLt]
  exact BI.Entails.antisymm sep_assoc sep_assoc'
theorem range_give (A B : Fin 8 → sProp 𝕄) (k : Fin 8) :
    iprop(B k ∗ bigSep (rangeSet 8 (k.val + 1) 8) A ∗ bigSep (rangeSet 8 0 k.val) B) ⊢ (iprop(bigSep (rangeSet 8 (k.val + 1) 8) A ∗ bigSep (rangeSet 8 0 (k.val + 1)) B) : sProp 𝕄) := by
  have e : (bigSep (rangeSet 8 0 (k.val + 1)) B : sProp 𝕄) = iprop(B k ∗ bigSep (rangeSet 8 0 k.val) B) :=
    bigSep_rangeSet_last (lo := 0) (hi := k.val + 1) (Nat.succ_pos _) k.isLt
  rw [e]
  iintro ⟨H, H1, H2⟩
  isplitl [H1]; · iexact H1
  isplitl [H]; · iexact H
  iexact H2

theorem pay_s2 (c : Dev nD) (i : Fin 3) (k : Fin 8) : (bigSep (dutOf (ck (.dma (s2S i k)))) (payOf v c (ck (.dma (s2S i k)))) : sProp 𝕄)
    = pc c bG (chG (gr c) k.val) (sq i) (v.gF c) := by
  rw [ck_s2]; exact BI.bigSep_singleton
theorem pay_r2 (c : Dev nD) (i : Fin 3) (k : Fin 8) : (bigSep (dutOf (ck (.dma (r2S i k)))) (payOf v c (ck (.dma (r2S i k)))) : sProp 𝕄)
    = pc c bG (chG (gr (pe i c)) k.val) fullShare (v.gF c) := by
  rw [ck_r2]; exact BI.bigSep_singleton

/-- One receiving wait. -/
theorem wR (i : Fin 3) (k : Fin 8) (n : ℕ) (hk : k.val = n) {sem : DmaSem sig} (hs : sem = r2S i k) {sp sp' : Space} {s : Shape} {e : EltTy} {src : Memref sig .tc sp s e} {dst : Memref sig .tc sp' s e}
    {hw : src.view.WordExact} {hw' : dst.view.WordExact} (hN : dst.view.dmaCredit = n2)
    {kk : PUnit → Prog (TpuEff nD τ sig (Elt F) Λ₀ .tc) α} {Q : α → sProp 𝕄} :
    iprop(Inv v κ ∗ WR v c i n ∗ Ow c 0)
      ⊢ iprop(((Inv v κ ∗ WR v c i (n + 1) ∗ Ow c 0) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sem src dst hw hw') kk) Q) := by
  subst hk
  unfold WR
  iintro ⟨#HI, HW, HO⟩ Hk
  ihave HW := (Entails.of_eq (range_take _ _ k)) $$ HW
  unfold AR
  icases HW with ⟨⟨Hc, Ha⟩, HW⟩
  iapply (wD v κ (r2S i k) hs n2 hN (by rw [ck_r2]; exact (Nat.one_mul _).symm) (inv_r2 v κ c i k) 0) $$ [Hc HO Ha]
  · isplitr; · iexact HI
    isplitl [Hc]; · iexact Hc
    isplitl [HO]; · iexact HO
    isplitr; · rw [MayWait_zero]; iempintro
    iexact Ha
  iintro ⟨HO, Hs, Hp⟩
  ihave Hp := (Entails.of_eq (pay_r2 v c i k)) $$ Hp
  iapply Hk
  isplitr; · iexact HI
  isplitr [HO]
  · iapply (range_give (AR c i) (BR v c i) k)
    isplitr [HW]
    · unfold BR; isplitl [Hs]; · iexact Hs
      iexact Hp
    iexact HW
  iexact HO

set_option maxHeartbeats 1000000 in
/-- A slot's three sending waits. -/
theorem wS (k : Fin 8) (n : ℕ) (hk : k.val = n) {s0 s1 s2 : DmaSem sig} (hs0 : s0 = s2S 0 k) (hs1 : s1 = s2S 1 k) (hs2 : s2 = s2S 2 k) {src0 src1 src2 : Memref sig .tc .vmem S256x512 .bf16} {dst0 dst1 dst2 : Memref sig .tc .vmem S256x512 .bf16}
    {hw0 : src0.view.WordExact} {hw0' : dst0.view.WordExact} {hw1 : src1.view.WordExact} {hw1' : dst1.view.WordExact} {hw2 : src2.view.WordExact} {hw2' : dst2.view.WordExact}
    (hN0 : dst0.view.dmaCredit = n2) (hN1 : dst1.view.dmaCredit = n2) (hN2 : dst2.view.dmaCredit = n2)
    {kk : PUnit → Prog (TpuEff nD τ sig (Elt F) Λ₀ .tc) α} {Q : α → sProp 𝕄} :
    iprop(Inv v κ ∗ WS v c n ∗ Ow c 0)
      ⊢ iprop(((Inv v κ ∗ WS v c (n + 1) ∗ Ow c 0) -∗ wp frame (wpE (defs₀ (F := F)) 𝒱₀ (c : Thread nD τ) none) Set.univ (kk ⟨⟩) Q)
        -∗ wp frame (wpE (defs₀ (F := F)) 𝒱₀ (c : Thread nD τ) none) Set.univ
          (.op (.waitDma2 s0 src0 dst0 hw0 hw0') fun _ => .op (.waitDma2 s1 src1 dst1 hw1 hw1') fun _ => .op (.waitDma2 s2 src2 dst2 hw2 hw2') kk) Q) := by
  subst hk
  unfold WS
  iintro ⟨#HI, HW, HO⟩ Hk
  ihave HW := (Entails.of_eq (range_take _ _ k)) $$ HW
  unfold AS
  icases HW with ⟨HA, HW⟩
  ihave HA := (Entails.of_eq (bigSep_fin3 _)) $$ HA
  icases HA with ⟨⟨Hc0, Ha0⟩, ⟨Hc1, Ha1⟩, ⟨Hc2, Ha2⟩⟩
  iapply (wD v κ (s2S 0 k) hs0 n2 hN0 (by rw [ck_s2]; exact (Nat.one_mul _).symm) (inv_s2 v κ c 0 k) 0) $$ [Hc0 HO Ha0]
  · isplitr; · iexact HI
    isplitl [Hc0]; · iexact Hc0
    isplitl [HO]; · iexact HO
    isplitr; · rw [MayWait_zero]; iempintro
    iexact Ha0
  iintro ⟨HO, Hs0, Hp0⟩
  ihave Hp0 := (Entails.of_eq (pay_s2 v c 0 k)) $$ Hp0
  iapply (wD v κ (s2S 1 k) hs1 n2 hN1 (by rw [ck_s2]; exact (Nat.one_mul _).symm) (inv_s2 v κ c 1 k) 0) $$ [Hc1 HO Ha1]
  · isplitr; · iexact HI
    isplitl [Hc1]; · iexact Hc1
    isplitl [HO]; · iexact HO
    isplitr; · rw [MayWait_zero]; iempintro
    iexact Ha1
  iintro ⟨HO, Hs1, Hp1⟩
  ihave Hp1 := (Entails.of_eq (pay_s2 v c 1 k)) $$ Hp1
  iapply (wD v κ (s2S 2 k) hs2 n2 hN2 (by rw [ck_s2]; exact (Nat.one_mul _).symm) (inv_s2 v κ c 2 k) 0) $$ [Hc2 HO Ha2]
  · isplitr; · iexact HI
    isplitl [Hc2]; · iexact Hc2
    isplitl [HO]; · iexact HO
    isplitr; · rw [MayWait_zero]; iempintro
    iexact Ha2
  iintro ⟨HO, Hs2, Hp2⟩
  ihave Hp2 := (Entails.of_eq (pay_s2 v c 2 k)) $$ Hp2
  iapply Hk
  isplitr; · iexact HI
  isplitr [HO]
  · iapply (range_give (AS c) (BS v c) k)
    isplitr [HW]
    · unfold BS
      iapply (Entails.of_eq (bigSep_fin3 _).symm)
      isplitl [Hs0 Hp0]
      · isplitl [Hs0]; · iexact Hs0
        iexact Hp0
      isplitl [Hs1 Hp1]
      · isplitl [Hs1]; · iexact Hs1
        iexact Hp1
      isplitl [Hs2]; · iexact Hs2
      iexact Hp2
    iexact HW
  iexact HO

end Cert.KernelIdeal.Hand

end
-- ==== Proof.Call2E.lean ====
/-
  Call 2: one point whole.
-/
module

public import proofs.«01_k».proof.Proof.Call2B
public import proofs.«01_k».proof.Proof.Call2D

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (v : Vals F) (κ : GSem nD τ sig → ℕ)

/-! ## The semaphores a point names -/

theorem sem_s2 {off : Fin 2 → ℕ} {inb : ∀ a, off a + S1x1.size a ≤ S3x8.size a} (i : Fin 3) (k : Fin 8) (ho : off = ![i.val, k.val]) :
    ((cc2_scratch2.slice (Rect.unit (s := S3x8) off S1x1.size inb)).squeeze S_ squeezes_S1x1_S_).sem = s2S i k := by
  subst ho; revert i k; decide +kernel
theorem sem_r2 {off : Fin 2 → ℕ} {inb : ∀ a, off a + S1x1.size a ≤ S3x8.size a} (i : Fin 3) (k : Fin 8) (ho : off = ![i.val, k.val]) :
    ((cc2_scratch3.slice (Rect.unit (s := S3x8) off S1x1.size inb)).squeeze S_ squeezes_S1x1_S_).sem = r2S i k := by
  subst ho; revert i k; decide +kernel

variable {c : Dev nD}

/-! ## What a point leaves -/

def EndS (c : Dev nD) : sProp 𝕄 := bigSep Finset.univ fun k : Fin 8 => bigSep Finset.univ fun i : Fin 3 => atPos ER (s2C c i k) 0 ∅ 0
def EndR (c : Dev nD) : sProp 𝕄 := bigSep Finset.univ fun i : Fin 3 => bigSep Finset.univ fun k : Fin 8 => AR c i k
/-- Behind the last point. -/
def Fin2 (c : Dev nD) : sProp 𝕄 :=
  iprop((bigSep Finset.univ fun k : Fin 8 => bigSep Finset.univ fun i : Fin 3 => semVal (s2C c i k) 0)
    ∗ (bigSep Finset.univ fun i : Fin 3 => bigSep Finset.univ fun k : Fin 8 => semVal (r2C c i k) 0)
    ∗ pc c bG Finset.univ fullShare (v.gF c))

theorem open_last : iprop(bigSep Finset.univ (DoneK v c) ∗ EndS c) ⊢ (iprop(pc c bG (rowG (gr c)) kq (v.gF c) ∗ WS v c 0) : sProp 𝕄) := by
  unfold WS EndS DoneK
  rw [rangeSet_univ, rangeSet_empty, bigSep_empty, row_eq, bigSep_sep' Finset.univ (fun k : Fin 8 => pc c bG (chG (gr c) k.val) kq (v.gF c))]
  iintro ⟨⟨Hp, Hc⟩, Ha⟩
  isplitl [Hp]; · iexact Hp
  isplitl [Hc Ha]
  · iapply (show iprop((bigSep Finset.univ fun k : Fin 8 => bigSep Finset.univ fun i : Fin 3 => cred (tallyAt (s2C c i k) () n2)) ∗ bigSep Finset.univ fun k : Fin 8 => bigSep Finset.univ fun i : Fin 3 => atPos ER (s2C c i k) 0 ∅ 0)
        ⊢ (bigSep Finset.univ (AS c) : sProp 𝕄) from by
      unfold AS
      rw [← bigSep_sep']
      exact bigSep_weaken fun k => Entails.of_eq (bigSep_sep' ..).symm)
    isplitl [Hc]; · iexact Hc
    iexact Ha
  · iempintro
  exact Nat.le_refl _

theorem WS_end : (WS v c 8 : sProp 𝕄) ⊢ iprop((bigSep Finset.univ fun k : Fin 8 => bigSep Finset.univ fun i : Fin 3 => semVal (s2C c i k) 0)
    ∗ pc c bG (rowG (gr c)) (sq 0) (v.gF c) ∗ pc c bG (rowG (gr c)) (sq 1) (v.gF c) ∗ pc c bG (rowG (gr c)) (sq 2) (v.gF c)) := by
  unfold WS
  rw [rangeSet_univ, show (bigSep Finset.univ (BS v c) : sProp 𝕄) = iprop((bigSep Finset.univ fun k : Fin 8 => bigSep Finset.univ fun i : Fin 3 => semVal (s2C c i k) 0)
      ∗ bigSep Finset.univ fun k : Fin 8 => bigSep Finset.univ fun i : Fin 3 => pc c bG (chG (gr c) k.val) (sq i) (v.gF c)) from by
    rw [← bigSep_sep']
    exact congrArg (bigSep Finset.univ) (funext fun k => bigSep_sep' ..)]
  rw [bigSep_swap (fun (k : Fin 8) (i : Fin 3) => pc c bG (chG (gr c) k.val) (sq i) (v.gF c)), bigSep_fin3, ← row_eq, ← row_eq, ← row_eq]
  iintro ⟨-, H⟩
  iexact H

theorem WR_start (i : Fin 3) : bigSep Finset.univ (AR c i) ⊢ (WR v c i 0 : sProp 𝕄) := by
  unfold WR
  rw [rangeSet_univ, rangeSet_empty, bigSep_empty]
  iintro H
  · isplitl [H]; · iexact H
    iempintro
  exact Nat.le_refl _
theorem WR_end (i : Fin 3) : (WR v c i 8 : sProp 𝕄) ⊢ iprop((bigSep Finset.univ fun k : Fin 8 => semVal (r2C c i k) 0) ∗ pc c bG (rowG (gr (pe i c))) fullShare (v.gF c)) := by
  unfold WR BR
  rw [rangeSet_univ, bigSep_sep', ← row_eq]
  iintro ⟨-, H⟩
  iexact H

/-- The four rows' stores make the result. -/
theorem rows_all {off0 off1 off2 off3 : Fin 3 → ℕ} {inb0 : ∀ a, off0 a + S1x256x4096.size a ≤ S4x256x4096.size a} {inb1 : ∀ a, off1 a + S1x256x4096.size a ≤ S4x256x4096.size a}
    {inb2 : ∀ a, off2 a + S1x256x4096.size a ≤ S4x256x4096.size a} {inb3 : ∀ a, off3 a + S1x256x4096.size a ≤ S4x256x4096.size a}
    (h0 : off0 = ![gr c, 0, 0]) (h1 : off1 = ![gr (pe 0 c), 0, 0]) (h2 : off2 = ![gr (pe 1 c), 0, 0]) (h3 : off3 = ![gr (pe 2 c), 0, 0]) (X : FVec F S4x256x4096 .f32) :
    (Rect.unit (s := S4x256x4096) off3 S1x256x4096.size inb3).overlay
      ((Rect.unit (s := S4x256x4096) off2 S1x256x4096.size inb2).overlay
        ((Rect.unit (s := S4x256x4096) off1 S1x256x4096.size inb1).overlay
          ((Rect.unit (s := S4x256x4096) off0 S1x256x4096.size inb0).overlay X
            (k2_pay60 fun i => (v.gF c : FVec F S4x256x4096 .bf16) ((Rect.unit (s := S4x256x4096) off0 S1x256x4096.size inb0).toLoadRect.idx i)))
          (k2_pay60 fun i => (v.gF c : FVec F S4x256x4096 .bf16) ((Rect.unit (s := S4x256x4096) off1 S1x256x4096.size inb1).toLoadRect.idx i)))
        (k2_pay60 fun i => (v.gF c : FVec F S4x256x4096 .bf16) ((Rect.unit (s := S4x256x4096) off2 S1x256x4096.size inb2).toLoadRect.idx i)))
      (k2_pay60 fun i => (v.gF c : FVec F S4x256x4096 .bf16) ((Rect.unit (s := S4x256x4096) off3 S1x256x4096.size inb3).toLoadRect.idx i)) = outF v c := by
  funext j
  rw [ov_row v c _ h3, ov_row v c _ h2, ov_row v c _ h1, ov_row v c _ h0]
  split_ifs with e3 e2 e1 e0 <;> try rfl
  exfalso
  rcases rows_cover c (j 0) with h | ⟨i, h⟩
  · exact e0 h
  · match i with
    | 0 => exact e1 h
    | 1 => exact e2 h
    | 2 => exact e3 h

/-! ## A point -/

variable (i : grid2.Coords) {a1 a2 a3 : Memref sig .tc .vmem S256x4096 .bf16} {a4 : Memref sig .tc .vmem S256x2048 .bf16}
  {a5 : Memref sig .tc .vmem S256x64 .bf16} {a6 : Memref sig .tc .vmem S4096x512 .bf16} {a7 : Memref sig .tc .vmem S4x256x4096 .f32}
  (h1 : a1.IsWhole) (h2 : a2.IsWhole) (h3 : a3.IsWhole) (h4 : a4.IsWhole) (h5 : a5.IsWhole) (h6 : a6.IsWhole) (h7 : a7.IsWhole)
  (h8 : (Memref.whole bO).IsWhole) (h9 : (Memref.whole bG).IsWhole)

/-- The first part of a point, as its remaining parts take it over. -/
def Front (k : Fin 8) (P X : sProp 𝕄) (u : FVec F S256x512 .f32) : Prop :=
  P ⊢ wp frame (wpE (defs₀ (F := F)) 𝒱₀ (c : Thread nD τ) none) Set.univ
    (k2_part39 i a1 h1 a2 h2 a3 h3 a4 h4 a5 h5 a6 h6 a7 h7 (Memref.whole bO) h8 (Memref.whole bG) h9 cc2_scratch2 cc2_scratch3)
    (fun r => iprop(⌜r.2.1 = c ∧ r.2.2.2.2.2.2.2.2.2.2.2.2.2 = u⌝ ∗ Inv v κ ∗ PendK c k ∗ Ow c (oweF c k.val) ∗ X))

set_option maxHeartbeats 2000000 in
/-- A point that is not the last. -/
theorem body_send (k : Fin 8) (hk : (i 0).val = k.val) (hv : ∀ i, v.gF (pe i c) = v.gF c) (hc : ¬ k2_cond2 i = 1#1) {P X : sProp 𝕄} {u : FVec F S256x512 .f32}
    (hu : ∀ (inb : ∀ a, k2_off1 i c a + S1x256x512.size a ≤ S4x256x4096.size a) (x : S1x256x512.Idx), k2_pay65 u x = v.gF c ((Rect.unit (s := S4x256x4096) (k2_off1 i c) S1x256x512.size inb).emb x))
    (hf : Front v κ (c := c) i h1 h2 h3 h4 h5 h6 h7 h8 h9 k P X u) :
    P ⊢ wp frame (wpE (defs₀ (F := F)) 𝒱₀ (c : Thread nD τ) none) Set.univ
      (cc2__attn_wo_body i a1 h1 a2 h2 a3 h3 a4 h4 a5 h5 a6 h6 a7 h7 (Memref.whole bO) h8 (Memref.whole bG) h9 cc2_scratch2 cc2_scratch3)
      (fun _ => iprop(DoneK v c k ∗ Ow c (oweF c (k.val + 1)) ∗ X)) := by
  rw [cc2__attn_wo_body_eq_skeleton]; unfold cc2__attn_wo_body_skel
  refine bindI hf ?_
  rintro ⟨arg0, d0, v2, v5, v8, v10, v11, v14, v15, v18, v19, v20, v24, v31⟩
  dsimp only
  rw [k2_part40_eq_skeleton]
  unfold k2_part40_skel
  simp only [Prog.lift, Prog.bind_op, Prog.bind_ret, Prog.pure_eq_ret]
  rw [dif_neg hc]
  iintro ⟨%hr, #HI, HP, HO, HX⟩
  obtain ⟨rfl, rfl⟩ := hr
  have e1 := off1_gr i d0
  have e3 := off3_gr i d0
  have f0 := k2_off2_eq i
  have f1 := k2_off4_eq i
  have f2 := k2_off5_eq i
  rw [hk] at e1 e3 f0 f1 f2
  iapply (chunk2 v κ k hv e1 e3 (hu _) (Fin.ext (k2_dev4_pe _)) (Fin.ext (k2_dev5_pe _)) (Fin.ext (k2_dev6_pe _))
    (sem_s2 0 k f0) (sem_r2 0 k f0) (sem_s2 1 k f1) (sem_r2 1 k f1) (sem_s2 2 k f2) (sem_r2 2 k f2)) $$ [HP HO]
  · isplitr; · iexact HI
    isplitl [HP]; · iexact HP
    iexact HO
  iintro ⟨HD, HO⟩
  rw [wp_ret]; imodintro
  isplitl [HD]; · iexact HD
  isplitl [HO]; · iexact HO
  iexact HX

set_option maxHeartbeats 8000000 in
/-- The last point. -/
theorem body_last (k : Fin 8) (hk : (i 0).val = k.val) (hk7 : k.val = 7) (hv : ∀ i, v.gF (pe i c) = v.gF c) (hc : k2_cond2 i = 1#1) {P X : sProp 𝕄} {u : FVec F S256x512 .f32}
    (hu : ∀ (inb : ∀ a, k2_off1 i c a + S1x256x512.size a ≤ S4x256x4096.size a) (x : S1x256x512.Idx), k2_pay65 u x = v.gF c ((Rect.unit (s := S4x256x4096) (k2_off1 i c) S1x256x512.size inb).emb x))
    (hf : Front v κ (c := c) i h1 h2 h3 h4 h5 h6 h7 h8 h9 k P
      iprop(bigSep (rangeSet 8 0 7) (DoneK v c) ∗ EndS c ∗ EndR c ∗ (∃ f, owns (c : Thread nD τ) a7 fullShare f) ∗ X) u) :
    P ⊢ wp frame (wpE (defs₀ (F := F)) 𝒱₀ (c : Thread nD τ) none) Set.univ
      (cc2__attn_wo_body i a1 h1 a2 h2 a3 h3 a4 h4 a5 h5 a6 h6 a7 h7 (Memref.whole bO) h8 (Memref.whole bG) h9 cc2_scratch2 cc2_scratch3)
      (fun _ => iprop(Fin2 v c ∗ Ow c 0 ∗ owns (c : Thread nD τ) a7 fullShare (outF v c) ∗ X)) := by
  rw [cc2__attn_wo_body_eq_skeleton]; unfold cc2__attn_wo_body_skel
  refine bindI hf ?_
  rintro ⟨arg0, d0, v2, v5, v8, v10, v11, v14, v15, v18, v19, v20, v24, v31⟩
  dsimp only
  rw [k2_part40_eq_skeleton]
  unfold k2_part40_skel
  simp only [Prog.lift, Prog.bind_op, Prog.bind_ret, Prog.pure_eq_ret]
  rw [dif_pos hc]
  rw [k2_part22_eq_skeleton, k2_part23_eq_skeleton, k2_part24_eq_skeleton, k2_part25_eq_skeleton, k2_part26_eq_skeleton, k2_part27_eq_skeleton, k2_part28_eq_skeleton,
    k2_part29_eq_skeleton, k2_part30_eq_skeleton, k2_part31_eq_skeleton, k2_part32_eq_skeleton, k2_part33_eq_skeleton, k2_part34_eq_skeleton, k2_part35_eq_skeleton,
    k2_part36_eq_skeleton, k2_part37_eq_skeleton, k2_part38_eq_skeleton]
  unfold k2_part22_skel k2_part23_skel k2_part24_skel k2_part25_skel k2_part26_skel k2_part27_skel k2_part28_skel k2_part29_skel k2_part30_skel k2_part31_skel k2_part32_skel
    k2_part33_skel k2_part34_skel k2_part35_skel k2_part36_skel k2_part37_skel k2_part38_skel
  simp only [Prog.lift, Prog.bind_op, Prog.bind_ret, Prog.pure_eq_ret]
  iintro ⟨%hr, #HI, HP, HO, HD, HES, HER, ⟨%f, H7⟩, HX⟩
  obtain ⟨rfl, rfl⟩ := hr
  have e1 := off1_gr i d0
  have e3 := off3_gr i d0
  have f0 := k2_off2_eq i
  have f1 := k2_off4_eq i
  have f2 := k2_off5_eq i
  rw [hk] at e1 e3 f0 f1 f2
  iapply (chunk2 v κ k hv e1 e3 (hu _) (Fin.ext (k2_dev4_pe _)) (Fin.ext (k2_dev5_pe _)) (Fin.ext (k2_dev6_pe _))
    (sem_s2 0 k f0) (sem_r2 0 k f0) (sem_s2 1 k f1) (sem_r2 1 k f1) (sem_s2 2 k f2) (sem_r2 2 k f2)) $$ [HP HO]
  · isplitr; · iexact HI
    isplitl [HP]; · iexact HP
    iexact HO
  iintro ⟨HDk, HO⟩
  ihave HO := (Entails.of_eq (show (Ow d0 (oweF d0 (k.val + 1)) : sProp 𝕄) = Ow d0 0 from by rw [hk7]; exact congrArg _ (oweF_end d0))) $$ HO
  ihave HD := (show iprop(DoneK v d0 k ∗ bigSep (rangeSet 8 0 7) (DoneK v d0)) ⊢ (bigSep Finset.univ (DoneK v d0) : sProp 𝕄) from by
    have e : (bigSep (rangeSet 8 0 8) (DoneK v d0) : sProp 𝕄) = iprop(DoneK v d0 7 ∗ bigSep (rangeSet 8 0 7) (DoneK v d0)) :=
      bigSep_rangeSet_last (lo := 0) (hi := 8) (by decide) (by decide)
    rw [← rangeSet_univ, e, show k = 7 from Fin.ext hk7]) $$ [HDk HD]
  · isplitl [HDk]; · iexact HDk
    iexact HD
  ihave HD := (open_last v (c := d0)) $$ [HD HES]
  · isplitl [HD]; · iexact HD
    iexact HES
  icases HD with ⟨Hown, HS⟩
  unfold EndR
  ihave HER := (Entails.of_eq (bigSep_fin3 _)) $$ HER
  icases HER with ⟨HR0, HR1, HR2⟩
  ihave HR0 := (WR_start v 0) $$ HR0
  ihave HR1 := (WR_start v 1) $$ HR1
  ihave HR2 := (WR_start v 2) $$ HR2
  iapply (ldG (le_of_eq (row_set (gr d0) (off6_gr d0)))) $$ Hown; iintro Hown
  iapply ld $$ H7; iintro H7
  iapply st $$ H7; iintro H7
  icombine HI HS HO as HS
  iapply (wS v κ 0 0 rfl (sem_s2 0 0 rfl) (sem_s2 1 0 rfl) (sem_s2 2 0 rfl) rfl rfl rfl) $$ HS; iintro HS
  iapply (wS v κ 1 1 rfl (sem_s2 0 1 rfl) (sem_s2 1 1 rfl) (sem_s2 2 1 rfl) rfl rfl rfl) $$ HS; iintro HS
  iapply (wS v κ 2 2 rfl (sem_s2 0 2 rfl) (sem_s2 1 2 rfl) (sem_s2 2 2 rfl) rfl rfl rfl) $$ HS; iintro HS
  iapply (wS v κ 3 3 rfl (sem_s2 0 3 rfl) (sem_s2 1 3 rfl) (sem_s2 2 3 rfl) rfl rfl rfl) $$ HS; iintro HS
  iapply (wS v κ 4 4 rfl (sem_s2 0 4 rfl) (sem_s2 1 4 rfl) (sem_s2 2 4 rfl) rfl rfl rfl) $$ HS; iintro HS
  iapply (wS v κ 5 5 rfl (sem_s2 0 5 rfl) (sem_s2 1 5 rfl) (sem_s2 2 5 rfl) rfl rfl rfl) $$ HS; iintro HS
  iapply (wS v κ 6 6 rfl (sem_s2 0 6 rfl) (sem_s2 1 6 rfl) (sem_s2 2 6 rfl) rfl rfl rfl) $$ HS; iintro HS
  iapply (wS v κ 7 7 rfl (sem_s2 0 7 rfl) (sem_s2 1 7 rfl) (sem_s2 2 7 rfl) rfl rfl rfl) $$ HS; iintro HS
  icases HS with ⟨-, HS, HO⟩
  icombine HI HR0 HO as HR0
  iapply (wR v κ 0 0 0 rfl (sem_r2 0 0 rfl) rfl) $$ HR0; iintro HR0
  iapply (wR v κ 0 1 1 rfl (sem_r2 0 1 rfl) rfl) $$ HR0; iintro HR0
  iapply (wR v κ 0 2 2 rfl (sem_r2 0 2 rfl) rfl) $$ HR0; iintro HR0
  iapply (wR v κ 0 3 3 rfl (sem_r2 0 3 rfl) rfl) $$ HR0; iintro HR0
  iapply (wR v κ 0 4 4 rfl (sem_r2 0 4 rfl) rfl) $$ HR0; iintro HR0
  iapply (wR v κ 0 5 5 rfl (sem_r2 0 5 rfl) rfl) $$ HR0; iintro HR0
  iapply (wR v κ 0 6 6 rfl (sem_r2 0 6 rfl) rfl) $$ HR0; iintro HR0
  iapply (wR v κ 0 7 7 rfl (sem_r2 0 7 rfl) rfl) $$ HR0; iintro HR0
  icases HR0 with ⟨-, HR0, HO⟩
  ihave HR0 := (WR_end v 0) $$ HR0
  icases HR0 with ⟨Hz0, HR0⟩
  iapply (ldG (le_of_eq (row_set (gr (pe 0 d0)) (off15_pe d0)))) $$ HR0; iintro HR0
  iapply ld $$ H7; iintro H7
  iapply st $$ H7; iintro H7
  icombine HI HR1 HO as HR1
  iapply (wR v κ 1 0 0 rfl (sem_r2 1 0 rfl) rfl) $$ HR1; iintro HR1
  iapply (wR v κ 1 1 1 rfl (sem_r2 1 1 rfl) rfl) $$ HR1; iintro HR1
  iapply (wR v κ 1 2 2 rfl (sem_r2 1 2 rfl) rfl) $$ HR1; iintro HR1
  iapply (wR v κ 1 3 3 rfl (sem_r2 1 3 rfl) rfl) $$ HR1; iintro HR1
  iapply (wR v κ 1 4 4 rfl (sem_r2 1 4 rfl) rfl) $$ HR1; iintro HR1
  iapply (wR v κ 1 5 5 rfl (sem_r2 1 5 rfl) rfl) $$ HR1; iintro HR1
  iapply (wR v κ 1 6 6 rfl (sem_r2 1 6 rfl) rfl) $$ HR1; iintro HR1
  iapply (wR v κ 1 7 7 rfl (sem_r2 1 7 rfl) rfl) $$ HR1; iintro HR1
  icases HR1 with ⟨-, HR1, HO⟩
  ihave HR1 := (WR_end v 1) $$ HR1
  icases HR1 with ⟨Hz1, HR1⟩
  iapply (ldG (le_of_eq (row_set (gr (pe 1 d0)) (off16_pe d0)))) $$ HR1; iintro HR1
  iapply ld $$ H7; iintro H7
  iapply st $$ H7; iintro H7
  icombine HI HR2 HO as HR2
  iapply (wR v κ 2 0 0 rfl (sem_r2 2 0 rfl) rfl) $$ HR2; iintro HR2
  iapply (wR v κ 2 1 1 rfl (sem_r2 2 1 rfl) rfl) $$ HR2; iintro HR2
  iapply (wR v κ 2 2 2 rfl (sem_r2 2 2 rfl) rfl) $$ HR2; iintro HR2
  iapply (wR v κ 2 3 3 rfl (sem_r2 2 3 rfl) rfl) $$ HR2; iintro HR2
  iapply (wR v κ 2 4 4 rfl (sem_r2 2 4 rfl) rfl) $$ HR2; iintro HR2
  iapply (wR v κ 2 5 5 rfl (sem_r2 2 5 rfl) rfl) $$ HR2; iintro HR2
  iapply (wR v κ 2 6 6 rfl (sem_r2 2 6 rfl) rfl) $$ HR2; iintro HR2
  iapply (wR v κ 2 7 7 rfl (sem_r2 2 7 rfl) rfl) $$ HR2; iintro HR2
  icases HR2 with ⟨-, HR2, HO⟩
  ihave HR2 := (WR_end v 2) $$ HR2
  icases HR2 with ⟨Hz2, HR2⟩
  iapply (ldG (le_of_eq (row_set (gr (pe 2 d0)) (off17_pe d0)))) $$ HR2; iintro HR2
  iapply ld $$ H7; iintro H7
  iapply st $$ H7; iintro H7
  rw [wp_ret]; imodintro
  ihave HS := (WS_end v) $$ HS
  icases HS with ⟨Hzs, Hq0, Hq1, Hq2⟩
  unfold Fin2
  isplitr [HO H7 HX]
  · isplitl [Hzs]; · iexact Hzs
    isplitl [Hz0 Hz1 Hz2]
    · iapply (Entails.of_eq (bigSep_fin3 _).symm)
      isplitl [Hz0]; · iexact Hz0
      isplitl [Hz1]; · iexact Hz1
      iexact Hz2
    iapply (Entails.of_eq (gath_eq d0 fullShare (v.gF d0)).symm)
    isplitl [Hown Hq0 Hq1 Hq2]
    · iapply (Entails.of_eq (shares_eq d0 (rowG (gr d0)) (v.gF d0)).symm)
      isplitl [Hq0]; · iexact Hq0
      isplitl [Hq1]; · iexact Hq1
      isplitl [Hq2]; · iexact Hq2
      iexact Hown
    isplitl [HR0]; · iexact HR0
    isplitl [HR1]; · iexact HR1
    iexact HR2
  isplitl [HO]; · iexact HO
  isplitl [H7]
  · iapply (Entails.of_eq (congrArg (owns (d0 : Thread nD τ) a7 fullShare) (rows_all v (off6_gr d0) (off15_pe d0) (off16_pe d0) (off17_pe d0) f)))
    iexact H7
  iexact HX

end Cert.KernelIdeal.Hand

end
-- ==== Proof.Cont.lean ====
/-
  The contents the three calls leave, and the calls' proof data's blocks.
-/
module

public import proofs.«01_k».proof.Proof.Call2E
public import proofs.«01_k».proof.Proof.Gen.KernelIdeal.Regions
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (m : (ℓ : Loc nD τ sig) → Buf (Elt F) ℓ)

/-- An index of two coordinates. -/
def duo {d : Fin 2 → ℕ} (a : Fin (d 0)) (b : Fin (d 1)) : (⟨2, d⟩ : Shape).Idx
  | 0 => a
  | 1 => b

/-- The device of c's group whose first coordinate is x. -/
def xdev (x : Fin 2) (c : Dev nD) : Dev nD := ⟨4 * x.val + c.val % 4, by have := x.isLt; show _ < 8; omega⟩

/-- Columns 512 j … of an array. -/
def blkC {n : ℕ} (w : FVec F ⟨2, ![4096, n]⟩ .bf16) (j : ℕ) (h : 512 * j + 512 ≤ n) : FVec F S4096x512 .bf16 := fun y =>
  w (duo (d := ![4096, n]) (y 0) ⟨512 * j + (y 1).val, by have : (y 1).val < 512 := (y 1).isLt; show _ < n; omega⟩)

/-! ## Call 0 -/

/-- The device's batch element, as the host stretch leaves it. -/
def xi (c : Dev nD) : FVec F S256x4096 .bf16 := V2 m c main_v11
def wdkv (c : Dev nD) : FVec F S4096x128 .bf16 := m ((c : Thread nD τ).loc main_arg1)
def wuk (c : Dev nD) : FVec F S128x4096 .bf16 := m ((c : Thread nD τ).loc main_arg2)
def wuv (c : Dev nD) : FVec F S128x4096 .bf16 := m ((c : Thread nD τ).loc main_arg3)
def wq (c : Dev nD) : FVec F S4096x4096 .bf16 := m ((c : Thread nD τ).loc main_arg4)
def wqr (c : Dev nD) : FVec F S4096x2048 .bf16 := m ((c : Thread nD τ).loc main_arg5)
def wkr (c : Dev nD) : FVec F S4096x64 .bf16 := m ((c : Thread nD τ).loc main_arg6)
def wo (c : Dev nD) : FVec F S4096x4096 .bf16 := m ((c : Thread nD τ).loc main_arg7)
def cO (c : Dev nD) : FVec F S256x128 .bf16 := k0_pay2 (xi m c) (wdkv m c)
def krO (c : Dev nD) : FVec F S256x64 .bf16 := k0_pay3 (xi m c) (wkr m c)
def xbO (c : Dev nD) : FVec F S256x4096 .bf16 := k0_pay1 (xi m c)

/-- The unscoped buffers after call 0. -/
def W3 (c : Dev nD) : Valuation τ sig (Elt F) :=
  Function.update (Function.update (Function.update (V2 m c) main_v12_0 (cO m c)) main_v12_1 (krO m c)) main_v12_2 (xbO m c)

/-! ## Call 1 -/

def cF (c : Dev nD) : FVec F S2x256x128 .bf16 := fun i => k1_pay3 (cO m (xdev (i 0) c)) (tri (d := ![1, 256, 128]) (0 : Fin 1) (i 1) (i 2))
def uF (c : Dev nD) : FVec F S2x128x4096 .bf16 := fun i => k1_pay4 (wuk m (xdev (i 0) c)) (tri (d := ![1, 128, 4096]) (0 : Fin 1) (i 1) (i 2))
def vF (c : Dev nD) : FVec F S2x128x4096 .bf16 := fun i => k1_pay5 (wuv m (xdev (i 0) c)) (tri (d := ![1, 128, 4096]) (0 : Fin 1) (i 1) (i 2))
/-- Slot s of a buffer. -/
def slotOf {n k : ℕ} (f : FVec F ⟨3, ![2, n, k]⟩ .bf16) (s : Fin 2) : FVec F ⟨3, ![1, n, k]⟩ .bf16 := fun y => f (tri (d := ![2, n, k]) s (y 1) (y 2))
/-- Two halves of columns side by side. -/
def halves (a b : FVec F S256x2048 .bf16) : FVec F S256x4096 .bf16 := fun j =>
  if h : (j 1).val < 2048 then a (duo (d := ![256, 2048]) (j 0) ⟨(j 1).val, h⟩)
  else b (duo (d := ![256, 2048]) (j 0) ⟨(j 1).val - 2048, by have : (j 1).val < 4096 := (j 1).isLt; show _ < 2048; omega⟩)
def kO (c : Dev nD) : FVec F S256x4096 .bf16 :=
  halves (k1_pay7 (k1_pay6 (slotOf (cF m c) 0)) (slotOf (uF m c) 0) (slotOf (cF m c) 1) (slotOf (uF m c) 1))
    (k1_pay10 (k1_pay9 (slotOf (cF m c) 0)) (slotOf (uF m c) 0) (slotOf (cF m c) 1) (slotOf (uF m c) 1))
def vO (c : Dev nD) : FVec F S256x4096 .bf16 :=
  halves (k1_pay8 (slotOf (cF m c) 0) (slotOf (vF m c) 0) (slotOf (cF m c) 1) (slotOf (vF m c) 1))
    (k1_pay11 (slotOf (cF m c) 0) (slotOf (vF m c) 0) (slotOf (cF m c) 1) (slotOf (vF m c) 1))
theorem div512 {n : ℕ} (x : Fin (512 * n)) : 512 * (x.val / 512) + 512 ≤ 512 * n := by have := x.isLt; omega
def qO (c : Dev nD) : FVec F S256x4096 .bf16 := fun j =>
  k1_pay1 (xbO m c) (blkC (wq m c) ((j 1).val / 512) (div512 (n := 8) (j 1))) (duo (d := ![256, 512]) (j 0) ⟨(j 1).val % 512, Nat.mod_lt _ (by decide)⟩)
def qrO (c : Dev nD) : FVec F S256x2048 .bf16 := fun j =>
  k1_pay2 (xbO m c) (blkC (wqr m c) ((j 1).val / 512) (div512 (n := 4) (j 1))) (duo (d := ![256, 512]) (j 0) ⟨(j 1).val % 512, Nat.mod_lt _ (by decide)⟩)

/-- The unscoped buffers after call 1. -/
def W4 (c : Dev nD) : Valuation τ sig (Elt F) :=
  Function.update (Function.update (Function.update (Function.update (W3 m c) main_v13_0 (kO m c)) main_v13_1 (vO m c)) main_v13_2 (qO m c)) main_v13_3 (qrO m c)

/-! ## Call 2 -/

def oF (c : Dev nD) : FVec F S256x4096 .bf16 := attO (qO m c) (kO m c) (vO m c) (qrO m c) (krO m c)
def gF (c : Dev nD) : FVec F S4x256x4096 .bf16 := fun i =>
  k2_pay65 (k2_pay64 (oF m (at4 c (i 0).val (i 0).isLt)) (blkC (wo m (at4 c (i 0).val (i 0).isLt)) ((i 2).val / 512) (div512 (n := 8) (i 2))))
    (tri (d := ![1, 256, 512]) (0 : Fin 1) (i 1) ⟨(i 2).val % 512, Nat.mod_lt _ (by decide)⟩)

/-- Everything the devices exchange. -/
def vals : Vals F := ⟨cF m, uF m, vF m, gF m⟩

/-- The unscoped buffers after call 2. -/
def W5 (c : Dev nD) : Valuation τ sig (Elt F) := Function.update (W4 m c) main_v14 (outF (vals m) c)

/-! ## The valuations at the calls' arrays -/

theorem V2_arg (c : Dev nD) (b : Ref sig .tc) (h0 : b ∉ hostOps0_W) (h1 : b ∉ hostOps0_1_W) : V2 m c b = m ((c : Thread nD τ).loc b) :=
  (V2_of m c b h1).trans ((V1_of m c b h0).trans rfl)
theorem W3_of (c : Dev nD) (r : Ref sig .tc) (h : r ∉ ([main_v12_0, main_v12_1, main_v12_2] : List (Ref sig .tc))) : W3 m c r = V2 m c r := by
  simp only [W3, Function.update_of_ne (StableHlo.devRef_ne_of_ne (List.ne_of_not_mem_cons h) : (Proc.devRef .tc r : DevRef τ sig) ≠ Proc.devRef .tc main_v12_0), Function.update_of_ne (StableHlo.devRef_ne_of_ne (List.ne_of_not_mem_cons (List.not_mem_of_not_mem_cons h)) : (Proc.devRef .tc r : DevRef τ sig) ≠ Proc.devRef .tc main_v12_1), Function.update_of_ne (StableHlo.devRef_ne_of_ne (List.ne_of_not_mem_cons (List.not_mem_of_not_mem_cons (List.not_mem_of_not_mem_cons h))) : (Proc.devRef .tc r : DevRef τ sig) ≠ Proc.devRef .tc main_v12_2)]
theorem W3_v12_0 (c : Dev nD) : W3 m c main_v12_0 = cO m c := by
  unfold W3
  rw [Function.update_of_ne (StableHlo.devRef_ne_of_ne (by decide) : (Proc.devRef .tc main_v12_0 : DevRef τ sig) ≠ Proc.devRef .tc main_v12_2), Function.update_of_ne (StableHlo.devRef_ne_of_ne (by decide) : (Proc.devRef .tc main_v12_0 : DevRef τ sig) ≠ Proc.devRef .tc main_v12_1), Function.update_self]
theorem W3_v12_1 (c : Dev nD) : W3 m c main_v12_1 = krO m c := by
  unfold W3
  rw [Function.update_of_ne (StableHlo.devRef_ne_of_ne (by decide) : (Proc.devRef .tc main_v12_1 : DevRef τ sig) ≠ Proc.devRef .tc main_v12_2), Function.update_self]
theorem W3_v12_2 (c : Dev nD) : W3 m c main_v12_2 = xbO m c := by
  unfold W3
  rw [Function.update_self]
theorem W4_of (c : Dev nD) (r : Ref sig .tc) (h : r ∉ ([main_v13_0, main_v13_1, main_v13_2, main_v13_3] : List (Ref sig .tc))) : W4 m c r = W3 m c r := by
  simp only [W4, Function.update_of_ne (StableHlo.devRef_ne_of_ne (List.ne_of_not_mem_cons h) : (Proc.devRef .tc r : DevRef τ sig) ≠ Proc.devRef .tc main_v13_0), Function.update_of_ne (StableHlo.devRef_ne_of_ne (List.ne_of_not_mem_cons (List.not_mem_of_not_mem_cons h)) : (Proc.devRef .tc r : DevRef τ sig) ≠ Proc.devRef .tc main_v13_1), Function.update_of_ne (StableHlo.devRef_ne_of_ne (List.ne_of_not_mem_cons (List.not_mem_of_not_mem_cons (List.not_mem_of_not_mem_cons h))) : (Proc.devRef .tc r : DevRef τ sig) ≠ Proc.devRef .tc main_v13_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v13_3)]
theorem W4_v13_0 (c : Dev nD) : W4 m c main_v13_0 = kO m c := by
  unfold W4
  rw [Function.update_of_ne (StableHlo.devRef_ne_of_ne (by decide) : (Proc.devRef .tc main_v13_0 : DevRef τ sig) ≠ Proc.devRef .tc main_v13_3), Function.update_of_ne (StableHlo.devRef_ne_of_ne (by decide) : (Proc.devRef .tc main_v13_0 : DevRef τ sig) ≠ Proc.devRef .tc main_v13_2), Function.update_of_ne (StableHlo.devRef_ne_of_ne (by decide) : (Proc.devRef .tc main_v13_0 : DevRef τ sig) ≠ Proc.devRef .tc main_v13_1), Function.update_self]
theorem W4_v13_1 (c : Dev nD) : W4 m c main_v13_1 = vO m c := by
  unfold W4
  rw [Function.update_of_ne (StableHlo.devRef_ne_of_ne (by decide) : (Proc.devRef .tc main_v13_1 : DevRef τ sig) ≠ Proc.devRef .tc main_v13_3), Function.update_of_ne (StableHlo.devRef_ne_of_ne (by decide) : (Proc.devRef .tc main_v13_1 : DevRef τ sig) ≠ Proc.devRef .tc main_v13_2), Function.update_self]
theorem W4_v13_2 (c : Dev nD) : W4 m c main_v13_2 = qO m c := by
  unfold W4
  rw [Function.update_of_ne (StableHlo.devRef_ne_of_ne (by decide) : (Proc.devRef .tc main_v13_2 : DevRef τ sig) ≠ Proc.devRef .tc main_v13_3), Function.update_self]
theorem W4_v13_3 (c : Dev nD) : W4 m c main_v13_3 = qrO m c := by
  unfold W4
  rw [Function.update_self]
theorem W5_of (c : Dev nD) (r : Ref sig .tc) (h : r ∉ ([main_v14] : List (Ref sig .tc))) : W5 m c r = W4 m c r := by
  simp only [W5, Function.update_of_ne (StableHlo.devRef_ne_of_ne (List.ne_of_not_mem_cons h) : (Proc.devRef .tc r : DevRef τ sig) ≠ Proc.devRef .tc main_v14)]
theorem W5_v14 (c : Dev nD) : W5 m c main_v14 = outF (vals m) c := by
  unfold W5
  rw [Function.update_self]

/-! ## What the calls' threads hold between their points -/

/-- The invariants and the levels. -/
def Inv' : sProp 𝕄 := iprop((∃ κ, Inv (vals m) κ) ∗ levAts L lv)
/-- What the launch keeps for call 2. -/
def Keep2 (c : Dev nD) : sProp 𝕄 :=
  iprop(atPos ER (bar1 c) 0 ∅ 0 ∗ cred (tallyAt (bar1 c) () 3)
    ∗ bigSep Finset.univ (fun i : Fin 3 => dutyTok ER (bar1 (pe i c)) 0 i)
    ∗ bigSep Finset.univ (fun k : Fin 8 => bigSep Finset.univ fun i : Fin 3 => iprop(dutyTok ER (s2C c i k) 0 0 ∗ dutyTok ER (r2C (pe i c) i k) 0 0))
    ∗ bigSep Finset.univ (fun k : Fin 8 => bigSep Finset.univ fun i : Fin 3 => openTok ER (s2C c i k))
    ∗ bigSep Finset.univ (fun i : Fin 3 => bigSep Finset.univ fun k : Fin 8 => iprop(openTok ER (r2C c i k) ∗ cred (tallyAt (r2C c i k) () n2))))
/-- What the launch keeps for call 1. -/
def Keep1 (c : Dev nD) : sProp 𝕄 :=
  iprop(atPos ER (bar0 c) 0 ∅ 0 ∗ cred (tallyAt (bar0 c) () 1) ∗ dutyTok ER (bar0 (px c)) 0 0
    ∗ bigSep Finset.univ (fun a : Fin 3 => iprop(dutyTok ER (s1C c a) 0 0 ∗ dutyTok ER (r1C (px c) a) 0 0))
    ∗ bigSep Finset.univ (fun a : Fin 3 => openTok ER (s1C c a))
    ∗ bigSep Finset.univ (fun a : Fin 3 => iprop(openTok ER (r1C c a) ∗ cred (tallyAt (r1C c a) () (n1 a)))))

/-- Call 1 before its first point: the barrier, the copies' duties and the cells' positions. -/
def St1 (c : Dev nD) : sProp 𝕄 :=
  iprop(atPos ER (bar0 c) 0 ∅ 0 ∗ cred (tallyAt (bar0 c) () 1) ∗ dutyTok ER (bar0 (px c)) 0 0
    ∗ bigSep Finset.univ (fun a : Fin 3 => iprop(dutyTok ER (s1C c a) 0 0 ∗ dutyTok ER (r1C (px c) a) 0 0 ∗ reached ER (s1C c a) 0))
    ∗ bigSep Finset.univ (fun a : Fin 3 => reached ER (r1C c a) 0))
/-- The copies' cells of call 1 before their waits. -/
def EndR1 (c : Dev nD) : sProp 𝕄 :=
  bigSep Finset.univ fun a : Fin 3 => iprop(cred (tallyAt (r1C c a) () (n1 a)) ∗ atPos ER (r1C c a) 0 ∅ 0 ∗ atPos ER (s1C c a) 0 ∅ 0)
/-- Behind the sends of call 1. -/
def Mid1 (c : Dev nD) : sProp 𝕄 := bigSep Finset.univ fun a : Fin 3 => cred (tallyAt (s1C c a) () (n1 a))
/-- The copies' cells of call 1 behind their waits. -/
def Sems1 (c : Dev nD) : sProp 𝕄 := bigSep Finset.univ fun a : Fin 3 => iprop(semVal (s1C c a) 0 ∗ semVal (r1C c a) 0)
/-- The three scratch buffers of call 1 at what they come to hold. -/
def Full1 (c : Dev nD) : sProp 𝕄 := iprop(pc c bC Finset.univ fullShare (cF m c) ∗ pc c bU Finset.univ fullShare (uF m c) ∗ pc c bV Finset.univ fullShare (vF m c))
def Any1 (c : Dev nD) : sProp 𝕄 := iprop(pcAny c bC Finset.univ ∗ pcAny c bU Finset.univ ∗ pcAny c bV Finset.univ)

/-- What a call's points do not touch. -/
def rest1 (c : Dev nD) : sProp 𝕄 := iprop((∃ r, prngReg c r) ∗ Pipeline.scopedRestBut spec1 c [cc1_scratch0, cc1_scratch1, cc1_scratch2])
def rest2 (c : Dev nD) : sProp 𝕄 := iprop((∃ r, prngReg c r) ∗ Pipeline.scopedRestBut spec2 c [cc2_scratch0, cc2_scratch1])

/-- The state of call 1 before point t. -/
def Phi1 (c : Dev nD) (t : ℕ) : sProp 𝕄 :=
  if t = 0 then iprop(Inv' m ∗ rest1 c ∗ EndR1 c ∗ St1 c ∗ Any1 c)
  else if t < 12 then iprop(Inv' m ∗ rest1 c ∗ EndR1 c ∗ semVal (bar0 c) 0 ∗ Mid1 c)
  else iprop(rest1 c ∗ semVal (bar0 c) 0 ∗ Sems1 c ∗ Full1 m c)
/-- Of call 2 before point t. -/
def Phi2 (c : Dev nD) (t : ℕ) : sProp 𝕄 :=
  if t = 0 then iprop(Inv' m ∗ rest2 c ∗ EndS c ∗ EndR c ∗ St2 c ∗ pcAny c bO Finset.univ)
  else if t < 8 then iprop(Inv' m ∗ rest2 c ∗ EndS c ∗ EndR c ∗ semVal (bar1 c) 0 ∗ M2 (vals m) c t ∗ pc c bO Finset.univ fullShare (oF m c))
  else iprop(rest2 c ∗ semVal (bar1 c) 0 ∗ Fin2 (vals m) c ∗ pc c bO Finset.univ fullShare (oF m c))

/-! ## The data -/

theorem e0_0 : ∀ t : Fin cfg0.N, win0_0.index t = ![0, 0] := (by decide +kernel : ∀ t : Fin grid0.N, _)
theorem e0_1 : ∀ t : Fin cfg0.N, win0_1.index t = ![0, 0] := (by decide +kernel : ∀ t : Fin grid0.N, _)
theorem e0_2 : ∀ t : Fin cfg0.N, win0_2.index t = ![0, 0] := (by decide +kernel : ∀ t : Fin grid0.N, _)
theorem e0_3 : ∀ t : Fin cfg0.N, win0_3.index t = ![0, 0] := (by decide +kernel : ∀ t : Fin grid0.N, _)
theorem e0_4 : ∀ t : Fin cfg0.N, win0_4.index t = ![0, 0] := (by decide +kernel : ∀ t : Fin grid0.N, _)
theorem e0_5 : ∀ t : Fin cfg0.N, win0_5.index t = ![0, 0] := (by decide +kernel : ∀ t : Fin grid0.N, _)
theorem e1_0 : ∀ t : Fin cfg1.N, win1_0.index t = ![0, 0] := (by decide +kernel : ∀ t : Fin grid1.N, _)
theorem e1_1 : ∀ t : Fin cfg1.N, win1_1.index t = ![0, 0] := (by decide +kernel : ∀ t : Fin grid1.N, _)
theorem e1_2 : ∀ t : Fin cfg1.N, win1_2.index t = ![0, 0] := (by decide +kernel : ∀ t : Fin grid1.N, _)
theorem e1_3 : ∀ t : Fin cfg1.N, win1_3.index t = ![0, 0] := (by decide +kernel : ∀ t : Fin grid1.N, _)
theorem e1_4 : ∀ t : Fin cfg1.N, win1_4.index t = ![0, min t.val 7] := (by decide +kernel : ∀ t : Fin grid1.N, _)
theorem e1_5 : ∀ t : Fin cfg1.N, win1_5.index t = ![0, min (t.val - 8) 3] := (by decide +kernel : ∀ t : Fin grid1.N, _)
theorem e1_6 : ∀ t : Fin cfg1.N, win1_6.index t = ![0, 0] := (by decide +kernel : ∀ t : Fin grid1.N, _)
theorem e1_7 : ∀ t : Fin cfg1.N, win1_7.index t = ![0, 0] := (by decide +kernel : ∀ t : Fin grid1.N, _)
theorem e1_8 : ∀ t : Fin cfg1.N, win1_8.index t = ![0, min t.val 7] := (by decide +kernel : ∀ t : Fin grid1.N, _)
theorem e1_9 : ∀ t : Fin cfg1.N, win1_9.index t = ![0, min (t.val - 8) 3] := (by decide +kernel : ∀ t : Fin grid1.N, _)
theorem e2_0 : ∀ t : Fin cfg2.N, win2_0.index t = ![0, 0] := (by decide +kernel : ∀ t : Fin grid2.N, _)
theorem e2_1 : ∀ t : Fin cfg2.N, win2_1.index t = ![0, 0] := (by decide +kernel : ∀ t : Fin grid2.N, _)
theorem e2_2 : ∀ t : Fin cfg2.N, win2_2.index t = ![0, 0] := (by decide +kernel : ∀ t : Fin grid2.N, _)
theorem e2_3 : ∀ t : Fin cfg2.N, win2_3.index t = ![0, 0] := (by decide +kernel : ∀ t : Fin grid2.N, _)
theorem e2_4 : ∀ t : Fin cfg2.N, win2_4.index t = ![0, 0] := (by decide +kernel : ∀ t : Fin grid2.N, _)
theorem e2_5 : ∀ t : Fin cfg2.N, win2_5.index t = ![0, t.val] := (by decide +kernel : ∀ t : Fin grid2.N, _)
theorem e2_6 : ∀ t : Fin cfg2.N, win2_6.index t = ![0, 0, 0] := (by decide +kernel : ∀ t : Fin grid2.N, _)

theorem lt8 (n : ℕ) : 512 * min n 7 + 512 ≤ 4096 := by omega
theorem lt4 (n : ℕ) : 512 * min n 3 + 512 ≤ 2048 := by omega
/-- The chunk of q that a point leaves in its window; of qr. -/
def qC (c : Dev nD) (j : ℕ) : FVec F S256x512 .bf16 := k1_pay1 (xbO m c) (blkC (wq m c) (min j 7) (lt8 j))
def qrC (c : Dev nD) (j : ℕ) : FVec F S256x512 .bf16 := k1_pay2 (xbO m c) (blkC (wqr m c) (min j 3) (lt4 j))

def dat0 (c : Dev nD) : Pipeline.Dat τ (Elt F) Unit ℕ UU ℕ cfg0 c where
  A w := V2 m c (Pipeline.arrRef spec0 w)
  after
    | 0, _ => xi m c
    | 1, _ => wdkv m c
    | 2, _ => wkr m c
    | 3, _ => cO m c
    | 4, _ => krO m c
    | 5, _ => xbO m c
  Φ _ := iprop(Pipeline.scopedRest spec0 c ∗ ∃ r, prngReg c r)
  q _ := fullShare
  owed _ := owe2 c + owe1 c

def dat1 (c : Dev nD) : Pipeline.Dat τ (Elt F) Unit ℕ UU ℕ cfg1 c where
  A w := W3 m c (Pipeline.arrRef spec1 w)
  after
    | 0, _ => cO m c
    | 1, _ => wuk m c
    | 2, _ => wuv m c
    | 3, _ => xbO m c
    | 4, t => blkC (wq m c) (min t.val 7) (lt8 _)
    | 5, t => blkC (wqr m c) (min (t.val - 8) 3) (lt4 _)
    | 6, _ => kO m c
    | 7, _ => vO m c
    | 8, t => qC m c t.val
    | 9, t => qrC m c (t.val - 8)
  Φ t := Phi1 m c t.val
  q _ := fullShare
  owed t := if t.val = 0 then owe2 c + owe1 c else owe2 c

def dat2 (c : Dev nD) : Pipeline.Dat τ (Elt F) Unit ℕ UU ℕ cfg2 c where
  A w := W4 m c (Pipeline.arrRef spec2 w)
  after
    | 0, _ => qO m c
    | 1, _ => kO m c
    | 2, _ => vO m c
    | 3, _ => qrO m c
    | 4, _ => krO m c
    | 5, t => blkC (wo m c) (min t.val 7) (lt8 _)
    | 6, _ => outF (vals m) c
  Φ t := Phi2 m c t.val
  q _ := fullShare
  owed t := if t.val = 0 then owe2 c else oweF c t.val

def pdats : (p : Fin 3) → (c : Dev nD) → Pipeline.Dat τ (Elt F) Unit ℕ UU ℕ (cfgs p) c
  | 0, c => dat0 m c
  | 1, c => dat1 m c
  | 2, c => dat2 m c

/-! ## The blocks the windows bring in -/

theorem A0_0 (c : Dev nD) : (dat0 m c).A 0 = (xi m c) := rfl
theorem b0_0 (c : Dev nD) (t : Fin cfg0.N) : (dat0 m c).blockOf 0 t = xi m c := by
  unfold Pipeline.Dat.blockOf; rw [A0_0]; funext y
  blk_simp
  blk_ext [e0_0]
theorem bf0_0 (c : Dev nD) (t : Fin cfg0.N) (d) : (dat0 m c).before 0 t d = xi m c :=
  ((dat0 m c).before_in_eq_fetched 0 (hw := rfl) (hlive := fun _ => rfl) (hclip := fun _ _ _ => rfl) (hkeep := fun t => (b0_0 m c t).symm) t d).trans (b0_0 m c t)
theorem A0_1 (c : Dev nD) : (dat0 m c).A 1 = (wdkv m c) := (V2_arg m c main_arg1 (by decide) (by decide))
theorem b0_1 (c : Dev nD) (t : Fin cfg0.N) : (dat0 m c).blockOf 1 t = wdkv m c := by
  unfold Pipeline.Dat.blockOf; rw [A0_1]; funext y
  blk_simp
  blk_ext [e0_1]
theorem bf0_1 (c : Dev nD) (t : Fin cfg0.N) (d) : (dat0 m c).before 1 t d = wdkv m c :=
  ((dat0 m c).before_in_eq_fetched 1 (hw := rfl) (hlive := fun _ => rfl) (hclip := fun _ _ _ => rfl) (hkeep := fun t => (b0_1 m c t).symm) t d).trans (b0_1 m c t)
theorem A0_2 (c : Dev nD) : (dat0 m c).A 2 = (wkr m c) := (V2_arg m c main_arg6 (by decide) (by decide))
theorem b0_2 (c : Dev nD) (t : Fin cfg0.N) : (dat0 m c).blockOf 2 t = wkr m c := by
  unfold Pipeline.Dat.blockOf; rw [A0_2]; funext y
  blk_simp
  blk_ext [e0_2]
theorem bf0_2 (c : Dev nD) (t : Fin cfg0.N) (d) : (dat0 m c).before 2 t d = wkr m c :=
  ((dat0 m c).before_in_eq_fetched 2 (hw := rfl) (hlive := fun _ => rfl) (hclip := fun _ _ _ => rfl) (hkeep := fun t => (b0_2 m c t).symm) t d).trans (b0_2 m c t)
theorem A1_0 (c : Dev nD) : (dat1 m c).A 0 = (cO m c) := (W3_v12_0 m c)
theorem b1_0 (c : Dev nD) (t : Fin cfg1.N) : (dat1 m c).blockOf 0 t = cO m c := by
  unfold Pipeline.Dat.blockOf; rw [A1_0]; funext y
  blk_simp
  blk_ext [e1_0]
theorem bf1_0 (c : Dev nD) (t : Fin cfg1.N) (d) : (dat1 m c).before 0 t d = cO m c :=
  ((dat1 m c).before_in_eq_fetched 0 (hw := rfl) (hlive := fun _ => rfl) (hclip := fun _ _ _ => rfl) (hkeep := fun t => (b1_0 m c t).symm) t d).trans (b1_0 m c t)
theorem A1_1 (c : Dev nD) : (dat1 m c).A 1 = (wuk m c) := ((W3_of m c main_arg2 (by decide)).trans (V2_arg m c main_arg2 (by decide) (by decide)))
theorem b1_1 (c : Dev nD) (t : Fin cfg1.N) : (dat1 m c).blockOf 1 t = wuk m c := by
  unfold Pipeline.Dat.blockOf; rw [A1_1]; funext y
  blk_simp
  blk_ext [e1_1]
theorem bf1_1 (c : Dev nD) (t : Fin cfg1.N) (d) : (dat1 m c).before 1 t d = wuk m c :=
  ((dat1 m c).before_in_eq_fetched 1 (hw := rfl) (hlive := fun _ => rfl) (hclip := fun _ _ _ => rfl) (hkeep := fun t => (b1_1 m c t).symm) t d).trans (b1_1 m c t)
theorem A1_2 (c : Dev nD) : (dat1 m c).A 2 = (wuv m c) := ((W3_of m c main_arg3 (by decide)).trans (V2_arg m c main_arg3 (by decide) (by decide)))
theorem b1_2 (c : Dev nD) (t : Fin cfg1.N) : (dat1 m c).blockOf 2 t = wuv m c := by
  unfold Pipeline.Dat.blockOf; rw [A1_2]; funext y
  blk_simp
  blk_ext [e1_2]
theorem bf1_2 (c : Dev nD) (t : Fin cfg1.N) (d) : (dat1 m c).before 2 t d = wuv m c :=
  ((dat1 m c).before_in_eq_fetched 2 (hw := rfl) (hlive := fun _ => rfl) (hclip := fun _ _ _ => rfl) (hkeep := fun t => (b1_2 m c t).symm) t d).trans (b1_2 m c t)
theorem A1_3 (c : Dev nD) : (dat1 m c).A 3 = (xbO m c) := (W3_v12_2 m c)
theorem b1_3 (c : Dev nD) (t : Fin cfg1.N) : (dat1 m c).blockOf 3 t = xbO m c := by
  unfold Pipeline.Dat.blockOf; rw [A1_3]; funext y
  blk_simp
  blk_ext [e1_3]
theorem bf1_3 (c : Dev nD) (t : Fin cfg1.N) (d) : (dat1 m c).before 3 t d = xbO m c :=
  ((dat1 m c).before_in_eq_fetched 3 (hw := rfl) (hlive := fun _ => rfl) (hclip := fun _ _ _ => rfl) (hkeep := fun t => (b1_3 m c t).symm) t d).trans (b1_3 m c t)
theorem A1_4 (c : Dev nD) : (dat1 m c).A 4 = (wq m c) := ((W3_of m c main_arg4 (by decide)).trans (V2_arg m c main_arg4 (by decide) (by decide)))
theorem b1_4 (c : Dev nD) (t : Fin cfg1.N) : (dat1 m c).blockOf 4 t = blkC (wq m c) (min t.val 7) (lt8 _) := by
  unfold Pipeline.Dat.blockOf; rw [A1_4]; funext y
  unfold blkC
  blk_ext [e1_4, duo]
theorem bf1_4 (c : Dev nD) (t : Fin cfg1.N) (d) : (dat1 m c).before 4 t d = blkC (wq m c) (min t.val 7) (lt8 _) :=
  ((dat1 m c).before_in_eq_fetched 4 (hw := rfl) (hlive := fun _ => rfl) (hclip := fun _ _ _ => rfl) (hkeep := fun t => (b1_4 m c t).symm) t d).trans (b1_4 m c t)
theorem A1_5 (c : Dev nD) : (dat1 m c).A 5 = (wqr m c) := ((W3_of m c main_arg5 (by decide)).trans (V2_arg m c main_arg5 (by decide) (by decide)))
theorem b1_5 (c : Dev nD) (t : Fin cfg1.N) : (dat1 m c).blockOf 5 t = blkC (wqr m c) (min (t.val - 8) 3) (lt4 _) := by
  unfold Pipeline.Dat.blockOf; rw [A1_5]; funext y
  unfold blkC
  blk_ext [e1_5, duo]
theorem bf1_5 (c : Dev nD) (t : Fin cfg1.N) (d) : (dat1 m c).before 5 t d = blkC (wqr m c) (min (t.val - 8) 3) (lt4 _) :=
  ((dat1 m c).before_in_eq_fetched 5 (hw := rfl) (hlive := fun _ => rfl) (hclip := fun _ _ _ => rfl) (hkeep := fun t => (b1_5 m c t).symm) t d).trans (b1_5 m c t)
theorem A2_0 (c : Dev nD) : (dat2 m c).A 0 = (qO m c) := (W4_v13_2 m c)
theorem b2_0 (c : Dev nD) (t : Fin cfg2.N) : (dat2 m c).blockOf 0 t = qO m c := by
  unfold Pipeline.Dat.blockOf; rw [A2_0]; funext y
  blk_simp
  blk_ext [e2_0]
theorem bf2_0 (c : Dev nD) (t : Fin cfg2.N) (d) : (dat2 m c).before 0 t d = qO m c :=
  ((dat2 m c).before_in_eq_fetched 0 (hw := rfl) (hlive := fun _ => rfl) (hclip := fun _ _ _ => rfl) (hkeep := fun t => (b2_0 m c t).symm) t d).trans (b2_0 m c t)
theorem A2_1 (c : Dev nD) : (dat2 m c).A 1 = (kO m c) := (W4_v13_0 m c)
theorem b2_1 (c : Dev nD) (t : Fin cfg2.N) : (dat2 m c).blockOf 1 t = kO m c := by
  unfold Pipeline.Dat.blockOf; rw [A2_1]; funext y
  blk_simp
  blk_ext [e2_1]
theorem bf2_1 (c : Dev nD) (t : Fin cfg2.N) (d) : (dat2 m c).before 1 t d = kO m c :=
  ((dat2 m c).before_in_eq_fetched 1 (hw := rfl) (hlive := fun _ => rfl) (hclip := fun _ _ _ => rfl) (hkeep := fun t => (b2_1 m c t).symm) t d).trans (b2_1 m c t)
theorem A2_2 (c : Dev nD) : (dat2 m c).A 2 = (vO m c) := (W4_v13_1 m c)
theorem b2_2 (c : Dev nD) (t : Fin cfg2.N) : (dat2 m c).blockOf 2 t = vO m c := by
  unfold Pipeline.Dat.blockOf; rw [A2_2]; funext y
  blk_simp
  blk_ext [e2_2]
theorem bf2_2 (c : Dev nD) (t : Fin cfg2.N) (d) : (dat2 m c).before 2 t d = vO m c :=
  ((dat2 m c).before_in_eq_fetched 2 (hw := rfl) (hlive := fun _ => rfl) (hclip := fun _ _ _ => rfl) (hkeep := fun t => (b2_2 m c t).symm) t d).trans (b2_2 m c t)
theorem A2_3 (c : Dev nD) : (dat2 m c).A 3 = (qrO m c) := (W4_v13_3 m c)
theorem b2_3 (c : Dev nD) (t : Fin cfg2.N) : (dat2 m c).blockOf 3 t = qrO m c := by
  unfold Pipeline.Dat.blockOf; rw [A2_3]; funext y
  blk_simp
  blk_ext [e2_3]
theorem bf2_3 (c : Dev nD) (t : Fin cfg2.N) (d) : (dat2 m c).before 3 t d = qrO m c :=
  ((dat2 m c).before_in_eq_fetched 3 (hw := rfl) (hlive := fun _ => rfl) (hclip := fun _ _ _ => rfl) (hkeep := fun t => (b2_3 m c t).symm) t d).trans (b2_3 m c t)
theorem A2_4 (c : Dev nD) : (dat2 m c).A 4 = (krO m c) := ((W4_of m c main_v12_1 (by decide)).trans (W3_v12_1 m c))
theorem b2_4 (c : Dev nD) (t : Fin cfg2.N) : (dat2 m c).blockOf 4 t = krO m c := by
  unfold Pipeline.Dat.blockOf; rw [A2_4]; funext y
  blk_simp
  blk_ext [e2_4]
theorem bf2_4 (c : Dev nD) (t : Fin cfg2.N) (d) : (dat2 m c).before 4 t d = krO m c :=
  ((dat2 m c).before_in_eq_fetched 4 (hw := rfl) (hlive := fun _ => rfl) (hclip := fun _ _ _ => rfl) (hkeep := fun t => (b2_4 m c t).symm) t d).trans (b2_4 m c t)
theorem A2_5 (c : Dev nD) : (dat2 m c).A 5 = (wo m c) := ((W4_of m c main_arg7 (by decide)).trans ((W3_of m c main_arg7 (by decide)).trans (V2_arg m c main_arg7 (by decide) (by decide))))
theorem b2_5 (c : Dev nD) (t : Fin cfg2.N) : (dat2 m c).blockOf 5 t = blkC (wo m c) (min t.val 7) (lt8 _) := by
  unfold Pipeline.Dat.blockOf; rw [A2_5]; funext y
  unfold blkC
  blk_ext [e2_5, duo]
theorem bf2_5 (c : Dev nD) (t : Fin cfg2.N) (d) : (dat2 m c).before 5 t d = blkC (wo m c) (min t.val 7) (lt8 _) :=
  ((dat2 m c).before_in_eq_fetched 5 (hw := rfl) (hlive := fun _ => rfl) (hclip := fun _ _ _ => rfl) (hkeep := fun t => (b2_5 m c t).symm) t d).trans (b2_5 m c t)

end Cert.KernelIdeal.Hand

end
-- ==== Proof.Call1A.lean ====
/-
Call 1's scratch buffers and exchange: slots as sets, loads and stores in them, the barrier and
the copy of a slot to the partner.
-/
module

public import proofs.«01_k».proof.Proof.Cont
public import proofs.«01_k».proof.Proof.Call2D

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

section
variable {c : Dev nD} {α : Type}

/-! ### The scratch buffers of call 1 -/

theorem ldC {r : LoadRect S2x256x128} {hl : (Memref.whole bC).view.LoadsAt r}
    {k : (r.shape.Idx → Elt F .bf16) → Prog (TpuEff nD τ sig (Elt F) Λ₀ .tc) α} {S : Finset S2x256x128.Idx} (hS : r.set ⊆ S)
    {q : PosShare TreeShare} {f : S2x256x128.Idx → Elt F .bf16} {Q : α → sProp 𝕄} :
    (pc c bC S q f : sProp 𝕄)
      ⊢ iprop((pc c bC S q f -∗ wp frame (wpE (defs₀ (F := F)) 𝒱₀ (c : Thread nD τ) none) Set.univ (k fun i => f (r.idx i)) Q)
        -∗ wp frame (wpE (defs₀ (F := F)) 𝒱₀ (c : Thread nD τ) none) Set.univ (.op (.load (cs := .vmem) (e := .bf16) (Memref.whole bC) r hl) k) Q) :=
  ldM (m := Memref.whole bC) (r := r) (hl := hl) (k := k) (S := S)
    (by intro x hx; obtain ⟨y, hy, rfl⟩ := Finset.mem_map.mp hx; exact hS hy) (f := f) (fun i => rfl)

theorem stC {r : Rect S2x256x128} {w : r.shape.Idx → Elt F .bf16} {hx : ((Memref.whole bC).access r).Stores Finset.univ}
    {hm : (Finset.univ : Finset r.shape.Idx) = Finset.univ ∨ ∀ a, r.stride a = 1}
    {k : PUnit → Prog (TpuEff nD τ sig (Elt F) Λ₀ .tc) α} {S : Finset S2x256x128.Idx} (hS : r.set = S)
    {f : S2x256x128.Idx → Elt F .bf16} (g : S2x256x128.Idx → Elt F .bf16) (hg : ∀ x, w x = g (r.emb x)) {Q : α → sProp 𝕄} :
    (pc c bC S fullShare f : sProp 𝕄)
      ⊢ iprop((pc c bC S fullShare g -∗ wp frame (wpE (defs₀ (F := F)) 𝒱₀ (c : Thread nD τ) none) Set.univ (k ⟨⟩) Q)
        -∗ wp frame (wpE (defs₀ (F := F)) 𝒱₀ (c : Thread nD τ) none) Set.univ
          (.op (.store (cs := .vmem) (e := .bf16) (Memref.whole bC) r w Finset.univ hx hm) k) Q) :=
  stM (m := Memref.whole bC) (r := r) (hx := hx) (hm := hm) (k := k) (S := S) (by rw [← hS]; exact View.set_slice_whole bC r) (f := f) g hg

theorem ldU {r : LoadRect S2x128x4096} {hl : (Memref.whole bU).view.LoadsAt r}
    {k : (r.shape.Idx → Elt F .bf16) → Prog (TpuEff nD τ sig (Elt F) Λ₀ .tc) α} {S : Finset S2x128x4096.Idx} (hS : r.set ⊆ S)
    {q : PosShare TreeShare} {f : S2x128x4096.Idx → Elt F .bf16} {Q : α → sProp 𝕄} :
    (pc c bU S q f : sProp 𝕄)
      ⊢ iprop((pc c bU S q f -∗ wp frame (wpE (defs₀ (F := F)) 𝒱₀ (c : Thread nD τ) none) Set.univ (k fun i => f (r.idx i)) Q)
        -∗ wp frame (wpE (defs₀ (F := F)) 𝒱₀ (c : Thread nD τ) none) Set.univ (.op (.load (cs := .vmem) (e := .bf16) (Memref.whole bU) r hl) k) Q) :=
  ldM (m := Memref.whole bU) (r := r) (hl := hl) (k := k) (S := S)
    (by intro x hx; obtain ⟨y, hy, rfl⟩ := Finset.mem_map.mp hx; exact hS hy) (f := f) (fun i => rfl)

theorem stU {r : Rect S2x128x4096} {w : r.shape.Idx → Elt F .bf16} {hx : ((Memref.whole bU).access r).Stores Finset.univ}
    {hm : (Finset.univ : Finset r.shape.Idx) = Finset.univ ∨ ∀ a, r.stride a = 1}
    {k : PUnit → Prog (TpuEff nD τ sig (Elt F) Λ₀ .tc) α} {S : Finset S2x128x4096.Idx} (hS : r.set = S)
    {f : S2x128x4096.Idx → Elt F .bf16} (g : S2x128x4096.Idx → Elt F .bf16) (hg : ∀ x, w x = g (r.emb x)) {Q : α → sProp 𝕄} :
    (pc c bU S fullShare f : sProp 𝕄)
      ⊢ iprop((pc c bU S fullShare g -∗ wp frame (wpE (defs₀ (F := F)) 𝒱₀ (c : Thread nD τ) none) Set.univ (k ⟨⟩) Q)
        -∗ wp frame (wpE (defs₀ (F := F)) 𝒱₀ (c : Thread nD τ) none) Set.univ
          (.op (.store (cs := .vmem) (e := .bf16) (Memref.whole bU) r w Finset.univ hx hm) k) Q) :=
  stM (m := Memref.whole bU) (r := r) (hx := hx) (hm := hm) (k := k) (S := S) (by rw [← hS]; exact View.set_slice_whole bU r) (f := f) g hg

theorem ldV {r : LoadRect S2x128x4096} {hl : (Memref.whole bV).view.LoadsAt r}
    {k : (r.shape.Idx → Elt F .bf16) → Prog (TpuEff nD τ sig (Elt F) Λ₀ .tc) α} {S : Finset S2x128x4096.Idx} (hS : r.set ⊆ S)
    {q : PosShare TreeShare} {f : S2x128x4096.Idx → Elt F .bf16} {Q : α → sProp 𝕄} :
    (pc c bV S q f : sProp 𝕄)
      ⊢ iprop((pc c bV S q f -∗ wp frame (wpE (defs₀ (F := F)) 𝒱₀ (c : Thread nD τ) none) Set.univ (k fun i => f (r.idx i)) Q)
        -∗ wp frame (wpE (defs₀ (F := F)) 𝒱₀ (c : Thread nD τ) none) Set.univ (.op (.load (cs := .vmem) (e := .bf16) (Memref.whole bV) r hl) k) Q) :=
  ldM (m := Memref.whole bV) (r := r) (hl := hl) (k := k) (S := S)
    (by intro x hx; obtain ⟨y, hy, rfl⟩ := Finset.mem_map.mp hx; exact hS hy) (f := f) (fun i => rfl)

theorem stV {r : Rect S2x128x4096} {w : r.shape.Idx → Elt F .bf16} {hx : ((Memref.whole bV).access r).Stores Finset.univ}
    {hm : (Finset.univ : Finset r.shape.Idx) = Finset.univ ∨ ∀ a, r.stride a = 1}
    {k : PUnit → Prog (TpuEff nD τ sig (Elt F) Λ₀ .tc) α} {S : Finset S2x128x4096.Idx} (hS : r.set = S)
    {f : S2x128x4096.Idx → Elt F .bf16} (g : S2x128x4096.Idx → Elt F .bf16) (hg : ∀ x, w x = g (r.emb x)) {Q : α → sProp 𝕄} :
    (pc c bV S fullShare f : sProp 𝕄)
      ⊢ iprop((pc c bV S fullShare g -∗ wp frame (wpE (defs₀ (F := F)) 𝒱₀ (c : Thread nD τ) none) Set.univ (k ⟨⟩) Q)
        -∗ wp frame (wpE (defs₀ (F := F)) 𝒱₀ (c : Thread nD τ) none) Set.univ
          (.op (.store (cs := .vmem) (e := .bf16) (Memref.whole bV) r w Finset.univ hx hm) k) Q) :=
  stM (m := Memref.whole bV) (r := r) (hx := hx) (hm := hm) (k := k) (S := S) (by rw [← hS]; exact View.set_slice_whole bV r) (f := f) g hg

theorem setslC {off : Fin 3 → ℕ} {inb : ∀ a, off a + S1x256x128.size a ≤ S2x256x128.size a} (x : ℕ) (ho : off = ![x, 0, 0]) :
    (Rect.unit (s := S2x256x128) off S1x256x128.size inb).set = slC x := by
  subst ho
  ext i
  rw [Rect.mem_set_unit, mem_slC]
  have h1 : (i 1).val < 256 := (i 1).isLt
  have h2 : (i 2).val < 128 := (i 2).isLt
  constructor
  · intro h
    have h0 := h 0
    change x ≤ (i 0).val ∧ (i 0).val < x + 1 at h0
    omega
  · rintro h0 a
    match a with
    | 0 => show x ≤ (i 0).val ∧ (i 0).val < x + 1; omega
    | 1 => show 0 ≤ (i 1).val ∧ (i 1).val < 0 + 256; omega
    | 2 => show 0 ≤ (i 2).val ∧ (i 2).val < 0 + 128; omega

theorem setslW {off : Fin 3 → ℕ} {inb : ∀ a, off a + S1x128x4096.size a ≤ S2x128x4096.size a} (x : ℕ) (ho : off = ![x, 0, 0]) :
    (Rect.unit (s := S2x128x4096) off S1x128x4096.size inb).set = slW x := by
  subst ho
  ext i
  rw [Rect.mem_set_unit, mem_slW]
  have h1 : (i 1).val < 128 := (i 1).isLt
  have h2 : (i 2).val < 4096 := (i 2).isLt
  constructor
  · intro h
    have h0 := h 0
    change x ≤ (i 0).val ∧ (i 0).val < x + 1 at h0
    omega
  · rintro h0 a
    match a with
    | 0 => show x ≤ (i 0).val ∧ (i 0).val < x + 1; omega
    | 1 => show 0 ≤ (i 1).val ∧ (i 1).val < 0 + 128; omega
    | 2 => show 0 ≤ (i 2).val ∧ (i 2).val < 0 + 4096; omega

theorem coverslC (c : Dev nD) : slC (sx c) ∪ slC (sx (px c)) = Finset.univ := by
  ext i
  rw [Finset.mem_union, mem_slC, mem_slC, sx_px]
  have h : (i 0).val < 2 := (i 0).isLt
  have := sx_lt c
  exact ⟨fun _ => Finset.mem_univ _, fun _ => by omega⟩
theorem disjslC (c : Dev nD) : Disjoint (slC (sx c)) (slC (sx (px c))) := by
  rw [Finset.disjoint_left]
  intro i h h'
  rw [mem_slC] at h h'
  rw [sx_px] at h'
  have := sx_lt c
  omega

theorem coverslW (c : Dev nD) : slW (sx c) ∪ slW (sx (px c)) = Finset.univ := by
  ext i
  rw [Finset.mem_union, mem_slW, mem_slW, sx_px]
  have h : (i 0).val < 2 := (i 0).isLt
  have := sx_lt c
  exact ⟨fun _ => Finset.mem_univ _, fun _ => by omega⟩
theorem disjslW (c : Dev nD) : Disjoint (slW (sx c)) (slW (sx (px c))) := by
  rw [Finset.disjoint_left]
  intro i h h'
  rw [mem_slW] at h h'
  rw [sx_px] at h'
  have := sx_lt c
  omega

theorem twoC (q : PosShare TreeShare) (f : S2x256x128.Idx → Elt F .bf16) :
    (pc c bC Finset.univ q f : sProp 𝕄) = iprop(pc c bC (slC (sx c)) q f ∗ pc c bC (slC (sx (px c))) q f) := by
  rw [← coverslC c]
  exact BI.Entails.antisymm (pointsTo_union (disjslC c)).1 (pointsTo_union (disjslC c)).2

theorem twoU (q : PosShare TreeShare) (f : S2x128x4096.Idx → Elt F .bf16) :
    (pc c bU Finset.univ q f : sProp 𝕄) = iprop(pc c bU (slW (sx c)) q f ∗ pc c bU (slW (sx (px c))) q f) := by
  rw [← coverslW c]
  exact BI.Entails.antisymm (pointsTo_union (disjslW c)).1 (pointsTo_union (disjslW c)).2

theorem twoV (q : PosShare TreeShare) (f : S2x128x4096.Idx → Elt F .bf16) :
    (pc c bV Finset.univ q f : sProp 𝕄) = iprop(pc c bV (slW (sx c)) q f ∗ pc c bV (slW (sx (px c))) q f) := by
  rw [← coverslW c]
  exact BI.Entails.antisymm (pointsTo_union (disjslW c)).1 (pointsTo_union (disjslW c)).2

/-- A slot, as a copy names it. -/
abbrev vwC (off : Fin 3 → ℕ) (inb : ∀ a, off a + S1x256x128.size a ≤ S2x256x128.size a) : Memref sig .tc .vmem S256x128 .bf16 :=
  ((Memref.whole bC).slice (Rect.unit (s := S2x256x128) off S1x256x128.size inb) (fun _ => rfl)).squeeze S256x128 squeezes_S1x256x128_S256x128
theorem vwC_set {off : Fin 3 → ℕ} {inb : ∀ a, off a + S1x256x128.size a ≤ S2x256x128.size a} (x : ℕ) (ho : off = ![x, 0, 0]) :
    (vwC off inb).view.set = slC x :=
  (View.set_reshape _ _).trans ((View.set_slice_whole bC _).trans (setslC x ho))

/-- A slot, as a copy names it. -/
abbrev vwU (off : Fin 3 → ℕ) (inb : ∀ a, off a + S1x128x4096.size a ≤ S2x128x4096.size a) : Memref sig .tc .vmem S128x4096 .bf16 :=
  ((Memref.whole bU).slice (Rect.unit (s := S2x128x4096) off S1x128x4096.size inb) (fun _ => rfl)).squeeze S128x4096 squeezes_S1x128x4096_S128x4096
theorem vwU_set {off : Fin 3 → ℕ} {inb : ∀ a, off a + S1x128x4096.size a ≤ S2x128x4096.size a} (x : ℕ) (ho : off = ![x, 0, 0]) :
    (vwU off inb).view.set = slW x :=
  (View.set_reshape _ _).trans ((View.set_slice_whole bU _).trans (setslW x ho))

/-- A slot, as a copy names it. -/
abbrev vwV (off : Fin 3 → ℕ) (inb : ∀ a, off a + S1x128x4096.size a ≤ S2x128x4096.size a) : Memref sig .tc .vmem S128x4096 .bf16 :=
  ((Memref.whole bV).slice (Rect.unit (s := S2x128x4096) off S1x128x4096.size inb) (fun _ => rfl)).squeeze S128x4096 squeezes_S1x128x4096_S128x4096
theorem vwV_set {off : Fin 3 → ℕ} {inb : ∀ a, off a + S1x128x4096.size a ≤ S2x128x4096.size a} (x : ℕ) (ho : off = ![x, 0, 0]) :
    (vwV off inb).view.set = slW x :=
  (View.set_reshape _ _).trans ((View.set_slice_whole bV _).trans (setslW x ho))

theorem sem_s1 {off : Fin 1 → ℕ} {inb : ∀ a, off a + S1.size a ≤ S3.size a} (a : Fin 3) (ho : off = ![a.val]) :
    ((cc1_scratch3.slice (Rect.unit (s := S3) off S1.size inb)).squeeze S_ squeezes_S1_S_).sem = s1S a := by
  subst ho; revert a; decide +kernel
theorem sem_r1 {off : Fin 1 → ℕ} {inb : ∀ a, off a + S1.size a ≤ S3.size a} (a : Fin 3) (ho : off = ![a.val]) :
    ((cc1_scratch4.slice (Rect.unit (s := S3) off S1.size inb)).squeeze S_ squeezes_S1_S_).sem = r1S a := by
  subst ho; revert a; decide +kernel

/-- What the device holds for its a-th copy before it: the partner's slot, the duties and what the cells have reached. -/
def Pend1 (c : Dev nD) (a : Fin 3) : sProp 𝕄 :=
  iprop(slot1Any (px c) (sx c) a ∗ dutyTok ER (s1C c a) 0 0 ∗ dutyTok ER (r1C (px c) a) 0 0 ∗ reached ER (s1C c a) 0 ∗ reached ER (r1C (px c) a) 0)

variable (v : Vals F) (κ : GSem nD τ sig → ℕ)

theorem mkpay0 (c : Dev nD) (fc : S2x256x128.Idx → Elt F .bf16) (fu fv : S2x128x4096.Idx → Elt F .bf16) :
    iprop(pc c bC (slC (sx (px c))) fullShare fc ∗ pc c bU (slW (sx (px c))) fullShare fu ∗ pc c bV (slW (sx (px c))) fullShare fv
        ∗ bigSep Finset.univ fun a : Fin 3 => reached ER (r1C c a) 0)
      ⊢ (payOf v (px c) (ck (.reg barrier0)) 0 : sProp 𝕄) := by
  rw [ck_b0, bigSep_fin3]
  show _ ⊢ pay0 (px c)
  unfold pay0
  rw [px_px]
  unfold slot1Any
  iintro ⟨Hc, Hu, Hv, Hr⟩
  isplitr [Hr]
  · isplitl [Hc]; · iexists fc; iexact Hc
    isplitl [Hu]; · iexists fu; iexact Hu
    iexists fv; iexact Hv
  iexact Hr
theorem getpay0 (c : Dev nD) : (bigSep (dutOf (ck (.reg barrier0))) (payOf v c (ck (.reg barrier0))) : sProp 𝕄)
    ⊢ iprop((slot1Any (px c) (sx c) 0 ∗ slot1Any (px c) (sx c) 1 ∗ slot1Any (px c) (sx c) 2)
      ∗ reached ER (r1C (px c) 0) 0 ∗ reached ER (r1C (px c) 1) 0 ∗ reached ER (r1C (px c) 2) 0) := by
  rw [ck_b0]; exact Entails.of_eq BI.bigSep_singleton

/-- The signal to the partner and the wait for its own. -/
theorem barrier1' {n : Dev nD} (hn : n = px c) (fc : S2x256x128.Idx → Elt F .bf16) (fu fv : S2x128x4096.Idx → Elt F .bf16)
    {k : PUnit → Prog (TpuEff nD τ sig (Elt F) Λ₀ .tc) α} {Q : α → sProp 𝕄} :
    iprop(Inv v κ ∗ levAts L lv ∗ St1 c ∗ (pc c bC (slC (sx (px c))) fullShare fc ∗ pc c bU (slW (sx (px c))) fullShare fu ∗ pc c bV (slW (sx (px c))) fullShare fv)
        ∗ Ow c (owe2 c + owe1 c))
      ⊢ iprop((((Pend1 c 0 ∗ Pend1 c 1 ∗ Pend1 c 2) ∗ semVal (bar0 c) 0 ∗ Ow c (owe2 c + owe1r c))
            -∗ wp frame (wpE (defs₀ (F := F)) 𝒱₀ (c : Thread nD τ) none) Set.univ (k ⟨⟩) Q)
        -∗ wp frame (wpE (defs₀ (F := F)) 𝒱₀ (c : Thread nD τ) none) Set.univ
          (.op (.semSignal (n, Proc.tc) barrier0 (1#32 : BitVec 32).toInt) fun _ =>
            .op (.semWait barrier0 (1#32 : BitVec 32).toInt) k) Q) := by
  unfold St1 owe1
  rw [← add_assoc]
  iintro ⟨#HI, #Hlev, ⟨Hat, Hcr, Htk, HT, Hr⟩, ⟨Hc, Hu, Hv⟩, HO⟩ Hk
  ihave #HIp := (inv_bar0 v κ (px c)) $$ HI
  ihave #HIc := (inv_bar0 v κ c) $$ HI
  ihave #HRp := (rch_bar0 v κ (px c)) $$ HI
  iapply (sg v hn (κ₁ := κ (bar0 (px c))) 0 (by rw [ck_b0]; decide) (by rw [ck_b0]; rfl) _) $$ [HO Htk Hc Hu Hv Hr]
  · isplitr; · iexact HIp
    isplitl [HO]; · iexact HO
    isplitl [Htk]; · iexact Htk
    isplitl [Hc Hu Hv Hr]
    · iapply (mkpay0 v c fc fu fv)
      isplitl [Hc]; · iexact Hc
      isplitl [Hu]; · iexact Hu
      isplitl [Hv]; · iexact Hv
      iexact Hr
    iexact HRp
  iintro HO
  iapply (wt v (κ₁ := κ (bar0 c)) (sm := .reg barrier0) 1 (by rw [ck_b0]; rfl) (fun K => wpE_semWait_eq ..)) $$ [Hcr HO Hat]
  · isplitr; · iexact HIc
    isplitl [Hcr]; · iexact Hcr
    isplitl [HO]; · iexact HO
    isplitr; · iapply (mayWait (above_add (above_mono (by decide) (above_owe2 c)) (above_owe1r c)) c (.reg barrier0) (by rw [ck_b0]; exact le_rfl)); iexact Hlev
    iexact Hat
  iintro ⟨HO, Hs, Hp⟩
  ihave Hp := (getpay0 v c) $$ Hp
  ihave HT := (Entails.of_eq (bigSep_fin3 _)) $$ HT
  icases Hp with ⟨⟨P0, P1, P2⟩, R0, R1, R2⟩
  icases HT with ⟨⟨A0, B0, C0⟩, ⟨A1, B1, C1⟩, ⟨A2, B2, C2⟩⟩
  iapply Hk
  isplitr [HO Hs]
  · unfold Pend1
    isplitl [P0 A0 B0 C0 R0]
    · isplitl [P0]; · iexact P0
      isplitl [A0]; · iexact A0
      isplitl [B0]; · iexact B0
      isplitl [C0]; · iexact C0
      iexact R0
    isplitl [P1 A1 B1 C1 R1]
    · isplitl [P1]; · iexact P1
      isplitl [A1]; · iexact A1
      isplitl [B1]; · iexact B1
      isplitl [C1]; · iexact C1
      iexact R1
    isplitl [P2]; · iexact P2
    isplitl [A2]; · iexact A2
    isplitl [B2]; · iexact B2
    isplitl [C2]; · iexact C2
    iexact R2
  isplitl [Hs]; · iexact Hs
  iexact HO

set_option maxHeartbeats 1000000 in
/-- The copy of the device's slot to its partner. -/
theorem sndC {n : Dev nD} (hn : n = px c) {off : Fin 3 → ℕ} {inb : ∀ a, off a + S1x256x128.size a ≤ S2x256x128.size a}
    (ho : off = ![sx c, 0, 0]) (hv : ∀ i ∈ slC (sx c), v.cF (px c) i = v.cF c i) {sS' sR' : DmaSem sig} (hS : sS' = s1S 0) (hR : sR' = r1S 0)
    {hsc : (vwC off inb).view.ref.isScScratch = false}
    {hsrc : (vwC off inb).view.WordExact} {hdst : (vwC off inb).view.WordExact}
    {hsem : DmaTarget.Typed .vmem (.dma sR') (.remote (Dev.tc n) (vwC off inb) (.dma sS') hsc)}
    {kk : PUnit → Prog (TpuEff nD τ sig (Elt F) Λ₀ .tc) α} (O : CellTallies nD τ sig Unit) {Q : α → sProp 𝕄} :
    iprop(Inv v κ ∗ pc c bC (slC (sx c)) fullShare (v.cF c) ∗ Pend1 c 0 ∗ Ow c (O + tallyAt (r1C (px c) 0) () (n1 0)))
      ⊢ iprop(((cred (tallyAt (s1C c 0) () (n1 0)) ∗ Ow c O)
            -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (vwC off inb) (.remote (Dev.tc n) (vwC off inb) (.dma sS') hsc) (.dma sR') hsrc hdst hsem) kk) Q) := by
  unfold Pend1 slot1Any
  iintro ⟨#HI, Hs, ⟨⟨%fd, Hd⟩, Ht, Ht', Hr, Hr'⟩, HO⟩
  have hset := vwC_set (inb := inb) (sx c) ho
  iapply (sd v (κ₁ := κ (s1C c 0)) (κ₂ := κ (r1C (px c) 0)) hn (src := vwC off inb) (dst := vwC off inb) (hsc := hsc) (s1S 0) (r1S 0) hS hR
    (hsrc := hsrc) (hdst := hdst) (hsem := hsem) (k := kk) fullShare (v.cF c) fd (n1 0) rfl (by rw [ck_s1]; exact Finset.mem_singleton_self _) (by rw [ck_r1]; exact Finset.mem_singleton_self _)
    (by rw [ck_s1]; rfl) (by rw [ck_r1]; rfl) O
    (by rw [ck_s1, hset]; exact .rfl)
    (by
      rw [ck_r1, hset, View.write_read_eq_piecewise, View.setOn_univ, hset]
      show _ ⊢ pc (px c) bC (slC (sx (px (px c)))) fullShare (v.cF (px c))
      rw [px_px]
      exact Entails.of_eq (pointsTo_congr fun j hj => (Finset.piecewise_eq_of_mem _ _ _ hj).trans (hv j hj).symm))) $$ [Hs Hd HO Ht Hr Ht' Hr']
  · isplitr; · iapply (inv_s1 v κ c 0); iexact HI
    isplitr; · iapply (inv_r1 v κ (px c) 0); iexact HI
    isplitl [Hs]; · rw [hset]; iexact Hs
    isplitl [Hd]; · rw [hset]; iexact Hd
    isplitl [HO]; · iexact HO
    isplitl [Ht]; · iexact Ht
    isplitl [Hr]; · iexact Hr
    isplitl [Ht']; · iexact Ht'
    iexact Hr'

set_option maxHeartbeats 1000000 in
/-- The copy of the device's slot to its partner. -/
theorem sndU {n : Dev nD} (hn : n = px c) {off : Fin 3 → ℕ} {inb : ∀ a, off a + S1x128x4096.size a ≤ S2x128x4096.size a}
    (ho : off = ![sx c, 0, 0]) (hv : ∀ i ∈ slW (sx c), v.uF (px c) i = v.uF c i) {sS' sR' : DmaSem sig} (hS : sS' = s1S 1) (hR : sR' = r1S 1)
    {hsc : (vwU off inb).view.ref.isScScratch = false}
    {hsrc : (vwU off inb).view.WordExact} {hdst : (vwU off inb).view.WordExact}
    {hsem : DmaTarget.Typed .vmem (.dma sR') (.remote (Dev.tc n) (vwU off inb) (.dma sS') hsc)}
    {kk : PUnit → Prog (TpuEff nD τ sig (Elt F) Λ₀ .tc) α} (O : CellTallies nD τ sig Unit) {Q : α → sProp 𝕄} :
    iprop(Inv v κ ∗ pc c bU (slW (sx c)) fullShare (v.uF c) ∗ Pend1 c 1 ∗ Ow c (O + tallyAt (r1C (px c) 1) () (n1 1)))
      ⊢ iprop(((cred (tallyAt (s1C c 1) () (n1 1)) ∗ Ow c O)
            -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (vwU off inb) (.remote (Dev.tc n) (vwU off inb) (.dma sS') hsc) (.dma sR') hsrc hdst hsem) kk) Q) := by
  unfold Pend1 slot1Any
  iintro ⟨#HI, Hs, ⟨⟨%fd, Hd⟩, Ht, Ht', Hr, Hr'⟩, HO⟩
  have hset := vwU_set (inb := inb) (sx c) ho
  iapply (sd v (κ₁ := κ (s1C c 1)) (κ₂ := κ (r1C (px c) 1)) hn (src := vwU off inb) (dst := vwU off inb) (hsc := hsc) (s1S 1) (r1S 1) hS hR
    (hsrc := hsrc) (hdst := hdst) (hsem := hsem) (k := kk) fullShare (v.uF c) fd (n1 1) rfl (by rw [ck_s1]; exact Finset.mem_singleton_self _) (by rw [ck_r1]; exact Finset.mem_singleton_self _)
    (by rw [ck_s1]; rfl) (by rw [ck_r1]; rfl) O
    (by rw [ck_s1, hset]; exact .rfl)
    (by
      rw [ck_r1, hset, View.write_read_eq_piecewise, View.setOn_univ, hset]
      show _ ⊢ pc (px c) bU (slW (sx (px (px c)))) fullShare (v.uF (px c))
      rw [px_px]
      exact Entails.of_eq (pointsTo_congr fun j hj => (Finset.piecewise_eq_of_mem _ _ _ hj).trans (hv j hj).symm))) $$ [Hs Hd HO Ht Hr Ht' Hr']
  · isplitr; · iapply (inv_s1 v κ c 1); iexact HI
    isplitr; · iapply (inv_r1 v κ (px c) 1); iexact HI
    isplitl [Hs]; · rw [hset]; iexact Hs
    isplitl [Hd]; · rw [hset]; iexact Hd
    isplitl [HO]; · iexact HO
    isplitl [Ht]; · iexact Ht
    isplitl [Hr]; · iexact Hr
    isplitl [Ht']; · iexact Ht'
    iexact Hr'

set_option maxHeartbeats 1000000 in
/-- The copy of the device's slot to its partner. -/
theorem sndV {n : Dev nD} (hn : n = px c) {off : Fin 3 → ℕ} {inb : ∀ a, off a + S1x128x4096.size a ≤ S2x128x4096.size a}
    (ho : off = ![sx c, 0, 0]) (hv : ∀ i ∈ slW (sx c), v.vF (px c) i = v.vF c i) {sS' sR' : DmaSem sig} (hS : sS' = s1S 2) (hR : sR' = r1S 2)
    {hsc : (vwV off inb).view.ref.isScScratch = false}
    {hsrc : (vwV off inb).view.WordExact} {hdst : (vwV off inb).view.WordExact}
    {hsem : DmaTarget.Typed .vmem (.dma sR') (.remote (Dev.tc n) (vwV off inb) (.dma sS') hsc)}
    {kk : PUnit → Prog (TpuEff nD τ sig (Elt F) Λ₀ .tc) α} (O : CellTallies nD τ sig Unit) {Q : α → sProp 𝕄} :
    iprop(Inv v κ ∗ pc c bV (slW (sx c)) fullShare (v.vF c) ∗ Pend1 c 2 ∗ Ow c (O + tallyAt (r1C (px c) 2) () (n1 2)))
      ⊢ iprop(((cred (tallyAt (s1C c 2) () (n1 2)) ∗ Ow c O)
            -∗ wp frame (wpE (defs₀ (F := F)) 𝒱₀ (c : Thread nD τ) none) Set.univ (kk ⟨⟩) Q)
        -∗ wp frame (wpE (defs₀ (F := F)) 𝒱₀ (c : Thread nD τ) none) Set.univ
          (.op (.enqueueDma (vwV off inb) (.remote (Dev.tc n) (vwV off inb) (.dma sS') hsc) (.dma sR') hsrc hdst hsem) kk) Q) := by
  unfold Pend1 slot1Any
  iintro ⟨#HI, Hs, ⟨⟨%fd, Hd⟩, Ht, Ht', Hr, Hr'⟩, HO⟩
  have hset := vwV_set (inb := inb) (sx c) ho
  iapply (sd v (κ₁ := κ (s1C c 2)) (κ₂ := κ (r1C (px c) 2)) hn (src := vwV off inb) (dst := vwV off inb) (hsc := hsc) (s1S 2) (r1S 2) hS hR
    (hsrc := hsrc) (hdst := hdst) (hsem := hsem) (k := kk) fullShare (v.vF c) fd (n1 2) rfl (by rw [ck_s1]; exact Finset.mem_singleton_self _) (by rw [ck_r1]; exact Finset.mem_singleton_self _)
    (by rw [ck_s1]; rfl) (by rw [ck_r1]; rfl) O
    (by rw [ck_s1, hset]; exact .rfl)
    (by
      rw [ck_r1, hset, View.write_read_eq_piecewise, View.setOn_univ, hset]
      show _ ⊢ pc (px c) bV (slW (sx (px (px c)))) fullShare (v.vF (px c))
      rw [px_px]
      exact Entails.of_eq (pointsTo_congr fun j hj => (Finset.piecewise_eq_of_mem _ _ _ hj).trans (hv j hj).symm))) $$ [Hs Hd HO Ht Hr Ht' Hr']
  · isplitr; · iapply (inv_s1 v κ c 2); iexact HI
    isplitr; · iapply (inv_r1 v κ (px c) 2); iexact HI
    isplitl [Hs]; · rw [hset]; iexact Hs
    isplitl [Hd]; · rw [hset]; iexact Hd
    isplitl [HO]; · iexact HO
    isplitl [Ht]; · iexact Ht
    isplitl [Hr]; · iexact Hr
    isplitl [Ht']; · iexact Ht'
    iexact Hr'

end

end Cert.KernelIdeal.Hand

end
-- ==== Proof.Body2.lean ====
/-
  Call 2's points, as the pipeline asks for them.
-/
module

public import proofs.«01_k».proof.Proof.Cont

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

open Idealize.ShloMosaic.Pipeline (BodyObligation Dat)

variable (m : (ℓ : Loc nD τ sig) → Buf (Elt F) ℓ)

/-- A triple beside a frame. -/
theorem wpFr {α : Type} {c : Dev nD} {p : Prog (TpuEff nD τ sig (Elt F) Λ₀ .tc) α} {Q Q' : α → sProp 𝕄} {P R : sProp 𝕄}
    (h : P ⊢ wp frame (wpE (defs₀ (F := F)) 𝒱₀ (c : Thread nD τ) none) Set.univ p Q) (h' : ∀ a, iprop(Q a ∗ R) ⊢ Q' a) :
    iprop(P ∗ R) ⊢ wp frame (wpE (defs₀ (F := F)) 𝒱₀ (c : Thread nD τ) none) Set.univ p Q' :=
  (sep_mono h .rfl).trans ((wp_frame_r _ _ _).trans (wp_mono _ _ _ h'))

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ := by first | rfl | skip) :
    (Ow c O : sProp 𝕄) ⊢ (dat.owesAt () t : sProp 𝕄) := by
  unfold Ow Dat.owesAt Pipeline.owesWithin Dat.bound
  rw [h0, hr]
  iintro ⟨%W, HO⟩; iexists W
  isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ Ow c O := by
  unfold Ow Dat.owesAt Pipeline.owesWithin
  rw [h0]
  iintro ⟨%W, -, HO⟩; iexists W; iexact HO

theorem gF_pe (c : Dev nD) (i : Fin 3) : (vals m).gF (pe i c) = (vals m).gF c := by
  show gF m (pe i c) = gF m c
  funext x; unfold gF
  exact congrArg (fun d => k2_pay65 (k2_pay64 (oF m d) (blkC (wo m d) ((x 2).val / 512) (div512 (n := 8) (x 2)))) _) (at4_pe i c _ _)

theorem gF_emb (i : grid2.Coords) (c : Dev nD) (t : ℕ) (h : 512 * t + 512 ≤ 4096) (ht : (i 0).val = t) (inb : ∀ a, k2_off1 i c a + S1x256x512.size a ≤ S4x256x4096.size a) (x : S1x256x512.Idx) :
    k2_pay65 (k2_pay64 (oF m c) (blkC (wo m c) t h)) x
      = (vals m).gF c ((Rect.unit (s := S4x256x4096) (k2_off1 i c) S1x256x512.size inb).emb x) := by
  have e0 : (((Rect.unit (s := S4x256x4096) (k2_off1 i c) S1x256x512.size inb).emb x) 0).val = gr c := by
    rw [Rect.emb_apply]; show k2_off1 i c 0 + 1 * (x 0).val = _
    have h0 : (x 0).val < 1 := (x 0).isLt
    rw [off1_gr i c]; show gr c + 1 * (x 0).val = _; omega
  have e1 : (((Rect.unit (s := S4x256x4096) (k2_off1 i c) S1x256x512.size inb).emb x) 1).val = (x 1).val := by
    rw [Rect.emb_apply]; show k2_off1 i c 1 + 1 * (x 1).val = _
    rw [off1_gr i c]; show 0 + 1 * (x 1).val = _; omega
  have e2 : (((Rect.unit (s := S4x256x4096) (k2_off1 i c) S1x256x512.size inb).emb x) 2).val = 512 * t + (x 2).val := by
    rw [Rect.emb_apply]; show k2_off1 i c 2 + 1 * (x 2).val = _
    rw [off1_gr i c]; show 512 * (i 0).val + 1 * (x 2).val = _; omega
  show _ = gF m c _
  generalize (Rect.unit (s := S4x256x4096) (k2_off1 i c) S1x256x512.size inb).emb x = z at e0 e1 e2
  have hx2 : (x 2).val < 512 := (x 2).isLt
  have hx0 : (x 0).val < 1 := (x 0).isLt
  have hd : at4 c (z 0).val (z 0).isLt = c := by
    have := at4_gr c
    unfold at4 at this ⊢
    rw [Fin.ext_iff] at this ⊢
    dsimp only at this ⊢
    rw [e0]; exact this
  have hq : (z 2).val / 512 = t := by omega
  have hr : (z 2).val % 512 = (x 2).val := by omega
  unfold gF
  rw [hd]
  have hi : (tri (d := ![1, 256, 512]) (0 : Fin 1) (z 1) ⟨(z 2).val % 512, Nat.mod_lt _ (by decide)⟩ : S1x256x512.Idx) = x := by
    funext a; refine Fin.ext ?_
    match a with
    | 0 => show 0 = (x 0).val; omega
    | 1 => exact e1
    | 2 => exact hr
  rw [hi]
  congr 3
  exact hq.symm

theorem Phi2_zero (c : Dev nD) : Phi2 m c 0 = iprop(Inv' m ∗ rest2 c ∗ EndS c ∗ EndR c ∗ St2 c ∗ pcAny c bO Finset.univ) := if_pos rfl
theorem Phi2_mid (c : Dev nD) (t : ℕ) (h : t ≠ 0) (h' : t < 8) : Phi2 m c t = iprop(Inv' m ∗ rest2 c ∗ EndS c ∗ EndR c ∗ semVal (bar1 c) 0 ∗ M2 (vals m) c t ∗ pc c bO Finset.univ fullShare (oF m c)) :=
  (if_neg h).trans (if_pos h')
theorem Phi2_end (c : Dev nD) : Phi2 m c 8 = iprop(rest2 c ∗ semVal (bar1 c) 0 ∗ Fin2 (vals m) c ∗ pc c bO Finset.univ fullShare (oF m c)) :=
  (if_neg (by decide)).trans (if_neg (by decide))

variable {c : Dev nD} (i : grid2.Coords) {a1 a2 a3 : Memref sig .tc .vmem S256x4096 .bf16} {a4 : Memref sig .tc .vmem S256x2048 .bf16}
  {a5 : Memref sig .tc .vmem S256x64 .bf16} {a6 : Memref sig .tc .vmem S4096x512 .bf16} {a7 : Memref sig .tc .vmem S4x256x4096 .f32}
  (h1 : a1.IsWhole) (h2 : a2.IsWhole) (h3 : a3.IsWhole) (h4 : a4.IsWhole) (h5 : a5.IsWhole) (h6 : a6.IsWhole) (h7 : a7.IsWhole)
  (h8 : (Memref.whole bO).IsWhole) (h9 : (Memref.whole bG).IsWhole)

/-- The input windows at point t. -/
abbrev W2 (c : Dev nD) (t : ℕ) (a1 a2 a3 : Memref sig .tc .vmem S256x4096 .bf16) (a4 : Memref sig .tc .vmem S256x2048 .bf16)
    (a5 : Memref sig .tc .vmem S256x64 .bf16) (a6 : Memref sig .tc .vmem S4096x512 .bf16) : sProp 𝕄 :=
  Win2 (qO m c) (kO m c) (vO m c) (qrO m c) (krO m c) (blkC (wo m c) (min t 7) (lt8 t)) c a1 a2 a3 a4 a5 a6

theorem owO1 (c : Dev nD) (f : FVec F S256x4096 .bf16) : (owns (c : Thread nD τ) (Memref.whole bO) fullShare f : sProp 𝕄) ⊢ pc c bO Finset.univ fullShare f := by
  rw [owns_whole_eq]
  iintro ⟨%g, %hg, H⟩; subst hg; iexact H
theorem owO2 (c : Dev nD) (f : FVec F S256x4096 .bf16) : (pc c bO Finset.univ fullShare f : sProp 𝕄) ⊢ owns (c : Thread nD τ) (Memref.whole bO) fullShare f := by
  rw [owns_whole_eq]
  iintro H; iexists f; isplitr; · ipureintro; rfl
  iexact H
theorem owO (c : Dev nD) (f : FVec F S256x4096 .bf16) : (owns (c : Thread nD τ) (Memref.whole bO) fullShare f : sProp 𝕄) = pc c bO Finset.univ fullShare f :=
  BI.Entails.antisymm (owO1 c f) (owO2 c f)

/-- The first point. -/
theorem pt2_first (hi : (i 0).val = 0) (hc1 : k2_cond1 i = 1#1) (hc2 : ¬ k2_cond2 i = 1#1) :
    iprop(Phi2 m c 0 ∗ Ow c (owe2 c) ∗ W2 m c 0 a1 a2 a3 a4 a5 a6)
      ⊢ wp frame (wpE (defs₀ (F := F)) 𝒱₀ (c : Thread nD τ) none) Set.univ
        (cc2__attn_wo_body i a1 h1 a2 h2 a3 h3 a4 h4 a5 h5 a6 h6 a7 h7 (Memref.whole bO) h8 (Memref.whole bG) h9 cc2_scratch2 cc2_scratch3)
        (fun _ => iprop(Phi2 m c 1 ∗ Ow c (oweF c 1) ∗ W2 m c 0 a1 a2 a3 a4 a5 a6)) := by
  rw [Phi2_zero, Phi2_mid m c 1 (by decide) (by decide)]
  unfold Inv'
  iintro ⟨⟨⟨⟨%κ, #HI⟩, #HL⟩, Hr, HeS, HeR, HS, ⟨%f, HO⟩⟩, Ho, HW⟩
  have hf : Front (vals m) κ (c := c) i h1 h2 h3 h4 h5 h6 h7 h8 h9 0
      iprop((Inv (vals m) κ ∗ levAts L lv ∗ St2 c ∗ Ow c (owe2 c) ∗ W2 m c 0 a1 a2 a3 a4 a5 a6 ∗ ∃ f, owns (c : Thread nD τ) (Memref.whole bO) fullShare f)
        ∗ (Inv (vals m) κ ∗ levAts L lv ∗ rest2 c ∗ EndS c ∗ EndR c))
      iprop((Inv (vals m) κ ∗ levAts L lv ∗ rest2 c ∗ EndS c ∗ EndR c) ∗ semVal (bar1 c) 0 ∗ bigSep (rangeSet 8 1 8) (PendK (F := F) c)
        ∗ W2 m c 0 a1 a2 a3 a4 a5 a6 ∗ owns (c : Thread nD τ) (Memref.whole bO) fullShare (oF m c))
      (k2_pay64 (oF m c) (blkC (wo m c) (min 0 7) (lt8 0))) := by
    unfold Front
    refine wpFr (front_first (vals m) κ i h1 h2 h3 h4 h5 h6 h7 h8 h9 (qO m c) (kO m c) (vO m c) (qrO m c) (krO m c) _ hc1) fun r => ?_
    rw [← rangeSet_univ, bigSep_rangeSet_head (lo := 0) (hi := 8) (by decide) (by decide)]
    iintro ⟨⟨%hp, ⟨HK, HKs⟩, Hb, Ho, HW, HO⟩, ⟨#HI, HR⟩⟩
    isplitr; · ipureintro; exact hp
    isplitr; · iexact HI
    isplitl [HK]; · iexact HK
    isplitl [Ho]; · iexact Ho
    isplitl [HR]
    · isplitr; · iexact HI
      iexact HR
    isplitl [Hb]; · iexact Hb
    isplitl [HKs]; · iexact HKs
    isplitl [HW]; · iexact HW
    iexact HO
  have hb := body_send (vals m) κ i h1 h2 h3 h4 h5 h6 h7 h8 h9 0 hi (gF_pe m c) hc2 (fun inb x => gF_emb m i c (min 0 7) (lt8 0) hi inb x) hf
  iapply (hb.trans (wp_mono _ _ _ fun _ => ?_))
  rotate_left
  · isplitl [HS Ho HW HO]
    · isplitr; · iexact HI
      isplitr; · iexact HL
      isplitl [HS]; · iexact HS
      isplitl [Ho]; · iexact Ho
      isplitl [HW]; · iexact HW
      iexists f; rw [owO]; iexact HO
    isplitr; · iexact HI
    isplitr; · iexact HL
    isplitl [Hr]; · iexact Hr
    isplitl [HeS]; · iexact HeS
    iexact HeR
  unfold M2
  rw [owO]
  iintro ⟨HD, Ho, ⟨⟨#HI, #HL, Hr, HeS, HeR⟩, Hb, HKs, HW, HO⟩⟩
  isplitl [Hr HeS HeR Hb HKs HO HD]
  · isplitr
    · isplitr; · iexists κ; iexact HI
      iexact HL
    isplitl [Hr]; · iexact Hr
    isplitl [HeS]; · iexact HeS
    isplitl [HeR]; · iexact HeR
    isplitl [Hb]; · iexact Hb
    isplitl [HKs HD]
    · iapply (range_give (PendK (F := F) c) (DoneK (vals m) c) 0)
      isplitl [HD]; · iexact HD
      isplitl [HKs]; · iexact HKs
      rw [show ((0 : Fin 8) : ℕ) = 0 from rfl, rangeSet_empty (Nat.le_refl 0), bigSep_empty]
      iempintro
    iexact HO
  isplitl [Ho]; · iexact Ho
  iexact HW

theorem pt2_first' (k : Fin 8) (hi : (i 0).val = k.val) (hk : k.val = 0) (hc1 : k2_cond1 i = 1#1) (hc2 : ¬ k2_cond2 i = 1#1) :
    iprop(Phi2 m c k.val ∗ Ow c (owe2 c) ∗ W2 m c k.val a1 a2 a3 a4 a5 a6)
      ⊢ wp frame (wpE (defs₀ (F := F)) 𝒱₀ (c : Thread nD τ) none) Set.univ
        (cc2__attn_wo_body i a1 h1 a2 h2 a3 h3 a4 h4 a5 h5 a6 h6 a7 h7 (Memref.whole bO) h8 (Memref.whole bG) h9 cc2_scratch2 cc2_scratch3)
        (fun _ => iprop(Phi2 m c (k.val + 1) ∗ Ow c (oweF c (k.val + 1)) ∗ W2 m c k.val a1 a2 a3 a4 a5 a6)) := by
  obtain rfl : k = 0 := Fin.ext hk
  exact pt2_first m i h1 h2 h3 h4 h5 h6 h7 h8 h9 hi hc1 hc2

/-- What a later point's front leaves. -/
theorem front_mid (κ : GSem nD τ sig → ℕ) (k : Fin 8) (hc1 : ¬ k2_cond1 i = 1#1) (X : sProp 𝕄) :
    Front (vals m) κ (c := c) i h1 h2 h3 h4 h5 h6 h7 h8 h9 k
      iprop((W2 m c k.val a1 a2 a3 a4 a5 a6 ∗ owns (c : Thread nD τ) (Memref.whole bO) fullShare (oF m c))
        ∗ (Inv (vals m) κ ∗ PendK c k ∗ Ow c (oweF c k.val) ∗ X))
      iprop(X ∗ W2 m c k.val a1 a2 a3 a4 a5 a6 ∗ owns (c : Thread nD τ) (Memref.whole bO) fullShare (oF m c))
      (k2_pay64 (oF m c) (blkC (wo m c) (min k.val 7) (lt8 k.val))) := by
  unfold Front
  refine wpFr (front_later i h1 h2 h3 h4 h5 h6 h7 h8 h9 (qO m c) (kO m c) (vO m c) (qrO m c) (krO m c) _ hc1) fun r => ?_
  iintro ⟨⟨%hp, HW, HO⟩, ⟨HI, HK, Ho, HX⟩⟩
  isplitr; · ipureintro; exact hp
  isplitl [HI]; · iexact HI
  isplitl [HK]; · iexact HK
  isplitl [Ho]; · iexact Ho
  isplitl [HX]; · iexact HX
  isplitl [HW]; · iexact HW
  iexact HO

/-- A point between. -/
theorem pt2_mid (k : Fin 8) (hi : (i 0).val = k.val) (hk0 : k.val ≠ 0) (hk7 : k.val < 7) (hc1 : ¬ k2_cond1 i = 1#1) (hc2 : ¬ k2_cond2 i = 1#1) :
    iprop(Phi2 m c k.val ∗ Ow c (oweF c k.val) ∗ W2 m c k.val a1 a2 a3 a4 a5 a6)
      ⊢ wp frame (wpE (defs₀ (F := F)) 𝒱₀ (c : Thread nD τ) none) Set.univ
        (cc2__attn_wo_body i a1 h1 a2 h2 a3 h3 a4 h4 a5 h5 a6 h6 a7 h7 (Memref.whole bO) h8 (Memref.whole bG) h9 cc2_scratch2 cc2_scratch3)
        (fun _ => iprop(Phi2 m c (k.val + 1) ∗ Ow c (oweF c (k.val + 1)) ∗ W2 m c k.val a1 a2 a3 a4 a5 a6)) := by
  rw [Phi2_mid m c k.val hk0 (by omega), Phi2_mid m c (k.val + 1) (by omega) (by omega)]
  unfold Inv' M2
  rw [range_take]
  iintro ⟨⟨⟨⟨%κ, #HI⟩, #HL⟩, Hr, HeS, HeR, Hb, ⟨HK, HKs⟩, HO⟩, Ho, HW⟩
  have hf := front_mid m (c := c) i h1 h2 h3 h4 h5 h6 h7 h8 h9 κ k hc1
    iprop((Inv (vals m) κ ∗ levAts L lv ∗ rest2 c ∗ EndS c ∗ EndR c) ∗ semVal (bar1 c) 0
      ∗ bigSep (rangeSet 8 (k.val + 1) 8) (PendK (F := F) c) ∗ bigSep (rangeSet 8 0 k.val) (DoneK (vals m) c))
  have hb := body_send (vals m) κ i h1 h2 h3 h4 h5 h6 h7 h8 h9 k hi (gF_pe m c) hc2
    (fun inb x => gF_emb m i c (min k.val 7) (lt8 _) (by omega) inb x) hf
  iapply (hb.trans (wp_mono _ _ _ fun _ => ?_))
  rotate_left
  · isplitl [HW HO]
    · isplitl [HW]; · iexact HW
      rw [owO]; iexact HO
    isplitr; · iexact HI
    isplitl [HK]; · iexact HK
    isplitl [Ho]; · iexact Ho
    isplitl [Hr HeS HeR]
    · isplitr; · iexact HI
      isplitr; · iexact HL
      isplitl [Hr]; · iexact Hr
      isplitl [HeS]; · iexact HeS
      iexact HeR
    isplitl [Hb]; · iexact Hb
    iexact HKs
  rw [owO]
  iintro ⟨HD, Ho, ⟨⟨⟨#HI, #HL, Hr, HeS, HeR⟩, Hb, HKs⟩, HW, HO⟩⟩
  isplitl [Hr HeS HeR Hb HKs HO HD]
  · isplitr
    · isplitr; · iexists κ; iexact HI
      iexact HL
    isplitl [Hr]; · iexact Hr
    isplitl [HeS]; · iexact HeS
    isplitl [HeR]; · iexact HeR
    isplitl [Hb]; · iexact Hb
    isplitl [HKs HD]
    · iapply (range_give (PendK (F := F) c) (DoneK (vals m) c) k)
      isplitl [HD]; · iexact HD
      iexact HKs
    iexact HO
  isplitl [Ho]; · iexact Ho
  iexact HW

/-- The last. -/
theorem pt2_last (k : Fin 8) (hi : (i 0).val = k.val) (hk7 : k.val = 7) (hc1 : ¬ k2_cond1 i = 1#1) (hc2 : k2_cond2 i = 1#1) :
    iprop((Phi2 m c k.val ∗ Ow c (oweF c k.val) ∗ W2 m c k.val a1 a2 a3 a4 a5 a6) ∗ ∃ f, owns (c : Thread nD τ) a7 fullShare f)
      ⊢ wp frame (wpE (defs₀ (F := F)) 𝒱₀ (c : Thread nD τ) none) Set.univ
        (cc2__attn_wo_body i a1 h1 a2 h2 a3 h3 a4 h4 a5 h5 a6 h6 a7 h7 (Memref.whole bO) h8 (Memref.whole bG) h9 cc2_scratch2 cc2_scratch3)
        (fun _ => iprop((Phi2 m c 8 ∗ Ow c 0 ∗ W2 m c k.val a1 a2 a3 a4 a5 a6) ∗ owns (c : Thread nD τ) a7 fullShare (outF (vals m) c))) := by
  rw [Phi2_mid m c k.val (by omega) (by omega), Phi2_end]
  unfold Inv' M2
  rw [range_take, hk7]
  iintro ⟨⟨⟨⟨⟨%κ, #HI⟩, #HL⟩, Hr, HeS, HeR, Hb, ⟨HK, -, HKs⟩, HO⟩, Ho, HW⟩, H7⟩
  have hf := front_mid m (c := c) i h1 h2 h3 h4 h5 h6 h7 h8 h9 κ k hc1
    iprop(bigSep (rangeSet 8 0 7) (DoneK (vals m) c) ∗ EndS c ∗ EndR c ∗ (∃ f, owns (c : Thread nD τ) a7 fullShare f) ∗ rest2 c ∗ semVal (bar1 c) 0)
  have hf' : Front (vals m) κ (c := c) i h1 h2 h3 h4 h5 h6 h7 h8 h9 k _
      iprop(bigSep (rangeSet 8 0 7) (DoneK (vals m) c) ∗ EndS c ∗ EndR c ∗ (∃ f, owns (c : Thread nD τ) a7 fullShare f) ∗ (rest2 c ∗ semVal (bar1 c) 0)
        ∗ W2 m c k.val a1 a2 a3 a4 a5 a6 ∗ owns (c : Thread nD τ) (Memref.whole bO) fullShare (oF m c)) _ :=
    hf.trans (wp_mono _ _ _ fun r => by
      iintro ⟨%hp, HI, HK, Ho, ⟨HKs, HeS, HeR, H7, Hr, Hb⟩, HW, HO⟩
      isplitr; · ipureintro; exact hp
      isplitl [HI]; · iexact HI
      isplitl [HK]; · iexact HK
      isplitl [Ho]; · iexact Ho
      isplitl [HKs]; · iexact HKs
      isplitl [HeS]; · iexact HeS
      isplitl [HeR]; · iexact HeR
      isplitl [H7]; · iexact H7
      isplitl [Hr Hb]
      · isplitl [Hr]; · iexact Hr
        iexact Hb
      isplitl [HW]; · iexact HW
      iexact HO)
  have hb := body_last (vals m) κ i h1 h2 h3 h4 h5 h6 h7 h8 h9 k hi hk7 (gF_pe m c) hc2
    (fun inb x => gF_emb m i c (min k.val 7) (lt8 _) (by omega) inb x) hf'
  iapply (hb.trans (wp_mono _ _ _ fun _ => ?_))
  rotate_left
  · isplitl [HW HO]
    · isplitl [HW]; · rw [hk7]; iexact HW
      rw [owO]; iexact HO
    isplitr; · iexact HI
    isplitl [HK]; · iexact HK
    isplitl [Ho]; · rw [hk7]; iexact Ho
    isplitl [HKs]; · iexact HKs
    isplitl [HeS]; · iexact HeS
    isplitl [HeR]; · iexact HeR
    isplitl [H7]; · iexact H7
    isplitl [Hr]; · iexact Hr
    iexact Hb
  rw [owO, hk7]
  iintro ⟨HF, Ho, H7, ⟨Hr, Hb⟩, HW, HO⟩
  isplitr [H7]
  · isplitl [Hr Hb HF HO]
    · isplitl [Hr]; · iexact Hr
      isplitl [Hb]; · iexact Hb
      isplitl [HF]; · iexact HF
      iexact HO
    isplitl [Ho]; · iexact Ho
    iexact HW
  iexact H7

theorem pt2_last' (k : Fin 8) (hi : (i 0).val = k.val) (hk7 : k.val = 7) (hc1 : ¬ k2_cond1 i = 1#1) (hc2 : k2_cond2 i = 1#1) :
    iprop((Phi2 m c k.val ∗ Ow c (oweF c k.val) ∗ W2 m c k.val a1 a2 a3 a4 a5 a6) ∗ ∃ f, owns (c : Thread nD τ) a7 fullShare f)
      ⊢ wp frame (wpE (defs₀ (F := F)) 𝒱₀ (c : Thread nD τ) none) Set.univ
        (cc2__attn_wo_body i a1 h1 a2 h2 a3 h3 a4 h4 a5 h5 a6 h6 a7 h7 (Memref.whole bO) h8 (Memref.whole bG) h9 cc2_scratch2 cc2_scratch3)
        (fun _ => iprop((Phi2 m c (k.val + 1) ∗ Ow c 0 ∗ W2 m c k.val a1 a2 a3 a4 a5 a6) ∗ owns (c : Thread nD τ) a7 fullShare (outF (vals m) c))) := by
  obtain rfl : k = 7 := Fin.ext hk7
  exact pt2_last m i h1 h2 h3 h4 h5 h6 h7 h8 h9 7 hi hk7 hc1 hc2

theorem cond2_1 : ∀ t : Fin cfg2.N, k2_cond1 (grid2.coords t) = 1#1 ↔ t.val = 0 := (by decide +kernel : ∀ t : Fin grid2.N, _)
theorem cond2_2 : ∀ t : Fin cfg2.N, k2_cond2 (grid2.coords t) = 1#1 ↔ t.val = 7 := (by decide +kernel : ∀ t : Fin grid2.N, _)
theorem coord2 : ∀ t : Fin cfg2.N, (grid2.coords t 0).val = t.val := (by decide +kernel : ∀ t : Fin grid2.N, _)
theorem flush2 : ∀ t : Fin cfg2.N, t.val ≠ 7 → win2_6.flush t = false := (by decide +kernel : ∀ t : Fin grid2.N, _)
theorem idle2_6 (t : Fin cfg2.N) (h : t.val ≠ 7) : cfg2.idle 6 (cfg2.grid.coords t) = true := by
  show (!(k2_cond2 (grid2.coords t) == 1#1)) = true
  have := mt (cond2_2 t).mp h
  simp [this]
theorem idle2_6' (t : Fin cfg2.N) (h : t.val = 7) : cfg2.idle 6 (cfg2.grid.coords t) = false := by
  show (!(k2_cond2 (grid2.coords t) == 1#1)) = false
  rw [(cond2_2 t).mpr h]; rfl

/-! ### The windows at a point -/

theorem in2_0 (c : Dev nD) (t : Fin cfg2.N) : (iprop(∃ d, owns (c : Thread nD τ) (win2_0.stage (cfg2.slots t 0)) fullShare ((dat2 m c).before 0 t d)) : sProp 𝕄)
    ⊢ owns (c : Thread nD τ) (win2_0.stage (cfg2.slots t 0)) fullShare (qO m c) := by
  iintro ⟨%d, H⟩; iapply (Entails.of_eq (congrArg (owns (c : Thread nD τ) (win2_0.stage (cfg2.slots t 0)) fullShare) (bf2_0 m c t d))) $$ H
theorem in2_1 (c : Dev nD) (t : Fin cfg2.N) : (iprop(∃ d, owns (c : Thread nD τ) (win2_1.stage (cfg2.slots t 1)) fullShare ((dat2 m c).before 1 t d)) : sProp 𝕄)
    ⊢ owns (c : Thread nD τ) (win2_1.stage (cfg2.slots t 1)) fullShare (kO m c) := by
  iintro ⟨%d, H⟩; iapply (Entails.of_eq (congrArg (owns (c : Thread nD τ) (win2_1.stage (cfg2.slots t 1)) fullShare) (bf2_1 m c t d))) $$ H
theorem in2_2 (c : Dev nD) (t : Fin cfg2.N) : (iprop(∃ d, owns (c : Thread nD τ) (win2_2.stage (cfg2.slots t 2)) fullShare ((dat2 m c).before 2 t d)) : sProp 𝕄)
    ⊢ owns (c : Thread nD τ) (win2_2.stage (cfg2.slots t 2)) fullShare (vO m c) := by
  iintro ⟨%d, H⟩; iapply (Entails.of_eq (congrArg (owns (c : Thread nD τ) (win2_2.stage (cfg2.slots t 2)) fullShare) (bf2_2 m c t d))) $$ H
theorem in2_3 (c : Dev nD) (t : Fin cfg2.N) : (iprop(∃ d, owns (c : Thread nD τ) (win2_3.stage (cfg2.slots t 3)) fullShare ((dat2 m c).before 3 t d)) : sProp 𝕄)
    ⊢ owns (c : Thread nD τ) (win2_3.stage (cfg2.slots t 3)) fullShare (qrO m c) := by
  iintro ⟨%d, H⟩; iapply (Entails.of_eq (congrArg (owns (c : Thread nD τ) (win2_3.stage (cfg2.slots t 3)) fullShare) (bf2_3 m c t d))) $$ H
theorem in2_4 (c : Dev nD) (t : Fin cfg2.N) : (iprop(∃ d, owns (c : Thread nD τ) (win2_4.stage (cfg2.slots t 4)) fullShare ((dat2 m c).before 4 t d)) : sProp 𝕄)
    ⊢ owns (c : Thread nD τ) (win2_4.stage (cfg2.slots t 4)) fullShare (krO m c) := by
  iintro ⟨%d, H⟩; iapply (Entails.of_eq (congrArg (owns (c : Thread nD τ) (win2_4.stage (cfg2.slots t 4)) fullShare) (bf2_4 m c t d))) $$ H
theorem in2_5 (c : Dev nD) (t : Fin cfg2.N) : (iprop(∃ d, owns (c : Thread nD τ) (win2_5.stage (cfg2.slots t 5)) fullShare ((dat2 m c).before 5 t d)) : sProp 𝕄)
    ⊢ owns (c : Thread nD τ) (win2_5.stage (cfg2.slots t 5)) fullShare (blkC (wo m c) (min t.val 7) (lt8 t.val)) := by
  iintro ⟨%d, H⟩; iapply (Entails.of_eq (congrArg (owns (c : Thread nD τ) (win2_5.stage (cfg2.slots t 5)) fullShare) (bf2_5 m c t d))) $$ H

/-- The windows but the result's, out of what the pipeline hands over and back. -/
abbrev P2 (c : Dev nD) (t : Fin cfg2.N) : sProp 𝕄 :=
  W2 m c t.val (win2_0.stage (cfg2.slots t 0)) (win2_1.stage (cfg2.slots t 1)) (win2_2.stage (cfg2.slots t 2)) (win2_3.stage (cfg2.slots t 3)) (win2_4.stage (cfg2.slots t 4)) (win2_5.stage (cfg2.slots t 5))

set_option maxHeartbeats 1000000 in
/-- Every point, as the pipeline asks for it, from the triple of the point. -/
theorem body2_of (c : Dev nD) (t : Fin cfg2.N) (O O' : CellTallies nD τ sig Unit) (h : (dat2 m c).owed t.castSucc = O) (h' : (dat2 m c).owed t.succ = O') (X Y : sProp 𝕄)
    (hX : (iprop(∃ d, owns (c : Thread nD τ) (win2_6.stage (cfg2.slots t 6)) fullShare ((dat2 m c).before 6 t d)) : sProp 𝕄) ⊢ X)
    (hY : Y ⊢ (match cfg2.idle 6 (cfg2.grid.coords t) with
      | true => match (cfg2.win 6).flush t with
        | false => iprop(∃ d, owns (c : Thread nD τ) ((cfg2.win 6).stage (cfg2.slots t 6)) fullShare ((dat2 m c).before 6 t d))
        | true => owns (c : Thread nD τ) ((cfg2.win 6).stage (cfg2.slots t 6)) fullShare ((dat2 m c).after 6 t)
      | false => owns (c : Thread nD τ) ((cfg2.win 6).stage (cfg2.slots t 6)) fullShare ((dat2 m c).after 6 t)))
    (hb : iprop((Phi2 m c t.val ∗ Ow c O ∗ P2 m c t) ∗ X)
      ⊢ wp frame (wpE (defs₀ (F := F)) 𝒱₀ (c : Thread nD τ) none) Set.univ ((defs₀ (F := F)) .tc cfg2.body (cfg2.bodyArgs t (cfg2.slots t)))
        (fun _ => iprop((Phi2 m c (t.val + 1) ∗ Ow c O' ∗ P2 m c t) ∗ Y))) :
    iprop((dat2 m c).Φ t.castSucc ∗ (dat2 m c).owesAt () t.castSucc
        ∗ bigSep Finset.univ fun w : Fin cfg2.W => iprop(∃ d, owns (c : Thread nD τ) ((cfg2.win w).stage (cfg2.slots t w)) fullShare ((dat2 m c).before w t d)))
      ⊢ wp frame (wpE (defs₀ (F := F)) 𝒱₀ (c : Thread nD τ) none) Set.univ ((defs₀ (F := F)) .tc cfg2.body (cfg2.bodyArgs t (cfg2.slots t))) fun _ =>
          iprop((dat2 m c).Φ t.succ ∗ (dat2 m c).owesAt () t.succ
            ∗ bigSep Finset.univ fun w : Fin cfg2.W =>
              match cfg2.idle w (cfg2.grid.coords t) with
              | true => match (cfg2.win w).flush t with
                | false => iprop(∃ d, owns (c : Thread nD τ) ((cfg2.win w).stage (cfg2.slots t w)) fullShare ((dat2 m c).before w t d))
                | true => owns (c : Thread nD τ) ((cfg2.win w).stage (cfg2.slots t w)) fullShare ((dat2 m c).after w t)
              | false => owns (c : Thread nD τ) ((cfg2.win w).stage (cfg2.slots t w)) fullShare ((dat2 m c).after w t)) := by
  rw [bigSep_W2, bigSep_W2]
  iintro ⟨HΦ, HO, H0, H1, H2, H3, H4, H5, H6⟩
  iapply (hb.trans (wp_mono _ _ _ fun _ => ?_))
  rotate_left
  · unfold P2 W2 Win2
    isplitr [H6]
    · isplitl [HΦ]; · iapply (Entails.of_eq (show (dat2 m c).Φ t.castSucc = Phi2 m c t.val from rfl)) $$ HΦ
      isplitl [HO]; · iapply (owesAt_elim (dat2 m c) _ O h) $$ HO
      isplitl [H0]; · iapply (in2_0 m c t) $$ H0
      isplitl [H1]; · iapply (in2_1 m c t) $$ H1
      isplitl [H2]; · iapply (in2_2 m c t) $$ H2
      isplitl [H3]; · iapply (in2_3 m c t) $$ H3
      isplitl [H4]; · iapply (in2_4 m c t) $$ H4
      iapply (in2_5 m c t) $$ H5
    iapply hX $$ H6
  · unfold P2 W2 Win2
    rw [show (dat2 m c).Φ t.succ = Phi2 m c (t.val + 1) from rfl]
    iintro ⟨⟨HΦ, HO, H0, H1, H2, H3, H4, H5⟩, H6⟩
    isplitl [HΦ]; · iexact HΦ
    isplitl [HO]; · iapply (owesAt_intro (dat2 m c) t.succ O' h') $$ HO
    isplitl [H0]; · iexact H0
    isplitl [H1]; · iexact H1
    isplitl [H2]; · iexact H2
    isplitl [H3]; · iexact H3
    isplitl [H4]; · iexact H4
    isplitl [H5]; · iexact H5
    iapply hY $$ H6

theorem body2 (c : Dev nD) : BodyObligation (dat2 m c) (defs₀ (F := F)) 𝒱₀ () Set.univ := fun t => by
  have ht8 : t.val < 8 := t.isLt
  have hi := coord2 t
  have ho' : (dat2 m c).owed t.succ = oweF c (t.val + 1) := (if_neg (Nat.succ_ne_zero t.val) : (if t.val + 1 = 0 then owe2 c else oweF c (t.val + 1)) = _)
  by_cases h7 : t.val = 7
  · have ho : (dat2 m c).owed t.castSucc = oweF c t.val := if_neg (by show ¬ t.val = 0; omega)
    refine body2_of m c t _ _ ho (ho'.trans (by rw [h7, oweF_end c])) iprop(∃ f, owns (c : Thread nD τ) (win2_6.stage (cfg2.slots t 6)) fullShare f) (owns (c : Thread nD τ) (win2_6.stage (cfg2.slots t 6)) fullShare (outF (vals m) c)) ?_ ?_ ?_
    · iintro ⟨%d, H⟩; iexists _; iexact H
    · rw [idle2_6' t h7]; exact Entails.of_eq rfl
    · exact pt2_last' m (c := c) (grid2.coords t) (hstage2_0 ((cfg2.slots t 0).cast nbuf2_0)) (hstage2_1 ((cfg2.slots t 1).cast nbuf2_1)) (hstage2_2 ((cfg2.slots t 2).cast nbuf2_2)) (hstage2_3 ((cfg2.slots t 3).cast nbuf2_3)) (hstage2_4 ((cfg2.slots t 4).cast nbuf2_4)) (hstage2_5 ((cfg2.slots t 5).cast nbuf2_5)) (hstage2_6 ((cfg2.slots t 6).cast nbuf2_6)) (Memref.isWhole_whole _) (Memref.isWhole_whole _)
        ⟨t.val, ht8⟩ hi h7 (fun e => by have := (cond2_1 t).mp e; omega) ((cond2_2 t).mpr h7)
  · have hid := idle2_6 t h7
    have hfl : (cfg2.win 6).flush t = false := flush2 t h7
    by_cases h0 : t.val = 0
    · have ho : (dat2 m c).owed t.castSucc = owe2 c := if_pos h0
      refine body2_of m c t _ _ ho ho' _ _ .rfl (by rw [hid, hfl]) (wpFr ?_ fun _ => .rfl)
      exact pt2_first' m (c := c) (grid2.coords t) (hstage2_0 ((cfg2.slots t 0).cast nbuf2_0)) (hstage2_1 ((cfg2.slots t 1).cast nbuf2_1)) (hstage2_2 ((cfg2.slots t 2).cast nbuf2_2)) (hstage2_3 ((cfg2.slots t 3).cast nbuf2_3)) (hstage2_4 ((cfg2.slots t 4).cast nbuf2_4)) (hstage2_5 ((cfg2.slots t 5).cast nbuf2_5)) (hstage2_6 ((cfg2.slots t 6).cast nbuf2_6)) (Memref.isWhole_whole _) (Memref.isWhole_whole _)
        ⟨t.val, ht8⟩ hi h0 ((cond2_1 t).mpr h0) (fun e => h7 ((cond2_2 t).mp e))
    · have ho : (dat2 m c).owed t.castSucc = oweF c t.val := if_neg h0
      refine body2_of m c t _ _ ho ho' _ _ .rfl (by rw [hid, hfl]) (wpFr ?_ fun _ => .rfl)
      exact pt2_mid m (c := c) (grid2.coords t) (hstage2_0 ((cfg2.slots t 0).cast nbuf2_0)) (hstage2_1 ((cfg2.slots t 1).cast nbuf2_1)) (hstage2_2 ((cfg2.slots t 2).cast nbuf2_2)) (hstage2_3 ((cfg2.slots t 3).cast nbuf2_3)) (hstage2_4 ((cfg2.slots t 4).cast nbuf2_4)) (hstage2_5 ((cfg2.slots t 5).cast nbuf2_5)) (hstage2_6 ((cfg2.slots t 6).cast nbuf2_6)) (Memref.isWhole_whole _) (Memref.isWhole_whole _)
        ⟨t.val, ht8⟩ hi h0 (by show t.val < 7; omega) (fun e => h0 ((cond2_1 t).mp e)) (fun e => h7 ((cond2_2 t).mp e))

end Cert.KernelIdeal.Hand

end
-- ==== Proof.Call1B.lean ====
/-
Call 1's points: the exchange of the slots, the chunks of the two projections of the input, and
the products of the exchanged slots.
-/
module

public import proofs.«01_k».proof.Proof.Call1A
public import proofs.«01_k».proof.Proof.Body2

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

open Idealize.ShloMosaic.Pipeline (BodyObligation Dat)

/-! ### Slots by value -/

/-- The buffer whose slot x is `g` of the device at x of the same group. -/
def slotF {n k : ℕ} (g : Dev nD → FVec F ⟨3, ![1, n, k]⟩ .bf16) (c : Dev nD) : FVec F ⟨3, ![2, n, k]⟩ .bf16 := fun i =>
  g (xdev (i 0) c) (tri (d := ![1, n, k]) (0 : Fin 1) (i 1) (i 2))

theorem xdev_px (x : Fin 2) (c : Dev nD) : xdev x (px c) = xdev x c := by revert x c; decide +kernel
theorem xdev_sx (x : Fin 2) (c : Dev nD) (h : x.val = sx c) : xdev x c = c := by revert h; revert x c; decide +kernel

theorem slotF_px {n k : ℕ} (g : Dev nD → FVec F ⟨3, ![1, n, k]⟩ .bf16) (c : Dev nD) : slotF g (px c) = slotF g c := by
  funext i; exact congrArg (fun d => g d (tri (d := ![1, n, k]) (0 : Fin 1) (i 1) (i 2))) (xdev_px _ c)

theorem slotF_emb {n k : ℕ} (g : Dev nD → FVec F ⟨3, ![1, n, k]⟩ .bf16) (c : Dev nD) {off : Fin 3 → ℕ}
    {inb : ∀ a, off a + (⟨3, ![1, n, k]⟩ : Shape).size a ≤ (⟨3, ![2, n, k]⟩ : Shape).size a} (ho : off = ![sx c, 0, 0]) (x : (⟨3, ![1, n, k]⟩ : Shape).Idx) :
    g c x = slotF g c ((Rect.unit (s := (⟨3, ![2, n, k]⟩ : Shape)) off (⟨3, ![1, n, k]⟩ : Shape).size inb).emb x) := by
  subst ho
  have h0 : (x 0).val < 1 := (x 0).isLt
  refine Eq.trans ?_ (congrArg (fun d => g d _) (xdev_sx _ c (by show sx c + 1 * (x 0).val = sx c; omega)).symm)
  congr 1
  funext a; refine Fin.ext ?_
  match a with
  | 0 => show (x 0).val = 0; omega
  | 1 => show (x 1).val = 0 + 1 * (x 1).val; omega
  | 2 => show (x 2).val = 0 + 1 * (x 2).val; omega

theorem slot_idx {n k : ℕ} (f : FVec F ⟨3, ![2, n, k]⟩ .bf16) (s : Fin 2) {off : Fin 3 → ℕ}
    {inb : ∀ a, off a + (⟨3, ![1, n, k]⟩ : Shape).size a ≤ (⟨3, ![2, n, k]⟩ : Shape).size a} (ho : off = ![s.val, 0, 0]) :
    (fun i => f ((Rect.unit (s := (⟨3, ![2, n, k]⟩ : Shape)) off (⟨3, ![1, n, k]⟩ : Shape).size inb).toLoadRect.idx i)) = slotOf f s := by
  subst ho
  funext x
  have h0 : (x 0).val < 1 := (x 0).isLt
  unfold slotOf
  congr 1
  funext a; refine Fin.ext ?_
  match a with
  | 0 => show s.val + 1 * (x 0).val = s.val; omega
  | 1 => show 0 + 1 * (x 1).val = (x 1).val; omega
  | 2 => show 0 + 1 * (x 2).val = (x 2).val; omega

theorem halves_eq {inb : ∀ a, (![0, 0] : Fin 2 → ℕ) a + S256x2048.size a ≤ S256x4096.size a} {inb' : ∀ a, (![0, 2048] : Fin 2 → ℕ) a + S256x2048.size a ≤ S256x4096.size a}
    (X : FVec F S256x4096 .bf16) (a b : FVec F S256x2048 .bf16) :
    (Rect.unit (s := S256x4096) ![0, 2048] S256x2048.size inb').overlay ((Rect.unit (s := S256x4096) ![0, 0] S256x2048.size inb).overlay X a) b = halves a b := by
  funext j
  have hj1 : (j 1).val < 4096 := (j 1).isLt
  unfold halves
  split
  · rename_i h
    rw [Rect.overlay_of_not_mem _ _ _ (by
      rw [Rect.mem_set_unit]; intro hm; have := hm 1
      change 2048 ≤ (j 1).val ∧ _ at this; omega)]
    have e : (Rect.unit (s := S256x4096) ![0, 0] S256x2048.size inb).emb (duo (d := ![256, 2048]) (j 0) ⟨(j 1).val, h⟩) = j := by
      funext a; refine Fin.ext ?_
      match a with
      | 0 => show 0 + 1 * (j 0).val = (j 0).val; omega
      | 1 => show 0 + 1 * (j 1).val = (j 1).val; omega
    conv_lhs => rw [← e]
    rw [Rect.overlay_emb]
  · rename_i h
    have e : (Rect.unit (s := S256x4096) ![0, 2048] S256x2048.size inb').emb (duo (d := ![256, 2048]) (j 0) ⟨(j 1).val - 2048, by show _ < 2048; omega⟩) = j := by
      funext a; refine Fin.ext ?_
      match a with
      | 0 => show 0 + 1 * (j 0).val = (j 0).val; omega
      | 1 => show 2048 + 1 * ((j 1).val - 2048) = (j 1).val; omega
    conv_lhs => rw [← e]
    rw [Rect.overlay_emb]

section
variable {c : Dev nD} {α : Type}

theorem ldCs (s : Fin 2) {off : Fin 3 → ℕ} {inb : ∀ a, off a + S1x256x128.size a ≤ S2x256x128.size a} (ho : off = ![s.val, 0, 0])
    {hl : (Memref.whole bC).view.LoadsAt (Rect.unit (s := S2x256x128) off S1x256x128.size inb).toLoadRect}
    {kk : FVec F S1x256x128 .bf16 → Prog (TpuEff nD τ sig (Elt F) Λ₀ .tc) α} {f : FVec F S2x256x128 .bf16} {Q : α → sProp 𝕄} :
    (pc c bC Finset.univ fullShare f : sProp 𝕄)
      ⊢ iprop((pc c bC Finset.univ fullShare f -∗ wp frame (wpE (defs₀ (F := F)) 𝒱₀ (c : Thread nD τ) none) Set.univ (kk (slotOf f s)) Q)
        -∗ wp frame (wpE (defs₀ (F := F)) 𝒱₀ (c : Thread nD τ) none) Set.univ
          (.op (.load (cs := .vmem) (e := .bf16) (Memref.whole bC) (Rect.unit (s := S2x256x128) off S1x256x128.size inb).toLoadRect hl) kk) Q) := by
  have h := ldC (c := c) (hl := hl) (k := kk) (Finset.subset_univ _) (q := fullShare) (f := f) (Q := Q)
  rw [show (fun i => f ((Rect.unit (s := S2x256x128) off S1x256x128.size inb).toLoadRect.idx i)) = slotOf (n := 256) (k := 128) f s from slot_idx f s ho] at h
  exact h

theorem ldUs (s : Fin 2) {off : Fin 3 → ℕ} {inb : ∀ a, off a + S1x128x4096.size a ≤ S2x128x4096.size a} (ho : off = ![s.val, 0, 0])
    {hl : (Memref.whole bU).view.LoadsAt (Rect.unit (s := S2x128x4096) off S1x128x4096.size inb).toLoadRect}
    {kk : FVec F S1x128x4096 .bf16 → Prog (TpuEff nD τ sig (Elt F) Λ₀ .tc) α} {f : FVec F S2x128x4096 .bf16} {Q : α → sProp 𝕄} :
    (pc c bU Finset.univ fullShare f : sProp 𝕄)
      ⊢ iprop((pc c bU Finset.univ fullShare f -∗ wp frame (wpE (defs₀ (F := F)) 𝒱₀ (c : Thread nD τ) none) Set.univ (kk (slotOf f s)) Q)
        -∗ wp frame (wpE (defs₀ (F := F)) 𝒱₀ (c : Thread nD τ) none) Set.univ
          (.op (.load (cs := .vmem) (e := .bf16) (Memref.whole bU) (Rect.unit (s := S2x128x4096) off S1x128x4096.size inb).toLoadRect hl) kk) Q) := by
  have h := ldU (c := c) (hl := hl) (k := kk) (Finset.subset_univ _) (q := fullShare) (f := f) (Q := Q)
  rw [show (fun i => f ((Rect.unit (s := S2x128x4096) off S1x128x4096.size inb).toLoadRect.idx i)) = slotOf (n := 128) (k := 4096) f s from slot_idx f s ho] at h
  exact h

theorem ldVs (s : Fin 2) {off : Fin 3 → ℕ} {inb : ∀ a, off a + S1x128x4096.size a ≤ S2x128x4096.size a} (ho : off = ![s.val, 0, 0])
    {hl : (Memref.whole bV).view.LoadsAt (Rect.unit (s := S2x128x4096) off S1x128x4096.size inb).toLoadRect}
    {kk : FVec F S1x128x4096 .bf16 → Prog (TpuEff nD τ sig (Elt F) Λ₀ .tc) α} {f : FVec F S2x128x4096 .bf16} {Q : α → sProp 𝕄} :
    (pc c bV Finset.univ fullShare f : sProp 𝕄)
      ⊢ iprop((pc c bV Finset.univ fullShare f -∗ wp frame (wpE (defs₀ (F := F)) 𝒱₀ (c : Thread nD τ) none) Set.univ (kk (slotOf f s)) Q)
        -∗ wp frame (wpE (defs₀ (F := F)) 𝒱₀ (c : Thread nD τ) none) Set.univ
          (.op (.load (cs := .vmem) (e := .bf16) (Memref.whole bV) (Rect.unit (s := S2x128x4096) off S1x128x4096.size inb).toLoadRect hl) kk) Q) := by
  have h := ldV (c := c) (hl := hl) (k := kk) (Finset.subset_univ _) (q := fullShare) (f := f) (Q := Q)
  rw [show (fun i => f ((Rect.unit (s := S2x128x4096) off S1x128x4096.size inb).toLoadRect.idx i)) = slotOf (n := 128) (k := 4096) f s from slot_idx f s ho] at h
  exact h

/-- A store of a whole memref. -/
theorem stw {s : Shape} {e : EltTy} {cs : CoreSpace} {m : Memref sig .tc cs s e} {off : Fin s.rank → ℕ} {inb : ∀ a, off a + s.size a ≤ s.size a} {w : s.Idx → Elt F e}
    {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} {X : s.Idx → Elt F e} {Q : α → sProp 𝕄} :
    (owns (c : Thread nD τ) m fullShare X : sProp 𝕄)
      ⊢ iprop((owns (c : Thread nD τ) m fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := s) off s.size inb) w Finset.univ hx hm) k) Q) := by
  have h := st (c := c) (r := Rect.unit (s := s) off s.size inb) (w := w) (hx := hx) (hm := hm) (k := k) (X := X) (Q := Q)
  rw [show (Rect.unit (s := s) off s.size inb).overlay X w = w from by
    funext j
    have e : (Rect.unit (s := s) off s.size inb).emb j = j := by
      funext a; refine Fin.ext ?_
      have := inb a
      rw [Rect.emb_apply]
      show off a + 1 * (j a).val = (j a).val
      omega
    conv_lhs => rw [← e]
    rw [Rect.overlay_emb]] at h
  exact h

variable (v : Vals F) (κ : GSem nD τ sig → ℕ)

theorem pay_s1 (c : Dev nD) (a : Fin 3) : (bigSep (dutOf (ck (.dma (s1S a)))) (payOf v c (ck (.dma (s1S a)))) : sProp 𝕄) = slot1 v c (sx c) a := by
  rw [ck_s1]; exact BI.bigSep_singleton
theorem pay_r1 (c : Dev nD) (a : Fin 3) : (bigSep (dutOf (ck (.dma (r1S a)))) (payOf v c (ck (.dma (r1S a)))) : sProp 𝕄) = slot1 v c (sx (px c)) a := by
  rw [ck_r1]; exact BI.bigSep_singleton

set_option maxHeartbeats 1000000 in
/-- The two waits of a slot. -/
theorem w1 (a : Fin 3) {sS sR : DmaSem sig} (hS : sS = s1S a) (hR : sR = r1S a) {sp : Space} {s : Shape} {e : EltTy} {src dst src' dst' : Memref sig .tc sp s e}
    {hw : src.view.WordExact} {hw' : dst.view.WordExact} {hw2 : src'.view.WordExact} {hw2' : dst'.view.WordExact}
    (hN : dst.view.dmaCredit = n1 a) (hN' : dst'.view.dmaCredit = n1 a)
    {kk : PUnit → Prog (TpuEff nD τ sig (Elt F) Λ₀ .tc) α} {Q : α → sProp 𝕄} :
    iprop(Inv v κ ∗ levAts L lv ∗ (cred (tallyAt (r1C c a) () (n1 a)) ∗ atPos ER (r1C c a) 0 ∅ 0 ∗ atPos ER (s1C c a) 0 ∅ 0) ∗ cred (tallyAt (s1C c a) () (n1 a)) ∗ Ow c (owe2 c))
      ⊢ iprop(((((semVal (s1C c a) 0 ∗ semVal (r1C c a) 0) ∗ slot1 v c (sx c) a ∗ slot1 v c (sx (px c)) a) ∗ Ow c (owe2 c))
            -∗ wp frame (wpE (defs₀ (F := F)) 𝒱₀ (c : Thread nD τ) none) Set.univ (kk ⟨⟩) Q)
        -∗ wp frame (wpE (defs₀ (F := F)) 𝒱₀ (c : Thread nD τ) none) Set.univ
          (.op (.waitDma2 sS src dst hw hw') fun _ => .op (.waitDma2 sR src' dst' hw2 hw2') kk) Q) := by
  iintro ⟨#HI, #HL, ⟨Hc, Ha, Ha'⟩, Hc', HO⟩ Hk
  iapply (wD v κ (s1S a) hS (n1 a) hN (by rw [ck_s1]; exact (Nat.one_mul _).symm) (inv_s1 v κ c a) (owe2 c)) $$ [Hc' HO Ha']
  · isplitr; · iexact HI
    isplitl [Hc']; · iexact Hc'
    isplitl [HO]; · iexact HO
    isplitr; · iapply (mayWait (above_owe2 c) c (.dma (s1S a)) (by rw [ck_s1]; exact Nat.zero_le _)); iexact HL
    iexact Ha'
  iintro ⟨HO, Hs, Hp⟩
  ihave Hp := (Entails.of_eq (pay_s1 v c a)) $$ Hp
  iapply (wD v κ (r1S a) hR (n1 a) hN' (by rw [ck_r1]; exact (Nat.one_mul _).symm) (inv_r1 v κ c a) (owe2 c)) $$ [Hc HO Ha]
  · isplitr; · iexact HI
    isplitl [Hc]; · iexact Hc
    isplitl [HO]; · iexact HO
    isplitr; · iapply (mayWait (above_owe2 c) c (.dma (r1S a)) (by rw [ck_r1]; exact le_rfl)); iexact HL
    iexact Ha
  iintro ⟨HO, Hs', Hp'⟩
  ihave Hp' := (Entails.of_eq (pay_r1 v c a)) $$ Hp'
  iapply Hk
  isplitr [HO]
  · isplitl [Hs Hs']
    · isplitl [Hs]; · iexact Hs
      iexact Hs'
    isplitl [Hp]; · iexact Hp
    iexact Hp'
  iexact HO

end

variable (m : (ℓ : Loc nD τ sig) → Buf (Elt F) ℓ)

theorem Phi1_zero (c : Dev nD) : Phi1 m c 0 = iprop(Inv' m ∗ rest1 c ∗ EndR1 c ∗ St1 c ∗ Any1 c) := if_pos rfl
theorem Phi1_mid (c : Dev nD) (t : ℕ) (h : t ≠ 0) (h' : t < 12) : Phi1 m c t = iprop(Inv' m ∗ rest1 c ∗ EndR1 c ∗ semVal (bar0 c) 0 ∗ Mid1 c) :=
  (if_neg h).trans (if_pos h')
theorem Phi1_end (c : Dev nD) : Phi1 m c 12 = iprop(rest1 c ∗ semVal (bar0 c) 0 ∗ Sems1 c ∗ Full1 m c) :=
  (if_neg (by decide)).trans (if_neg (by decide))

variable {c : Dev nD} (i : grid1.Coords) {a1 : Memref sig .tc .vmem S256x128 .bf16} {a2 a3 : Memref sig .tc .vmem S128x4096 .bf16} {a4 : Memref sig .tc .vmem S256x4096 .bf16}
  {a5 a6 : Memref sig .tc .vmem S4096x512 .bf16} {a7 a8 : Memref sig .tc .vmem S256x4096 .bf16} {a9 a10 : Memref sig .tc .vmem S256x512 .bf16}
  (h1 : a1.IsWhole) (h2 : a2.IsWhole) (h3 : a3.IsWhole) (h4 : a4.IsWhole) (h5 : a5.IsWhole) (h6 : a6.IsWhole) (h7 : a7.IsWhole)
  (h8 : a8.IsWhole) (h9 : a9.IsWhole) (h10 : a10.IsWhole) (hC : (Memref.whole bC).IsWhole) (hU : (Memref.whole bU).IsWhole) (hV : (Memref.whole bV).IsWhole)

/-- The input windows at point t. -/
def W1 (c : Dev nD) (t : ℕ) (a1 : Memref sig .tc .vmem S256x128 .bf16) (a2 a3 : Memref sig .tc .vmem S128x4096 .bf16) (a4 : Memref sig .tc .vmem S256x4096 .bf16)
    (a5 a6 : Memref sig .tc .vmem S4096x512 .bf16) : sProp 𝕄 :=
  iprop(owns (c : Thread nD τ) a1 fullShare (cO m c) ∗ owns (c : Thread nD τ) a2 fullShare (wuk m c) ∗ owns (c : Thread nD τ) a3 fullShare (wuv m c)
    ∗ owns (c : Thread nD τ) a4 fullShare (xbO m c) ∗ owns (c : Thread nD τ) a5 fullShare (blkC (wq m c) (min t 7) (lt8 t)) ∗ owns (c : Thread nD τ) a6 fullShare (blkC (wqr m c) (min (t - 8) 3) (lt4 _)))

/-- The body at the staged windows. -/
abbrev body1At : Prog (TpuEff nD τ sig (Elt F) Λ₀ .tc) PUnit :=
  cc1__fused_body i a1 h1 a2 h2 a3 h3 a4 h4 a5 h5 a6 h6 a7 h7 a8 h8 a9 h9 a10 h10 (Memref.whole bC) hC (Memref.whole bU) hU (Memref.whole bV) hV cc1_scratch3 cc1_scratch4

set_option maxHeartbeats 2000000 in
/-- A point that forms a chunk of the first projection. -/
theorem pt1_q (t : ℕ) (hc1 : ¬ k1_cond1 i = 1#1) (hc2 : k1_cond2 i = 1#1) (hc3 : ¬ k1_cond3 i = 1#1) (hc4 : ¬ k1_cond4 i = 1#1) :
    iprop(W1 m c t a1 a2 a3 a4 a5 a6 ∗ ∃ f, owns (c : Thread nD τ) a9 fullShare f)
      ⊢ wp frame (wpE (defs₀ (F := F)) 𝒱₀ (c : Thread nD τ) none) Set.univ
        (body1At i h1 h2 h3 h4 h5 h6 h7 h8 h9 h10 hC hU hV)
        (fun _ => iprop(W1 m c t a1 a2 a3 a4 a5 a6 ∗ owns (c : Thread nD τ) a9 fullShare (qC m c t))) := by
  unfold body1At
  rw [cc1__fused_body_eq_skeleton]; unfold cc1__fused_body_skel
  simp only [Prog.lift, Prog.bind_op, Prog.bind_ret, Prog.pure_eq_ret, bind_assoc, pure_bind, wp_deviceId]
  rw [dif_neg hc1, dif_pos hc2, dif_neg hc3, dif_neg hc4]
  unfold W1
  iintro ⟨⟨H1, H2, H3, H4, H5, H6⟩, ⟨%f, H9⟩⟩
  iapply ldw $$ H4; iintro H4
  iapply ldw $$ H5; iintro H5
  iapply ldw $$ H9; iintro H9
  iapply stw $$ H9; iintro H9
  rw [wp_ret]; imodintro
  isplitr [H9]
  · isplitl [H1]; · iexact H1
    isplitl [H2]; · iexact H2
    isplitl [H3]; · iexact H3
    isplitl [H4]; · iexact H4
    isplitl [H5]; · iexact H5
    iexact H6
  iexact H9

set_option maxHeartbeats 2000000 in
/-- A point that forms a chunk of the second projection. -/
theorem pt1_qr (t : ℕ) (hc1 : ¬ k1_cond1 i = 1#1) (hc2 : ¬ k1_cond2 i = 1#1) (hc3 : k1_cond3 i = 1#1) (hc4 : ¬ k1_cond4 i = 1#1) :
    iprop(W1 m c t a1 a2 a3 a4 a5 a6 ∗ ∃ f, owns (c : Thread nD τ) a10 fullShare f)
      ⊢ wp frame (wpE (defs₀ (F := F)) 𝒱₀ (c : Thread nD τ) none) Set.univ
        (body1At i h1 h2 h3 h4 h5 h6 h7 h8 h9 h10 hC hU hV)
        (fun _ => iprop(W1 m c t a1 a2 a3 a4 a5 a6 ∗ owns (c : Thread nD τ) a10 fullShare (qrC m c (t - 8)))) := by
  unfold body1At
  rw [cc1__fused_body_eq_skeleton]; unfold cc1__fused_body_skel
  simp only [Prog.lift, Prog.bind_op, Prog.bind_ret, Prog.pure_eq_ret, bind_assoc, pure_bind, wp_deviceId]
  rw [dif_neg hc1, dif_neg hc2, dif_pos hc3, dif_neg hc4]
  unfold W1
  iintro ⟨⟨H1, H2, H3, H4, H5, H6⟩, ⟨%f, H9⟩⟩
  iapply ldw $$ H4; iintro H4
  iapply ldw $$ H6; iintro H6
  iapply ldw $$ H9; iintro H9
  iapply stw $$ H9; iintro H9
  rw [wp_ret]; imodintro
  isplitr [H9]
  · isplitl [H1]; · iexact H1
    isplitl [H2]; · iexact H2
    isplitl [H3]; · iexact H3
    isplitl [H4]; · iexact H4
    isplitl [H5]; · iexact H5
    iexact H6
  iexact H9

end Cert.KernelIdeal.Hand

end
-- ==== Proof.Call1C.lean ====
/-
Call 1's first point (the exchange) and its last (the products of the exchanged slots).
-/
module

public import proofs.«01_k».proof.Proof.Call1B

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (m : (ℓ : Loc nD τ sig) → Buf (Elt F) ℓ)
variable {c : Dev nD} (i : grid1.Coords) {a1 : Memref sig .tc .vmem S256x128 .bf16} {a2 a3 : Memref sig .tc .vmem S128x4096 .bf16} {a4 : Memref sig .tc .vmem S256x4096 .bf16}
  {a5 a6 : Memref sig .tc .vmem S4096x512 .bf16} {a7 a8 : Memref sig .tc .vmem S256x4096 .bf16} {a9 a10 : Memref sig .tc .vmem S256x512 .bf16}
  (h1 : a1.IsWhole) (h2 : a2.IsWhole) (h3 : a3.IsWhole) (h4 : a4.IsWhole) (h5 : a5.IsWhole) (h6 : a6.IsWhole) (h7 : a7.IsWhole)
  (h8 : a8.IsWhole) (h9 : a9.IsWhole) (h10 : a10.IsWhole) (hC : (Memref.whole bC).IsWhole) (hU : (Memref.whole bU).IsWhole) (hV : (Memref.whole bV).IsWhole)

theorem cF_px (c : Dev nD) : (vals m).cF (px c) = (vals m).cF c := slotF_px (n := 256) (k := 128) (fun c => k1_pay3 (cO m c)) c
theorem uF_px (c : Dev nD) : (vals m).uF (px c) = (vals m).uF c := slotF_px (n := 128) (k := 4096) (fun c => k1_pay4 (wuk m c)) c
theorem vF_px (c : Dev nD) : (vals m).vF (px c) = (vals m).vF c := slotF_px (n := 128) (k := 4096) (fun c => k1_pay5 (wuv m c)) c

theorem joinC : iprop(slot1 (vals m) c (sx c) 0 ∗ slot1 (vals m) c (sx (px c)) 0) ⊢ (pc c bC Finset.univ fullShare (cF m c) : sProp 𝕄) :=
  Entails.of_eq (twoC (c := c) fullShare (cF m c)).symm

theorem joinU : iprop(slot1 (vals m) c (sx c) 1 ∗ slot1 (vals m) c (sx (px c)) 1) ⊢ (pc c bU Finset.univ fullShare (uF m c) : sProp 𝕄) :=
  Entails.of_eq (twoU (c := c) fullShare (uF m c)).symm

theorem joinV : iprop(slot1 (vals m) c (sx c) 2 ∗ slot1 (vals m) c (sx (px c)) 2) ⊢ (pc c bV Finset.univ fullShare (vF m c) : sProp 𝕄) :=
  Entails.of_eq (twoV (c := c) fullShare (vF m c)).symm

set_option maxHeartbeats 4000000 in
/-- The first point. -/
theorem pt1_first (hc1 : k1_cond1 i = 1#1) (hc2 : k1_cond2 i = 1#1) (hc3 : ¬ k1_cond3 i = 1#1) (hc4 : ¬ k1_cond4 i = 1#1) :
    iprop(Phi1 m c 0 ∗ Ow c (owe2 c + owe1 c) ∗ W1 m c 0 a1 a2 a3 a4 a5 a6 ∗ ∃ f, owns (c : Thread nD τ) a9 fullShare f)
      ⊢ wp frame (wpE (defs₀ (F := F)) 𝒱₀ (c : Thread nD τ) none) Set.univ
        (body1At i h1 h2 h3 h4 h5 h6 h7 h8 h9 h10 hC hU hV)
        (fun _ => iprop(Phi1 m c 1 ∗ Ow c (owe2 c) ∗ W1 m c 0 a1 a2 a3 a4 a5 a6 ∗ owns (c : Thread nD τ) a9 fullShare (qC m c 0))) := by
  rw [Phi1_zero, Phi1_mid m c 1 (by decide) (by decide)]
  unfold body1At
  rw [cc1__fused_body_eq_skeleton]; unfold cc1__fused_body_skel
  simp only [Prog.lift, Prog.bind_op, Prog.bind_ret, Prog.pure_eq_ret, bind_assoc, pure_bind, wp_deviceId]
  rw [dif_pos hc1, dif_pos hc2, dif_neg hc3, dif_neg hc4]
  rw [k1_part1_eq_skeleton, k1_part2_eq_skeleton]; unfold k1_part1_skel k1_part2_skel
  simp only [semSignalWord, semWaitWord, Prog.lift, Prog.bind_op, Prog.bind_ret, Prog.pure_eq_ret, bind_assoc, pure_bind]
  unfold Inv' W1 Any1
  iintro ⟨⟨⟨⟨%κ, #HI⟩, #HL⟩, Hr, HE, HS, ⟨⟨%fc, HC⟩, ⟨%fu, HU⟩, ⟨%fv, HV⟩⟩⟩, HO, ⟨H1, H2, H3, H4, H5, H6⟩, ⟨%f, H9⟩⟩
  ihave HC := (Entails.of_eq (twoC (c := c) fullShare fc)) $$ HC
  ihave HU := (Entails.of_eq (twoU (c := c) fullShare fu)) $$ HU
  ihave HV := (Entails.of_eq (twoV (c := c) fullShare fv)) $$ HV
  icases HC with ⟨HC, HC'⟩
  icases HU with ⟨HU, HU'⟩
  icases HV with ⟨HV, HV'⟩
  iapply ldw $$ H1; iintro H1
  iapply (ldC (le_of_eq (setslC (sx c) (k1_off1_eq c)))) $$ HC; iintro HC
  iapply (stC (setslC (sx c) (k1_off1_eq c)) ((vals m).cF c) (slotF_emb (n := 256) (k := 128) (fun c => k1_pay3 (cO m c)) c (k1_off1_eq c))) $$ HC; iintro HC
  iapply ldw $$ H2; iintro H2
  iapply (ldU (le_of_eq (setslW (sx c) (k1_off2_eq c)))) $$ HU; iintro HU
  iapply (stU (setslW (sx c) (k1_off2_eq c)) ((vals m).uF c) (slotF_emb (n := 128) (k := 4096) (fun c => k1_pay4 (wuk m c)) c (k1_off2_eq c))) $$ HU; iintro HU
  iapply ldw $$ H3; iintro H3
  iapply (ldV (le_of_eq (setslW (sx c) (k1_off2_eq c)))) $$ HV; iintro HV
  iapply (stV (setslW (sx c) (k1_off2_eq c)) ((vals m).vF c) (slotF_emb (n := 128) (k := 4096) (fun c => k1_pay5 (wuv m c)) c (k1_off2_eq c))) $$ HV; iintro HV
  iapply (barrier1' (vals m) κ (c := c) (Fin.ext (k1_dev1_px c)) fc fu fv) $$ [HS HC' HU' HV' HO]
  · isplitr; · iexact HI
    isplitr; · iexact HL
    isplitl [HS]; · iexact HS
    isplitl [HC' HU' HV']
    · isplitl [HC']; · iexact HC'
      isplitl [HU']; · iexact HU'
      iexact HV'
    iexact HO
  iintro ⟨⟨P0, P1, P2⟩, Hb, HO⟩
  unfold owe1r
  ihave HO := (Entails.of_eq (congrArg (Ow (F := F) c) (show owe2 c + (tallyAt (r1C (px c) 2) () (n1 2) + tallyAt (r1C (px c) 1) () (n1 1) + tallyAt (r1C (px c) 0) () (n1 0))
    = owe2 c + tallyAt (r1C (px c) 2) () (n1 2) + tallyAt (r1C (px c) 1) () (n1 1) + tallyAt (r1C (px c) 0) () (n1 0) by rw [← add_assoc, ← add_assoc]))) $$ HO
  iapply (sndC (vals m) κ (c := c) (Fin.ext (k1_dev2_px c)) (k1_off3_eq c) (fun i _ => congrFun (cF_px m c) i) (sem_s1 0 rfl) (sem_r1 0 rfl) _) $$ [HC P0 HO]
  · isplitr; · iexact HI
    isplitl [HC]; · iexact HC
    isplitl [P0]; · iexact P0
    iexact HO
  iintro ⟨K0, HO⟩
  iapply (sndU (vals m) κ (c := c) (Fin.ext (k1_dev3_px c)) (k1_off4_eq c) (fun i _ => congrFun (uF_px m c) i) (sem_s1 1 rfl) (sem_r1 1 rfl) _) $$ [HU P1 HO]
  · isplitr; · iexact HI
    isplitl [HU]; · iexact HU
    isplitl [P1]; · iexact P1
    iexact HO
  iintro ⟨K1, HO⟩
  iapply (sndV (vals m) κ (c := c) (Fin.ext (k1_dev4_px c)) (k1_off4_eq c) (fun i _ => congrFun (vF_px m c) i) (sem_s1 2 rfl) (sem_r1 2 rfl) _) $$ [HV P2 HO]
  · isplitr; · iexact HI
    isplitl [HV]; · iexact HV
    isplitl [P2]; · iexact P2
    iexact HO
  iintro ⟨K2, HO⟩
  iapply ldw $$ H4; iintro H4
  iapply ldw $$ H5; iintro H5
  iapply ldw $$ H9; iintro H9
  iapply stw $$ H9; iintro H9
  rw [wp_ret]; imodintro
  isplitl [Hr HE Hb K0 K1 K2]
  · isplitr
    · isplitr; · iexists κ; iexact HI
      iexact HL
    isplitl [Hr]; · iexact Hr
    isplitl [HE]; · iexact HE
    isplitl [Hb]; · iexact Hb
    unfold Mid1
    iapply (Entails.of_eq (bigSep_fin3 _).symm)
    isplitl [K0]; · iexact K0
    isplitl [K1]; · iexact K1
    iexact K2
  isplitl [HO]; · iexact HO
  isplitr [H9]
  · isplitl [H1]; · iexact H1
    isplitl [H2]; · iexact H2
    isplitl [H3]; · iexact H3
    isplitl [H4]; · iexact H4
    isplitl [H5]; · iexact H5
    iexact H6
  iexact H9

set_option maxHeartbeats 4000000 in
/-- The last point. -/
theorem pt1_last (hc1 : ¬ k1_cond1 i = 1#1) (hc2 : ¬ k1_cond2 i = 1#1) (hc3 : k1_cond3 i = 1#1) (hc4 : k1_cond4 i = 1#1) :
    iprop(Phi1 m c 11 ∗ Ow c (owe2 c) ∗ W1 m c 11 a1 a2 a3 a4 a5 a6 ∗ (∃ f, owns (c : Thread nD τ) a7 fullShare f) ∗ (∃ f, owns (c : Thread nD τ) a8 fullShare f) ∗ ∃ f, owns (c : Thread nD τ) a10 fullShare f)
      ⊢ wp frame (wpE (defs₀ (F := F)) 𝒱₀ (c : Thread nD τ) none) Set.univ
        (body1At i h1 h2 h3 h4 h5 h6 h7 h8 h9 h10 hC hU hV)
        (fun _ => iprop(Phi1 m c 12 ∗ Ow c (owe2 c) ∗ W1 m c 11 a1 a2 a3 a4 a5 a6 ∗ owns (c : Thread nD τ) a7 fullShare (kO m c) ∗ owns (c : Thread nD τ) a8 fullShare (vO m c)
          ∗ owns (c : Thread nD τ) a10 fullShare (qrC m c 3))) := by
  rw [Phi1_end, Phi1_mid m c 11 (by decide) (by decide)]
  unfold body1At
  rw [cc1__fused_body_eq_skeleton]; unfold cc1__fused_body_skel
  simp only [Prog.lift, Prog.bind_op, Prog.bind_ret, Prog.pure_eq_ret, bind_assoc, pure_bind, wp_deviceId]
  rw [dif_neg hc1, dif_neg hc2, dif_pos hc3, dif_pos hc4]
  rw [k1_part6_eq_skeleton]; unfold k1_part6_skel
  rw [k1_part3_eq_skeleton, k1_part4_eq_skeleton, k1_part5_eq_skeleton]; unfold k1_part3_skel k1_part4_skel k1_part5_skel
  simp only [Prog.lift, Prog.bind_op, Prog.bind_ret, Prog.pure_eq_ret, bind_assoc, pure_bind]
  unfold Inv' W1 EndR1 Mid1
  iintro ⟨⟨⟨⟨%κ, #HI⟩, #HL⟩, Hr, HE, Hb, HK⟩, HO, ⟨H1, H2, H3, H4, H5, H6⟩, ⟨%f7, H7⟩, ⟨%f8, H8⟩, ⟨%f, H9⟩⟩
  ihave HE := (Entails.of_eq (bigSep_fin3 _)) $$ HE
  ihave HK := (Entails.of_eq (bigSep_fin3 _)) $$ HK
  icases HE with ⟨E0, E1, E2⟩
  icases HK with ⟨K0, K1, K2⟩
  iapply ldw $$ H4; iintro H4
  iapply ldw $$ H6; iintro H6
  iapply ldw $$ H9; iintro H9
  iapply stw $$ H9; iintro H9
  iapply (w1 (vals m) κ (c := c) 0 (sem_s1 0 rfl) (sem_r1 0 rfl) rfl rfl) $$ [E0 K0 HO]
  · isplitr; · iexact HI
    isplitr; · iexact HL
    isplitl [E0]; · iexact E0
    isplitl [K0]; · iexact K0
    iexact HO
  iintro ⟨⟨S0, C, C'⟩, HO⟩
  iapply (w1 (vals m) κ (c := c) 1 (sem_s1 1 rfl) (sem_r1 1 rfl) rfl rfl) $$ [E1 K1 HO]
  · isplitr; · iexact HI
    isplitr; · iexact HL
    isplitl [E1]; · iexact E1
    isplitl [K1]; · iexact K1
    iexact HO
  iintro ⟨⟨S1, U, U'⟩, HO⟩
  iapply (w1 (vals m) κ (c := c) 2 (sem_s1 2 rfl) (sem_r1 2 rfl) rfl rfl) $$ [E2 K2 HO]
  · isplitr; · iexact HI
    isplitr; · iexact HL
    isplitl [E2]; · iexact E2
    isplitl [K2]; · iexact K2
    iexact HO
  iintro ⟨⟨S2, V, V'⟩, HO⟩
  icombine C C' as C
  ihave C := (joinC m (c := c)) $$ C
  icombine U U' as U
  ihave U := (joinU m (c := c)) $$ U
  icombine V V' as V
  ihave V := (joinV m (c := c)) $$ V
  iapply (ldCs 0 rfl) $$ C; iintro C
  iapply (ldUs 0 rfl) $$ U; iintro U
  iapply (ldCs 1 rfl) $$ C; iintro C
  iapply (ldUs 1 rfl) $$ U; iintro U
  iapply ld $$ H7; iintro H7
  iapply st $$ H7; iintro H7
  iapply (ldCs 0 rfl) $$ C; iintro C
  iapply (ldVs 0 rfl) $$ V; iintro V
  iapply (ldCs 1 rfl) $$ C; iintro C
  iapply (ldVs 1 rfl) $$ V; iintro V
  iapply ld $$ H8; iintro H8
  iapply st $$ H8; iintro H8
  iapply (ldCs 0 rfl) $$ C; iintro C
  iapply (ldUs 0 rfl) $$ U; iintro U
  iapply (ldCs 1 rfl) $$ C; iintro C
  iapply (ldUs 1 rfl) $$ U; iintro U
  iapply ld $$ H7; iintro H7
  iapply st $$ H7; iintro H7
  iapply (ldCs 0 rfl) $$ C; iintro C
  iapply (ldVs 0 rfl) $$ V; iintro V
  iapply (ldCs 1 rfl) $$ C; iintro C
  iapply (ldVs 1 rfl) $$ V; iintro V
  iapply ld $$ H8; iintro H8
  iapply st $$ H8; iintro H8
  rw [wp_ret]; imodintro
  isplitl [Hr Hb S0 S1 S2 C U V]
  · isplitl [Hr]; · iexact Hr
    isplitl [Hb]; · iexact Hb
    isplitl [S0 S1 S2]
    · unfold Sems1
      iapply (Entails.of_eq (bigSep_fin3 _).symm)
      isplitl [S0]; · iexact S0
      isplitl [S1]; · iexact S1
      iexact S2
    unfold Full1
    isplitl [C]; · iexact C
    isplitl [U]; · iexact U
    iexact V
  isplitl [HO]; · iexact HO
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]
  · ihave H7 := (Entails.of_eq (congrArg (owns (c : Thread nD τ) a7 fullShare) (halves_eq f7 _ _))) $$ H7
    iexact H7
  isplitl [H8]
  · ihave H8 := (Entails.of_eq (congrArg (owns (c : Thread nD τ) a8 fullShare) (halves_eq f8 _ _))) $$ H8
    iexact H8
  iexact H9

end Cert.KernelIdeal.Hand

end
-- ==== Proof.Body1.lean ====
/-
Call 1's points, as the pipeline asks for them.
-/
module

public import Idealize.ShloMosaic.Lib.Pipeline.TableIdle
public import proofs.«01_k».proof.Proof.Call1C

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

open Idealize.ShloMosaic.Pipeline (BodyObligation Dat)

variable (m : (ℓ : Loc nD τ sig) → Buf (Elt F) ℓ)

theorem cond1_1 : ∀ t : Fin cfg1.N, k1_cond1 (grid1.coords t) = 1#1 ↔ t.val = 0 := (by decide +kernel : ∀ t : Fin grid1.N, _)
theorem cond1_2 : ∀ t : Fin cfg1.N, k1_cond2 (grid1.coords t) = 1#1 ↔ t.val < 8 := (by decide +kernel : ∀ t : Fin grid1.N, _)
theorem cond1_3 : ∀ t : Fin cfg1.N, k1_cond3 (grid1.coords t) = 1#1 ↔ 8 ≤ t.val := (by decide +kernel : ∀ t : Fin grid1.N, _)
theorem cond1_4 : ∀ t : Fin cfg1.N, k1_cond4 (grid1.coords t) = 1#1 ↔ t.val = 11 := (by decide +kernel : ∀ t : Fin grid1.N, _)
theorem fl1_6 : ∀ t : Fin cfg1.N, t.val ≠ 11 → win1_6.flush t = false := (by decide +kernel : ∀ t : Fin grid1.N, _)
theorem fl1_7 : ∀ t : Fin cfg1.N, t.val ≠ 11 → win1_7.flush t = false := (by decide +kernel : ∀ t : Fin grid1.N, _)
theorem fl1_8 : ∀ t : Fin cfg1.N, 8 ≤ t.val → t.val ≠ 11 → win1_8.flush t = false := (by decide +kernel : ∀ t : Fin grid1.N, _)
theorem fl1_8' : ∀ t : Fin cfg1.N, t.val = 11 → win1_8.flush t = true := (by decide +kernel : ∀ t : Fin grid1.N, _)
theorem fl1_9 : ∀ t : Fin cfg1.N, t.val < 8 → win1_9.flush t = false := (by decide +kernel : ∀ t : Fin grid1.N, _)

theorem id1_6 (t : Fin cfg1.N) (h : t.val ≠ 11) : cfg1.idle 6 (cfg1.grid.coords t) = true := by
  show (!(k1_cond4 (grid1.coords t) == 1#1)) = true
  have := mt (cond1_4 t).mp h
  simp [this]
theorem id1_7 (t : Fin cfg1.N) (h : t.val ≠ 11) : cfg1.idle 7 (cfg1.grid.coords t) = true := by
  show (!(k1_cond4 (grid1.coords t) == 1#1)) = true
  have := mt (cond1_4 t).mp h
  simp [this]
theorem id1_8 (t : Fin cfg1.N) (h : ¬ t.val < 8) : cfg1.idle 8 (cfg1.grid.coords t) = true := by
  show (!(k1_cond2 (grid1.coords t) == 1#1)) = true
  have := mt (cond1_2 t).mp h
  simp [this]
theorem id1_9 (t : Fin cfg1.N) (h : ¬ 8 ≤ t.val) : cfg1.idle 9 (cfg1.grid.coords t) = true := by
  show (!(k1_cond3 (grid1.coords t) == 1#1)) = true
  have := mt (cond1_3 t).mp h
  simp [this]
theorem lv1_6 (t : Fin cfg1.N) (h : t.val = 11) : cfg1.idle 6 (cfg1.grid.coords t) = false := by
  show (!(k1_cond4 (grid1.coords t) == 1#1)) = false
  rw [(cond1_4 t).mpr h]; rfl
theorem lv1_7 (t : Fin cfg1.N) (h : t.val = 11) : cfg1.idle 7 (cfg1.grid.coords t) = false := by
  show (!(k1_cond4 (grid1.coords t) == 1#1)) = false
  rw [(cond1_4 t).mpr h]; rfl
theorem lv1_8 (t : Fin cfg1.N) (h : t.val < 8) : cfg1.idle 8 (cfg1.grid.coords t) = false := by
  show (!(k1_cond2 (grid1.coords t) == 1#1)) = false
  rw [(cond1_2 t).mpr h]; rfl
theorem lv1_9 (t : Fin cfg1.N) (h : 8 ≤ t.val) : cfg1.idle 9 (cfg1.grid.coords t) = false := by
  show (!(k1_cond3 (grid1.coords t) == 1#1)) = false
  rw [(cond1_3 t).mpr h]; rfl

/-- At the last point the chunk window still holds the last chunk. -/
theorem bf1_8 (c : Dev nD) (t : Fin cfg1.N) (h : t.val = 11) (d) : (dat1 m c).before 8 t d = qC m c t.val := by
  rw [(dat1 m c).before_out_traj 8 rfl (fun _ _ => rfl) (fun t ht hi hfr => by
      have h8 : 8 ≤ t.val := by
        by_contra hn
        rw [lv1_8 t (by omega)] at hi
        exact Bool.false_ne_true hi
      show qC m c t.val = qC m c (t.val - 1)
      unfold qC
      congr 2
      omega) t.val t rfl d]
  rw [show cfg1.fresh 8 t.val = false by rw [h]; decide +kernel]
  show qC m c (t.val - 1) = qC m c t.val
  unfold qC
  congr 2
  omega

/-! ### The windows at a point -/

/-- What the pipeline hands over of window w, and what it asks back. -/
def inM (c : Dev nD) (t : Fin cfg1.N) (w : Fin cfg1.W) : sProp 𝕄 :=
  iprop(∃ d, owns (c : Thread nD τ) ((cfg1.win w).stage (cfg1.slots t w)) fullShare ((dat1 m c).before w t d))
def outM (c : Dev nD) (t : Fin cfg1.N) (w : Fin cfg1.W) : sProp 𝕄 :=
  match cfg1.idle w (cfg1.grid.coords t) with
  | true => match (cfg1.win w).flush t with
    | false => iprop(∃ d, owns (c : Thread nD τ) ((cfg1.win w).stage (cfg1.slots t w)) fullShare ((dat1 m c).before w t d))
    | true => owns (c : Thread nD τ) ((cfg1.win w).stage (cfg1.slots t w)) fullShare ((dat1 m c).after w t)
  | false => owns (c : Thread nD τ) ((cfg1.win w).stage (cfg1.slots t w)) fullShare ((dat1 m c).after w t)

theorem outM_idle (c : Dev nD) (t : Fin cfg1.N) (w : Fin cfg1.W) (h : cfg1.idle w (cfg1.grid.coords t) = true) (h' : (cfg1.win w).flush t = false) : outM m c t w = inM m c t w := by
  unfold outM; rw [h, h']; rfl
theorem outM_flush (c : Dev nD) (t : Fin cfg1.N) (w : Fin cfg1.W) (h : cfg1.idle w (cfg1.grid.coords t) = true) (h' : (cfg1.win w).flush t = true) :
    outM m c t w = owns (c : Thread nD τ) ((cfg1.win w).stage (cfg1.slots t w)) fullShare ((dat1 m c).after w t) := by
  unfold outM; rw [h, h']
theorem outM_live (c : Dev nD) (t : Fin cfg1.N) (w : Fin cfg1.W) (h : cfg1.idle w (cfg1.grid.coords t) = false) :
    outM m c t w = owns (c : Thread nD τ) ((cfg1.win w).stage (cfg1.slots t w)) fullShare ((dat1 m c).after w t) := by
  unfold outM; rw [h]
theorem inM_any (c : Dev nD) (t : Fin cfg1.N) (w : Fin cfg1.W) : inM m c t w ⊢ iprop(∃ f, owns (c : Thread nD τ) ((cfg1.win w).stage (cfg1.slots t w)) fullShare f) := by
  unfold inM; iintro ⟨%d, H⟩; iexists _; iexact H
theorem in1_0 (c : Dev nD) (t : Fin cfg1.N) : (iprop(∃ d, owns (c : Thread nD τ) (win1_0.stage (cfg1.slots t 0)) fullShare ((dat1 m c).before 0 t d)) : sProp 𝕄)
    ⊢ owns (c : Thread nD τ) (win1_0.stage (cfg1.slots t 0)) fullShare (cO m c) := by
  iintro ⟨%d, H⟩; iapply (Entails.of_eq (congrArg (owns (c : Thread nD τ) (win1_0.stage (cfg1.slots t 0)) fullShare) (bf1_0 m c t d))) $$ H
theorem in1_1 (c : Dev nD) (t : Fin cfg1.N) : (iprop(∃ d, owns (c : Thread nD τ) (win1_1.stage (cfg1.slots t 1)) fullShare ((dat1 m c).before 1 t d)) : sProp 𝕄)
    ⊢ owns (c : Thread nD τ) (win1_1.stage (cfg1.slots t 1)) fullShare (wuk m c) := by
  iintro ⟨%d, H⟩; iapply (Entails.of_eq (congrArg (owns (c : Thread nD τ) (win1_1.stage (cfg1.slots t 1)) fullShare) (bf1_1 m c t d))) $$ H
theorem in1_2 (c : Dev nD) (t : Fin cfg1.N) : (iprop(∃ d, owns (c : Thread nD τ) (win1_2.stage (cfg1.slots t 2)) fullShare ((dat1 m c).before 2 t d)) : sProp 𝕄)
    ⊢ owns (c : Thread nD τ) (win1_2.stage (cfg1.slots t 2)) fullShare (wuv m c) := by
  iintro ⟨%d, H⟩; iapply (Entails.of_eq (congrArg (owns (c : Thread nD τ) (win1_2.stage (cfg1.slots t 2)) fullShare) (bf1_2 m c t d))) $$ H
theorem in1_3 (c : Dev nD) (t : Fin cfg1.N) : (iprop(∃ d, owns (c : Thread nD τ) (win1_3.stage (cfg1.slots t 3)) fullShare ((dat1 m c).before 3 t d)) : sProp 𝕄)
    ⊢ owns (c : Thread nD τ) (win1_3.stage (cfg1.slots t 3)) fullShare (xbO m c) := by
  iintro ⟨%d, H⟩; iapply (Entails.of_eq (congrArg (owns (c : Thread nD τ) (win1_3.stage (cfg1.slots t 3)) fullShare) (bf1_3 m c t d))) $$ H
theorem in1_4 (c : Dev nD) (t : Fin cfg1.N) : (iprop(∃ d, owns (c : Thread nD τ) (win1_4.stage (cfg1.slots t 4)) fullShare ((dat1 m c).before 4 t d)) : sProp 𝕄)
    ⊢ owns (c : Thread nD τ) (win1_4.stage (cfg1.slots t 4)) fullShare (blkC (wq m c) (min t.val 7) (lt8 _)) := by
  iintro ⟨%d, H⟩; iapply (Entails.of_eq (congrArg (owns (c : Thread nD τ) (win1_4.stage (cfg1.slots t 4)) fullShare) (bf1_4 m c t d))) $$ H
theorem in1_5 (c : Dev nD) (t : Fin cfg1.N) : (iprop(∃ d, owns (c : Thread nD τ) (win1_5.stage (cfg1.slots t 5)) fullShare ((dat1 m c).before 5 t d)) : sProp 𝕄)
    ⊢ owns (c : Thread nD τ) (win1_5.stage (cfg1.slots t 5)) fullShare (blkC (wqr m c) (min (t.val - 8) 3) (lt4 _)) := by
  iintro ⟨%d, H⟩; iapply (Entails.of_eq (congrArg (owns (c : Thread nD τ) (win1_5.stage (cfg1.slots t 5)) fullShare) (bf1_5 m c t d))) $$ H

/-- The input windows, out of what the pipeline hands over and back. -/
abbrev P1 (c : Dev nD) (t : Fin cfg1.N) : sProp 𝕄 :=
  W1 m c t.val (win1_0.stage (cfg1.slots t 0)) (win1_1.stage (cfg1.slots t 1)) (win1_2.stage (cfg1.slots t 2)) (win1_3.stage (cfg1.slots t 3)) (win1_4.stage (cfg1.slots t 4)) (win1_5.stage (cfg1.slots t 5))

theorem body1_of (c : Dev nD) (t : Fin cfg1.N) (O O' : CellTallies nD τ sig Unit) (h : (dat1 m c).owed t.castSucc = O) (h' : (dat1 m c).owed t.succ = O') (E E' R : sProp 𝕄)
    (hX : iprop(inM m c t 6 ∗ inM m c t 7 ∗ inM m c t 8 ∗ inM m c t 9) ⊢ iprop(E ∗ R))
    (hY : iprop(E' ∗ R) ⊢ iprop(outM m c t 6 ∗ outM m c t 7 ∗ outM m c t 8 ∗ outM m c t 9))
    (hb : iprop(Phi1 m c t.val ∗ Ow c O ∗ P1 m c t ∗ E)
      ⊢ wp frame (wpE (defs₀ (F := F)) 𝒱₀ (c : Thread nD τ) none) Set.univ ((defs₀ (F := F)) .tc cfg1.body (cfg1.bodyArgs t (cfg1.slots t)))
        (fun _ => iprop(Phi1 m c (t.val + 1) ∗ Ow c O' ∗ P1 m c t ∗ E'))) :
    iprop((dat1 m c).Φ t.castSucc ∗ (dat1 m c).owesAt () t.castSucc
        ∗ bigSep Finset.univ fun w : Fin cfg1.W => iprop(∃ d, owns (c : Thread nD τ) ((cfg1.win w).stage (cfg1.slots t w)) fullShare ((dat1 m c).before w t d)))
      ⊢ wp frame (wpE (defs₀ (F := F)) 𝒱₀ (c : Thread nD τ) none) Set.univ ((defs₀ (F := F)) .tc cfg1.body (cfg1.bodyArgs t (cfg1.slots t))) fun _ =>
          iprop((dat1 m c).Φ t.succ ∗ (dat1 m c).owesAt () t.succ
            ∗ bigSep Finset.univ fun w : Fin cfg1.W => outM m c t w) := by
  unfold inM at hX
  rw [bigSep_W1, bigSep_W1]
  iintro ⟨HΦ, HO, H0, H1, H2, H3, H4, H5, H6, H7, H8, H9⟩
  iapply ((wpFr (R := R) hb fun _ => .rfl).trans (wp_mono _ _ _ fun _ => ?_))
  rotate_left
  · unfold P1 W1
    icombine H6 H7 H8 H9 as HX
    ihave HX := hX $$ HX
    icases HX with ⟨HE, HR⟩
    isplitr [HR]
    · isplitl [HΦ]; · iapply (Entails.of_eq (show (dat1 m c).Φ t.castSucc = Phi1 m c t.val from rfl)) $$ HΦ
      isplitl [HO]; · iapply (owesAt_elim (dat1 m c) _ O h) $$ HO
      isplitr [HE]
      · isplitl [H0]; · iapply (in1_0 m c t) $$ H0
        isplitl [H1]; · iapply (in1_1 m c t) $$ H1
        isplitl [H2]; · iapply (in1_2 m c t) $$ H2
        isplitl [H3]; · iapply (in1_3 m c t) $$ H3
        isplitl [H4]; · iapply (in1_4 m c t) $$ H4
        iapply (in1_5 m c t) $$ H5
      iexact HE
    iexact HR
  · unfold P1 W1
    rw [show (dat1 m c).Φ t.succ = Phi1 m c (t.val + 1) from rfl]
    iintro ⟨⟨HΦ, HO, ⟨H0, H1, H2, H3, H4, H5⟩, HE⟩, HR⟩
    icombine HE HR as HY
    ihave HY := hY $$ HY
    icases HY with ⟨H6, H7, H8, H9⟩
    isplitl [HΦ]; · iexact HΦ
    isplitl [HO]; · iapply (owesAt_intro (dat1 m c) t.succ O' h') $$ HO
    isplitl [H0]; · iapply (Entails.of_eq (outM_live m c t 0 rfl).symm); iexact H0
    isplitl [H1]; · iapply (Entails.of_eq (outM_live m c t 1 rfl).symm); iexact H1
    isplitl [H2]; · iapply (Entails.of_eq (outM_live m c t 2 rfl).symm); iexact H2
    isplitl [H3]; · iapply (Entails.of_eq (outM_live m c t 3 rfl).symm); iexact H3
    isplitl [H4]; · iapply (Entails.of_eq (outM_live m c t 4 rfl).symm); iexact H4
    isplitl [H5]; · iapply (Entails.of_eq (outM_live m c t 5 rfl).symm); iexact H5
    isplitl [H6]; · iexact H6
    isplitl [H7]; · iexact H7
    isplitl [H8]; · iexact H8
    iexact H9

theorem pick8 (A B C D C' : sProp 𝕄) (h : C ⊢ C') : iprop(A ∗ B ∗ C ∗ D) ⊢ iprop(C' ∗ A ∗ B ∗ D) := by
  iintro ⟨HA, HB, HC, HD⟩
  isplitl [HC]; · iapply h $$ HC
  isplitl [HA]; · iexact HA
  isplitl [HB]; · iexact HB
  iexact HD
theorem put8 (A B C D : sProp 𝕄) : iprop(C ∗ A ∗ B ∗ D) ⊢ iprop(A ∗ B ∗ C ∗ D) := by
  iintro ⟨HC, HA, HB, HD⟩
  isplitl [HA]; · iexact HA
  isplitl [HB]; · iexact HB
  isplitl [HC]; · iexact HC
  iexact HD
theorem pick9 (A B C D D' : sProp 𝕄) (h : D ⊢ D') : iprop(A ∗ B ∗ C ∗ D) ⊢ iprop(D' ∗ A ∗ B ∗ C) := by
  iintro ⟨HA, HB, HC, HD⟩
  isplitl [HD]; · iapply h $$ HD
  isplitl [HA]; · iexact HA
  isplitl [HB]; · iexact HB
  iexact HC
theorem put9 (A B C D : sProp 𝕄) : iprop(D ∗ A ∗ B ∗ C) ⊢ iprop(A ∗ B ∗ C ∗ D) := by
  iintro ⟨HD, HA, HB, HC⟩
  isplitl [HA]; · iexact HA
  isplitl [HB]; · iexact HB
  isplitl [HC]; · iexact HC
  iexact HD
theorem pickL (A B C D A' B' C' D' : sProp 𝕄) (hA : A ⊢ A') (hB : B ⊢ B') (hC : C ⊢ C') (hD : D ⊢ D') : iprop(A ∗ B ∗ C ∗ D) ⊢ iprop((A' ∗ B' ∗ D') ∗ C') := by
  iintro ⟨HA, HB, HC, HD⟩
  isplitr [HC]
  · isplitl [HA]; · iapply hA $$ HA
    isplitl [HB]; · iapply hB $$ HB
    iapply hD $$ HD
  iapply hC $$ HC
theorem putL (A B C D : sProp 𝕄) : iprop((A ∗ B ∗ D) ∗ C) ⊢ iprop(A ∗ B ∗ C ∗ D) := by
  iintro ⟨⟨HA, HB, HD⟩, HC⟩
  isplitl [HA]; · iexact HA
  isplitl [HB]; · iexact HB
  isplitl [HC]; · iexact HC
  iexact HD

theorem fr1 {c : Dev nD} {α : Type} {p : Prog (TpuEff nD τ sig (Elt F) Λ₀ .tc) α} (t : ℕ) (h0 : t ≠ 0) (h1 : t + 1 < 12) {W E E' : sProp 𝕄}
    (h : iprop(W ∗ E) ⊢ wp frame (wpE (defs₀ (F := F)) 𝒱₀ (c : Thread nD τ) none) Set.univ p (fun _ => iprop(W ∗ E'))) :
    iprop(Phi1 m c t ∗ Ow c (owe2 c) ∗ W ∗ E) ⊢ wp frame (wpE (defs₀ (F := F)) 𝒱₀ (c : Thread nD τ) none) Set.univ p
      (fun _ => iprop(Phi1 m c (t + 1) ∗ Ow c (owe2 c) ∗ W ∗ E')) := by
  rw [Phi1_mid m c t h0 (by omega), Phi1_mid m c (t + 1) (by omega) h1]
  generalize iprop(Inv' m ∗ rest1 c ∗ EndR1 c ∗ semVal (bar0 c) 0 ∗ Mid1 c) = P
  iintro ⟨HP, HO, HW⟩
  iapply ((wpFr (R := iprop(P ∗ Ow c (owe2 c))) h fun _ => .rfl).trans (wp_mono _ _ _ fun _ => ?_))
  rotate_left
  · isplitl [HW]; · iexact HW
    isplitl [HP]; · iexact HP
    iexact HO
  · iintro ⟨⟨HW, HE⟩, ⟨HP, HO⟩⟩
    isplitl [HP]; · iexact HP
    isplitl [HO]; · iexact HO
    isplitl [HW]; · iexact HW
    iexact HE

section
variable {c : Dev nD} (i : grid1.Coords) {a1 : Memref sig .tc .vmem S256x128 .bf16} {a2 a3 : Memref sig .tc .vmem S128x4096 .bf16} {a4 : Memref sig .tc .vmem S256x4096 .bf16}
  {a5 a6 : Memref sig .tc .vmem S4096x512 .bf16} {a7 a8 : Memref sig .tc .vmem S256x4096 .bf16} {a9 a10 : Memref sig .tc .vmem S256x512 .bf16}
  (h1 : a1.IsWhole) (h2 : a2.IsWhole) (h3 : a3.IsWhole) (h4 : a4.IsWhole) (h5 : a5.IsWhole) (h6 : a6.IsWhole) (h7 : a7.IsWhole)
  (h8 : a8.IsWhole) (h9 : a9.IsWhole) (h10 : a10.IsWhole) (hC : (Memref.whole bC).IsWhole) (hU : (Memref.whole bU).IsWhole) (hV : (Memref.whole bV).IsWhole)

theorem pt1_first' (k : Fin 12) (hk : k.val = 0) (hc1 : k1_cond1 i = 1#1) (hc2 : k1_cond2 i = 1#1) (hc3 : ¬ k1_cond3 i = 1#1) (hc4 : ¬ k1_cond4 i = 1#1) :
    iprop(Phi1 m c k.val ∗ Ow c (owe2 c + owe1 c) ∗ W1 m c k.val a1 a2 a3 a4 a5 a6 ∗ ∃ f, owns (c : Thread nD τ) a9 fullShare f)
      ⊢ wp frame (wpE (defs₀ (F := F)) 𝒱₀ (c : Thread nD τ) none) Set.univ
        (body1At i h1 h2 h3 h4 h5 h6 h7 h8 h9 h10 hC hU hV)
        (fun _ => iprop(Phi1 m c (k.val + 1) ∗ Ow c (owe2 c) ∗ W1 m c k.val a1 a2 a3 a4 a5 a6 ∗ owns (c : Thread nD τ) a9 fullShare (qC m c k.val))) := by
  obtain rfl : k = 0 := Fin.ext hk
  exact pt1_first m i h1 h2 h3 h4 h5 h6 h7 h8 h9 h10 hC hU hV hc1 hc2 hc3 hc4
theorem pt1_last' (k : Fin 12) (hk : k.val = 11) (hc1 : ¬ k1_cond1 i = 1#1) (hc2 : ¬ k1_cond2 i = 1#1) (hc3 : k1_cond3 i = 1#1) (hc4 : k1_cond4 i = 1#1) :
    iprop(Phi1 m c k.val ∗ Ow c (owe2 c) ∗ W1 m c k.val a1 a2 a3 a4 a5 a6 ∗ (∃ f, owns (c : Thread nD τ) a7 fullShare f) ∗ (∃ f, owns (c : Thread nD τ) a8 fullShare f) ∗ ∃ f, owns (c : Thread nD τ) a10 fullShare f)
      ⊢ wp frame (wpE (defs₀ (F := F)) 𝒱₀ (c : Thread nD τ) none) Set.univ
        (body1At i h1 h2 h3 h4 h5 h6 h7 h8 h9 h10 hC hU hV)
        (fun _ => iprop(Phi1 m c (k.val + 1) ∗ Ow c (owe2 c) ∗ W1 m c k.val a1 a2 a3 a4 a5 a6 ∗ owns (c : Thread nD τ) a7 fullShare (kO m c) ∗ owns (c : Thread nD τ) a8 fullShare (vO m c)
          ∗ owns (c : Thread nD τ) a10 fullShare (qrC m c (k.val - 8)))) := by
  obtain rfl : k = 11 := Fin.ext hk
  exact pt1_last m i h1 h2 h3 h4 h5 h6 h7 h8 h9 h10 hC hU hV hc1 hc2 hc3 hc4
end

theorem body1 (c : Dev nD) : BodyObligation (dat1 m c) (defs₀ (F := F)) 𝒱₀ () Set.univ := fun t => by
  have ht : t.val < 12 := t.isLt
  have ho' : (dat1 m c).owed t.succ = owe2 c := (if_neg (Nat.succ_ne_zero t.val) : (if t.val + 1 = 0 then owe2 c + owe1 c else owe2 c) = _)
  by_cases h0 : t.val = 0
  · have ho : (dat1 m c).owed t.castSucc = owe2 c + owe1 c := if_pos h0
    refine body1_of m c t _ _ ho ho' (iprop(∃ f, owns (c : Thread nD τ) ((cfg1.win 8).stage (cfg1.slots t 8)) fullShare f)) (owns (c : Thread nD τ) ((cfg1.win 8).stage (cfg1.slots t 8)) fullShare (qC m c t.val)) _
      (pick8 _ _ _ _ _ (inM_any m c t 8)) ?_ ?_
    · rw [outM_idle m c t 6 (id1_6 t (by omega)) (fl1_6 t (by omega)), outM_idle m c t 7 (id1_7 t (by omega)) (fl1_7 t (by omega)),
        outM_idle m c t 9 (id1_9 t (by omega)) (fl1_9 t (by omega)), outM_live m c t 8 (lv1_8 t (by omega))]
      exact put8 _ _ _ _
    · exact pt1_first' m (c := c) (grid1.coords t) (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (hstage1_7 ((cfg1.slots t 7).cast nbuf1_7)) (hstage1_8 ((cfg1.slots t 8).cast nbuf1_8)) (hstage1_9 ((cfg1.slots t 9).cast nbuf1_9)) (Memref.isWhole_whole _) (Memref.isWhole_whole _) (Memref.isWhole_whole _)
        ⟨t.val, ht⟩ h0 ((cond1_1 t).mpr h0) ((cond1_2 t).mpr (by omega)) (fun e => by have := (cond1_3 t).mp e; omega) (fun e => by have := (cond1_4 t).mp e; omega)
  have ho : (dat1 m c).owed t.castSucc = owe2 c := if_neg h0
  by_cases h8 : t.val < 8
  · refine body1_of m c t _ _ ho ho' (iprop(∃ f, owns (c : Thread nD τ) ((cfg1.win 8).stage (cfg1.slots t 8)) fullShare f)) (owns (c : Thread nD τ) ((cfg1.win 8).stage (cfg1.slots t 8)) fullShare (qC m c t.val)) _
      (pick8 _ _ _ _ _ (inM_any m c t 8)) ?_ ?_
    · rw [outM_idle m c t 6 (id1_6 t (by omega)) (fl1_6 t (by omega)), outM_idle m c t 7 (id1_7 t (by omega)) (fl1_7 t (by omega)),
        outM_idle m c t 9 (id1_9 t (by omega)) (fl1_9 t (by omega)), outM_live m c t 8 (lv1_8 t (by omega))]
      exact put8 _ _ _ _
    · exact fr1 m t.val h0 (by omega) (pt1_q m (c := c) (grid1.coords t) (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (hstage1_7 ((cfg1.slots t 7).cast nbuf1_7)) (hstage1_8 ((cfg1.slots t 8).cast nbuf1_8)) (hstage1_9 ((cfg1.slots t 9).cast nbuf1_9)) (Memref.isWhole_whole _) (Memref.isWhole_whole _) (Memref.isWhole_whole _)
        t.val (fun e => h0 ((cond1_1 t).mp e)) ((cond1_2 t).mpr h8) (fun e => by have := (cond1_3 t).mp e; omega) (fun e => by have := (cond1_4 t).mp e; omega))
  by_cases h11 : t.val = 11
  · refine body1_of m c t _ _ ho ho'
      (iprop((∃ f, owns (c : Thread nD τ) ((cfg1.win 6).stage (cfg1.slots t 6)) fullShare f) ∗ (∃ f, owns (c : Thread nD τ) ((cfg1.win 7).stage (cfg1.slots t 7)) fullShare f) ∗ (∃ f, owns (c : Thread nD τ) ((cfg1.win 9).stage (cfg1.slots t 9)) fullShare f)))
      (iprop(owns (c : Thread nD τ) ((cfg1.win 6).stage (cfg1.slots t 6)) fullShare (kO m c) ∗ owns (c : Thread nD τ) ((cfg1.win 7).stage (cfg1.slots t 7)) fullShare (vO m c) ∗ owns (c : Thread nD τ) ((cfg1.win 9).stage (cfg1.slots t 9)) fullShare (qrC m c (t.val - 8))))
      (owns (c : Thread nD τ) ((cfg1.win 8).stage (cfg1.slots t 8)) fullShare (qC m c t.val))
      (pickL _ _ _ _ _ _ _ _ (inM_any m c t 6) (inM_any m c t 7) (by unfold inM; iintro ⟨%d, H⟩; iapply (Entails.of_eq (congrArg (owns (c : Thread nD τ) ((cfg1.win 8).stage (cfg1.slots t 8)) fullShare) (bf1_8 m c t h11 d))) $$ H) (inM_any m c t 9)) ?_ ?_
    · rw [outM_live m c t 6 (lv1_6 t h11), outM_live m c t 7 (lv1_7 t h11), outM_live m c t 9 (lv1_9 t (by omega)), outM_flush m c t 8 (id1_8 t h8) (fl1_8' t h11)]
      exact putL _ _ _ _
    · exact pt1_last' m (c := c) (grid1.coords t) (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (hstage1_7 ((cfg1.slots t 7).cast nbuf1_7)) (hstage1_8 ((cfg1.slots t 8).cast nbuf1_8)) (hstage1_9 ((cfg1.slots t 9).cast nbuf1_9)) (Memref.isWhole_whole _) (Memref.isWhole_whole _) (Memref.isWhole_whole _)
        ⟨t.val, ht⟩ h11 (fun e => h0 ((cond1_1 t).mp e)) (fun e => h8 ((cond1_2 t).mp e)) ((cond1_3 t).mpr (by omega)) ((cond1_4 t).mpr h11)
  · refine body1_of m c t _ _ ho ho' (iprop(∃ f, owns (c : Thread nD τ) ((cfg1.win 9).stage (cfg1.slots t 9)) fullShare f)) (owns (c : Thread nD τ) ((cfg1.win 9).stage (cfg1.slots t 9)) fullShare (qrC m c (t.val - 8))) _
      (pick9 _ _ _ _ _ (inM_any m c t 9)) ?_ ?_
    · rw [outM_idle m c t 6 (id1_6 t h11) (fl1_6 t h11), outM_idle m c t 7 (id1_7 t h11) (fl1_7 t h11),
        outM_idle m c t 8 (id1_8 t h8) (fl1_8 t (by omega) h11), outM_live m c t 9 (lv1_9 t (by omega))]
      exact put9 _ _ _ _
    · exact fr1 m t.val h0 (by omega) (pt1_qr m (c := c) (grid1.coords t) (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (hstage1_7 ((cfg1.slots t 7).cast nbuf1_7)) (hstage1_8 ((cfg1.slots t 8).cast nbuf1_8)) (hstage1_9 ((cfg1.slots t 9).cast nbuf1_9)) (Memref.isWhole_whole _) (Memref.isWhole_whole _) (Memref.isWhole_whole _)
        t.val (fun e => h0 ((cond1_1 t).mp e)) (fun e => h8 ((cond1_2 t).mp e)) ((cond1_3 t).mpr (by omega)) (fun e => h11 ((cond1_4 t).mp e)))

end Cert.KernelIdeal.Hand

end
-- ==== Proof.Body0.lean ====
/-
Call 0's point: the latent and the rotary key, and the input passed on.
-/
module

public import proofs.«01_k».proof.Proof.Body1

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

open Idealize.ShloMosaic.Pipeline (BodyObligation Dat)

variable (m : (ℓ : Loc nD τ sig) → Buf (Elt F) ℓ)

theorem pt0 {c : Dev nD} {a0 : Memref sig .tc .vmem S256x4096 .bf16} {a1 : Memref sig .tc .vmem S4096x128 .bf16} {a2 : Memref sig .tc .vmem S4096x64 .bf16}
    {a3 : Memref sig .tc .vmem S256x128 .bf16} {a4 : Memref sig .tc .vmem S256x64 .bf16} {a5 : Memref sig .tc .vmem S256x4096 .bf16}
    (h0 : a0.IsWhole) (h1 : a1.IsWhole) (h2 : a2.IsWhole) (h3 : a3.IsWhole) (h4 : a4.IsWhole) (h5 : a5.IsWhole) :
    (iprop(owns (c : Thread nD τ) a0 fullShare (xi m c) ∗ owns (c : Thread nD τ) a1 fullShare (wdkv m c) ∗ owns (c : Thread nD τ) a2 fullShare (wkr m c)
        ∗ (∃ f, owns (c : Thread nD τ) a3 fullShare f) ∗ (∃ f, owns (c : Thread nD τ) a4 fullShare f) ∗ ∃ f, owns (c : Thread nD τ) a5 fullShare f) : sProp 𝕄)
      ⊢ wp frame (wpE (defs₀ (F := F)) 𝒱₀ (c : Thread nD τ) none) Set.univ (cc0__c_kr_body a0 h0 a1 h1 a2 h2 a3 h3 a4 h4 a5 h5)
        (fun _ => iprop(owns (c : Thread nD τ) a0 fullShare (xi m c) ∗ owns (c : Thread nD τ) a1 fullShare (wdkv m c) ∗ owns (c : Thread nD τ) a2 fullShare (wkr m c)
          ∗ owns (c : Thread nD τ) a3 fullShare (cO m c) ∗ owns (c : Thread nD τ) a4 fullShare (krO m c) ∗ owns (c : Thread nD τ) a5 fullShare (xbO m c))) := by
  rw [cc0__c_kr_body_eq_skeleton]; unfold cc0__c_kr_body_skel
  simp only [Prog.lift, Prog.bind_op, Prog.bind_ret, Prog.pure_eq_ret, bind_assoc, pure_bind]
  iintro ⟨H0, H1, H2, ⟨%f3, H3⟩, ⟨%f4, H4⟩, ⟨%f5, H5⟩⟩
  iapply ldw $$ H0; iintro H0
  iapply ldw $$ H5; iintro H5
  iapply stw $$ H5; iintro H5
  iapply ldw $$ H1; iintro H1
  iapply ldw $$ H3; iintro H3
  iapply stw $$ H3; iintro H3
  iapply ldw $$ H2; iintro H2
  iapply ldw $$ H4; iintro H4
  iapply stw $$ H4; iintro H4
  rw [wp_ret]; imodintro
  isplitl [H0]; · iexact H0
  isplitl [H1]; · iexact H1
  isplitl [H2]; · iexact H2
  isplitl [H3]; · iexact H3
  isplitl [H4]; · iexact H4
  iexact H5

theorem in0_0 (c : Dev nD) (t : Fin cfg0.N) : (iprop(∃ d, owns (c : Thread nD τ) (win0_0.stage (cfg0.slots t 0)) fullShare ((dat0 m c).before 0 t d)) : sProp 𝕄)
    ⊢ owns (c : Thread nD τ) (win0_0.stage (cfg0.slots t 0)) fullShare (xi m c) := by
  iintro ⟨%d, H⟩; iapply (Entails.of_eq (congrArg (owns (c : Thread nD τ) (win0_0.stage (cfg0.slots t 0)) fullShare) (bf0_0 m c t d))) $$ H
theorem in0_1 (c : Dev nD) (t : Fin cfg0.N) : (iprop(∃ d, owns (c : Thread nD τ) (win0_1.stage (cfg0.slots t 1)) fullShare ((dat0 m c).before 1 t d)) : sProp 𝕄)
    ⊢ owns (c : Thread nD τ) (win0_1.stage (cfg0.slots t 1)) fullShare (wdkv m c) := by
  iintro ⟨%d, H⟩; iapply (Entails.of_eq (congrArg (owns (c : Thread nD τ) (win0_1.stage (cfg0.slots t 1)) fullShare) (bf0_1 m c t d))) $$ H
theorem in0_2 (c : Dev nD) (t : Fin cfg0.N) : (iprop(∃ d, owns (c : Thread nD τ) (win0_2.stage (cfg0.slots t 2)) fullShare ((dat0 m c).before 2 t d)) : sProp 𝕄)
    ⊢ owns (c : Thread nD τ) (win0_2.stage (cfg0.slots t 2)) fullShare (wkr m c) := by
  iintro ⟨%d, H⟩; iapply (Entails.of_eq (congrArg (owns (c : Thread nD τ) (win0_2.stage (cfg0.slots t 2)) fullShare) (bf0_2 m c t d))) $$ H

theorem body0_at (c : Dev nD) (t : Fin cfg0.N) :
    iprop((dat0 m c).Φ t.castSucc ∗ (dat0 m c).owesAt () t.castSucc
        ∗ bigSep Finset.univ fun w : Fin cfg0.W => iprop(∃ d, owns (c : Thread nD τ) ((cfg0.win w).stage (cfg0.slots t w)) fullShare ((dat0 m c).before w t d)))
      ⊢ wp frame (wpE (defs₀ (F := F)) 𝒱₀ (c : Thread nD τ) none) Set.univ ((defs₀ (F := F)) .tc cfg0.body (cfg0.bodyArgs t (cfg0.slots t))) fun _ =>
          iprop((dat0 m c).Φ t.succ ∗ (dat0 m c).owesAt () t.succ
            ∗ bigSep Finset.univ fun w : Fin cfg0.W => owns (c : Thread nD τ) ((cfg0.win w).stage (cfg0.slots t w)) fullShare ((dat0 m c).after w t)) := by
  rw [bigSep_W0, bigSep_W0]
  have hb := pt0 m (c := c) (a0 := win0_0.stage (cfg0.slots t 0)) (a1 := win0_1.stage (cfg0.slots t 1)) (a2 := win0_2.stage (cfg0.slots t 2)) (a3 := win0_3.stage (cfg0.slots t 3)) (a4 := win0_4.stage (cfg0.slots t 4)) (a5 := win0_5.stage (cfg0.slots t 5))
    (hstage0_0 0) (hstage0_1 0) (hstage0_2 0) (hstage0_3 0) (hstage0_4 0) (hstage0_5 0)
  iintro ⟨HΦ, HO, H0, H1, H2, ⟨%d3, H3⟩, ⟨%d4, H4⟩, ⟨%d5, H5⟩⟩
  iapply ((wpFr (R := iprop((dat0 m c).Φ t.castSucc ∗ (dat0 m c).owesAt () t.castSucc)) hb fun _ => .rfl).trans (wp_mono _ _ _ fun _ => ?_))
  rotate_left
  · isplitr [HΦ HO]
    · isplitl [H0]; · iapply (in0_0 m c t) $$ H0
      isplitl [H1]; · iapply (in0_1 m c t) $$ H1
      isplitl [H2]; · iapply (in0_2 m c t) $$ H2
      isplitl [H3]; · iexists _; iexact H3
      isplitl [H4]; · iexists _; iexact H4
      iexists _; iexact H5
    isplitl [HΦ]; · iexact HΦ
    iexact HO
  · iintro ⟨⟨H0, H1, H2, H3, H4, H5⟩, ⟨HΦ, HO⟩⟩
    isplitl [HΦ]; · iapply (Entails.of_eq (show (dat0 m c).Φ t.castSucc = (dat0 m c).Φ t.succ from rfl)) $$ HΦ
    isplitl [HO]
    · iapply (owesAt_intro (dat0 m c) t.succ (owe2 c + owe1 c) rfl)
      iapply (owesAt_elim (dat0 m c) t.castSucc (owe2 c + owe1 c) rfl) $$ HO
    isplitl [H0]; · iexact H0
    isplitl [H1]; · iexact H1
    isplitl [H2]; · iexact H2
    isplitl [H3]; · iexact H3
    isplitl [H4]; · iexact H4
    iexact H5
theorem body0 (c : Dev nD) : BodyObligation (dat0 m c) (defs₀ (F := F)) 𝒱₀ () Set.univ := fun t => body0_at m c t

end Cert.KernelIdeal.Hand

end
-- ==== Proof.Arrs.lean ====
/-
  What the three calls leave in their arrays.
-/
module

public import proofs.«01_k».proof.Proof.Body0
public import proofs.«01_k».proof.Proof.Body1
public import proofs.«01_k».proof.Proof.Body2

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (m : (ℓ : Loc nD τ sig) → Buf (Elt F) ℓ)

theorem fin0_3 (c : Dev nD) : (dat0 m c).arrAt 3 cfg0.N = W3 m c (Pipeline.arrRef spec0 3) := by
  refine ((dat0 m c).arrAt_eq_of_covers 3 (cO m c) (by decide +kernel) fun t hf y => ?_).trans (W3_v12_0 m c).symm
  blk_simp
  show (cO m c) _ = (cO m c) _
  generalize cO m c = G
  blk_ext [e0_3]

theorem fin0_4 (c : Dev nD) : (dat0 m c).arrAt 4 cfg0.N = W3 m c (Pipeline.arrRef spec0 4) := by
  refine ((dat0 m c).arrAt_eq_of_covers 4 (krO m c) (by decide +kernel) fun t hf y => ?_).trans (W3_v12_1 m c).symm
  blk_simp
  show (krO m c) _ = (krO m c) _
  generalize krO m c = G
  blk_ext [e0_4]

theorem fin0_5 (c : Dev nD) : (dat0 m c).arrAt 5 cfg0.N = W3 m c (Pipeline.arrRef spec0 5) := by
  refine ((dat0 m c).arrAt_eq_of_covers 5 (xbO m c) (by decide +kernel) fun t hf y => ?_).trans (W3_v12_2 m c).symm
  blk_simp
  show (xbO m c) _ = (xbO m c) _
  generalize xbO m c = G
  blk_ext [e0_5]

theorem fin1_6 (c : Dev nD) : (dat1 m c).arrAt 6 cfg1.N = W4 m c (Pipeline.arrRef spec1 6) := by
  refine ((dat1 m c).arrAt_eq_of_covers 6 (kO m c) (by decide +kernel) fun t hf y => ?_).trans (W4_v13_0 m c).symm
  blk_simp
  show (kO m c) _ = (kO m c) _
  generalize kO m c = G
  blk_ext [e1_6]

theorem fin1_7 (c : Dev nD) : (dat1 m c).arrAt 7 cfg1.N = W4 m c (Pipeline.arrRef spec1 7) := by
  refine ((dat1 m c).arrAt_eq_of_covers 7 (vO m c) (by decide +kernel) fun t hf y => ?_).trans (W4_v13_1 m c).symm
  blk_simp
  show (vO m c) _ = (vO m c) _
  generalize vO m c = G
  blk_ext [e1_7]

theorem fin2_6 (c : Dev nD) : (dat2 m c).arrAt 6 cfg2.N = W5 m c (Pipeline.arrRef spec2 6) := by
  refine ((dat2 m c).arrAt_eq_of_covers 6 (outF (vals m) c) (by decide +kernel) fun t hf y => ?_).trans (W5_v14 m c).symm
  blk_simp
  show (outF (vals m) c) _ = (outF (vals m) c) _
  generalize outF (vals m) c = G
  blk_ext [e2_6]

theorem qO_chunk (c : Dev nD) (j : ℕ) (y : S256x512.Idx) (z : S256x4096.Idx) (h0 : (z 0).val = (y 0).val)
    (h1 : (z 1).val = 512 * min j 7 + (y 1).val) : qC m c j y = qO m c z := by
  have key : ∀ (k : ℕ) (h : 512 * k + 512 ≤ 4096) (y' : S256x512.Idx), k = min j 7 → y' = y →
      k1_pay1 (xbO m c) (blkC (wq m c) k h) y' = qC m c j y := by
    rintro k h y' rfl rfl; rfl
  have hy : (y 1).val < 512 := (y 1).isLt
  refine (key _ _ _ ?_ ?_).symm
  · omega
  · funext i
    match i with
    | 0 => exact Fin.ext h0
    | 1 => exact Fin.ext (by show (z 1).val % 512 = (y 1).val; omega)
theorem fin1_8 (c : Dev nD) : (dat1 m c).arrAt 8 cfg1.N = W4 m c (Pipeline.arrRef spec1 8) := by
  refine ((dat1 m c).arrAt_eq_of_covers 8 (qO m c) (by decide +kernel) fun t hf y => ?_).trans (W4_v13_2 m c).symm
  blk_simp
  show qC m c t.val y = _
  have hy : (y 1).val < 512 := (y 1).isLt
  have hz : (win1_8.blk t).view.emb y = duo (d := ![256, 4096]) (y 0) ⟨512 * min t.val 7 + (y 1).val, by show _ < 4096; omega⟩ := by
    blk_ext [e1_8, duo]
  rw [hz]
  exact qO_chunk m c t.val y _ rfl rfl
theorem qrO_chunk (c : Dev nD) (j : ℕ) (y : S256x512.Idx) (z : S256x2048.Idx) (h0 : (z 0).val = (y 0).val)
    (h1 : (z 1).val = 512 * min j 3 + (y 1).val) : qrC m c j y = qrO m c z := by
  have key : ∀ (k : ℕ) (h : 512 * k + 512 ≤ 2048) (y' : S256x512.Idx), k = min j 3 → y' = y →
      k1_pay2 (xbO m c) (blkC (wqr m c) k h) y' = qrC m c j y := by
    rintro k h y' rfl rfl; rfl
  have hy : (y 1).val < 512 := (y 1).isLt
  refine (key _ _ _ ?_ ?_).symm
  · omega
  · funext i
    match i with
    | 0 => exact Fin.ext h0
    | 1 => exact Fin.ext (by show (z 1).val % 512 = (y 1).val; omega)
theorem fin1_9 (c : Dev nD) : (dat1 m c).arrAt 9 cfg1.N = W4 m c (Pipeline.arrRef spec1 9) := by
  refine ((dat1 m c).arrAt_eq_of_covers 9 (qrO m c) (by decide +kernel) fun t hf y => ?_).trans (W4_v13_3 m c).symm
  blk_simp
  show qrC m c (t.val - 8) y = _
  have hy : (y 1).val < 512 := (y 1).isLt
  have hz : (win1_9.blk t).view.emb y = duo (d := ![256, 2048]) (y 0) ⟨512 * min (t.val - 8) 3 + (y 1).val, by show _ < 2048; omega⟩ := by
    blk_ext [e1_9, duo]
  rw [hz]
  exact qrO_chunk m c (t.val - 8) y _ rfl rfl

theorem fin0 (c : Dev nD) (w : Fin cfg0.W) : (dat0 m c).arrAt w cfg0.N = W3 m c (Pipeline.arrRef spec0 w) := by
  match w with
  | 0 => exact ((dat0 m c).arrAt_in 0 rfl _).trans (W3_of m c main_v11 (by decide)).symm
  | 1 => exact ((dat0 m c).arrAt_in 1 rfl _).trans (W3_of m c main_arg1 (by decide)).symm
  | 2 => exact ((dat0 m c).arrAt_in 2 rfl _).trans (W3_of m c main_arg6 (by decide)).symm
  | 3 => exact fin0_3 m c
  | 4 => exact fin0_4 m c
  | 5 => exact fin0_5 m c

theorem fin1 (c : Dev nD) (w : Fin cfg1.W) : (dat1 m c).arrAt w cfg1.N = W4 m c (Pipeline.arrRef spec1 w) := by
  match w with
  | 0 => exact ((dat1 m c).arrAt_in 0 rfl _).trans (W4_of m c main_v12_0 (by decide)).symm
  | 1 => exact ((dat1 m c).arrAt_in 1 rfl _).trans (W4_of m c main_arg2 (by decide)).symm
  | 2 => exact ((dat1 m c).arrAt_in 2 rfl _).trans (W4_of m c main_arg3 (by decide)).symm
  | 3 => exact ((dat1 m c).arrAt_in 3 rfl _).trans (W4_of m c main_v12_2 (by decide)).symm
  | 4 => exact ((dat1 m c).arrAt_in 4 rfl _).trans (W4_of m c main_arg4 (by decide)).symm
  | 5 => exact ((dat1 m c).arrAt_in 5 rfl _).trans (W4_of m c main_arg5 (by decide)).symm
  | 6 => exact fin1_6 m c
  | 7 => exact fin1_7 m c
  | 8 => exact fin1_8 m c
  | 9 => exact fin1_9 m c

theorem fin2 (c : Dev nD) (w : Fin cfg2.W) : (dat2 m c).arrAt w cfg2.N = W5 m c (Pipeline.arrRef spec2 w) := by
  match w with
  | 0 => exact ((dat2 m c).arrAt_in 0 rfl _).trans (W5_of m c main_v13_2 (by decide)).symm
  | 1 => exact ((dat2 m c).arrAt_in 1 rfl _).trans (W5_of m c main_v13_0 (by decide)).symm
  | 2 => exact ((dat2 m c).arrAt_in 2 rfl _).trans (W5_of m c main_v13_1 (by decide)).symm
  | 3 => exact ((dat2 m c).arrAt_in 3 rfl _).trans (W5_of m c main_v13_3 (by decide)).symm
  | 4 => exact ((dat2 m c).arrAt_in 4 rfl _).trans (W5_of m c main_v12_1 (by decide)).symm
  | 5 => exact ((dat2 m c).arrAt_in 5 rfl _).trans (W5_of m c main_arg7 (by decide)).symm
  | 6 => exact fin2_6 m c

end Cert.KernelIdeal.Hand

end
-- ==== Proof.Regs.lean ====
/-
  The three calls as segments of the program.
-/
module

public import proofs.«01_k».proof.Proof.Arrs

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (m : (ℓ : Loc nD τ sig) → Buf (Elt F) ℓ)

/-! ## The copies' cells go in -/

theorem open_cells {I : Type} [DecidableEq I] (s : Finset I) (g : I → GSem nD τ sig) (κ : GSem nD τ sig → ℕ) (hI : ∀ i, Inv (vals m) κ ⊢ cellInv ER (Rd (vals m)) (κ (g i)) (g i)) :
    iprop(Inv (vals m) κ ∗ (bigSep s fun i => openTok ER (g i)) ∗ bigSep s fun i => semVal (g i) 0)
      ⊢ (|={Set.univ}=> bigSep s fun i => iprop(atPos ER (g i) 0 ∅ 0 ∗ reached ER (g i) 0) : sProp 𝕄) := by
  rw [← bigSep_sep']
  refine BI.Entails.trans ?_ (bigSep_fupd s _)
  refine bigSep_with_persistent (R := Inv (vals m) κ) (Φ := fun i => iprop(openTok ER (g i) ∗ semVal (g i) 0)) fun i _ => ?_
  iintro ⟨#HI, Ho, Hs⟩
  imod (Rounds.cell_open ER (Rd (vals m)) (g := g i) (Set.mem_univ (κ (g i)))) $$ [Ho Hs] with ⟨Hat, #Hr⟩
  · isplitr; · iapply (hI i); iexact HI
    isplitl [Ho] <;> iassumption
  imodintro
  isplitl [Hat]; · iexact Hat
  iexact Hr

def osem1 : I1 → SemLoc sig := semI1
def osem2 : I2 → SemLoc sig := semI2

theorem own1_eq (c : Dev nD) : (Pipeline.ownSems0 osem1 c : sProp 𝕄)
    = iprop((bigSep Finset.univ fun a : Fin 3 => semVal (s1C c a) 0) ∗ bigSep Finset.univ fun a : Fin 3 => semVal (r1C c a) 0) := by
  unfold Pipeline.ownSems0
  exact BI.bigSep_univ_sum _
theorem own2_eq (c : Dev nD) : (Pipeline.ownSems0 osem2 c : sProp 𝕄)
    = iprop((bigSep Finset.univ fun x : Fin 3 × Fin 8 => semVal (s2C c x.1 x.2) 0) ∗ bigSep Finset.univ fun x : Fin 3 × Fin 8 => semVal (r2C c x.1 x.2) 0) := by
  unfold Pipeline.ownSems0
  exact BI.bigSep_univ_sum _

/-- What enters call 1 beside its buffers. -/
def Xk1 (c : Dev nD) : sProp 𝕄 := iprop(Inv' m ∗ EndR1 c ∗ St1 c)
def Tk1 (c : Dev nD) : sProp 𝕄 := iprop((∃ κ, Inv (vals m) κ) ∗ Keep1 c)
def Xk2 (c : Dev nD) : sProp 𝕄 := iprop(Inv' m ∗ EndS c ∗ EndR c ∗ (atPos ER (bar1 c) 0 ∅ 0 ∗ cred (tallyAt (bar1 c) () 3)
    ∗ bigSep Finset.univ (fun i : Fin 3 => dutyTok ER (bar1 (pe i c)) 0 i)
    ∗ bigSep Finset.univ (fun i : Fin 3 => bigSep Finset.univ fun k : Fin 8 => reached ER (r2C c i k) 0)
    ∗ bigSep Finset.univ (fun k : Fin 8 => Tok2 c k)))
def Tk2 (c : Dev nD) : sProp 𝕄 := iprop((∃ κ, Inv (vals m) κ) ∗ Keep2 c)

theorem hopen1 (c : Dev nD) : iprop(Tk1 m c ∗ Pipeline.ownSems0 osem1 c ∗ levAts L lv) ⊢ (|={Set.univ}=> Xk1 m c : sProp 𝕄) := by
  rw [own1_eq]
  unfold Tk1 Xk1 Keep1 Inv' EndR1 St1
  simp only [bigSep_sep']
  iintro ⟨⟨⟨%κ, #HI⟩, Hat, Hc, Hd, ⟨Ht, Ht'⟩, Ho, Ho', Hc'⟩, ⟨Hs, Hr⟩, #HL⟩
  imod (open_cells m Finset.univ (fun a : Fin 3 => s1C c a) κ (inv_s1 (vals m) κ c)) $$ [Ho Hs] with H1
  · isplitr; · iexact HI
    isplitl [Ho] <;> iassumption
  imod (open_cells m Finset.univ (fun a : Fin 3 => r1C c a) κ (inv_r1 (vals m) κ c)) $$ [Ho' Hr] with H2
  · isplitr; · iexact HI
    isplitl [Ho'] <;> iassumption
  imodintro
  ihave H1 := (Entails.of_eq (bigSep_sep' Finset.univ (fun a : Fin 3 => atPos ER (s1C c a) 0 ∅ 0) (fun a => reached ER (s1C c a) 0))) $$ H1
  ihave H2 := (Entails.of_eq (bigSep_sep' Finset.univ (fun a : Fin 3 => atPos ER (r1C c a) 0 ∅ 0) (fun a => reached ER (r1C c a) 0))) $$ H2
  icases H1 with ⟨H1, H1'⟩
  icases H2 with ⟨H2, H2'⟩
  isplitr
  · isplitr; · iexists κ; iexact HI
    iexact HL
  isplitl [Hc' H1 H2]
  · isplitl [Hc']; · iexact Hc'
    isplitl [H2] <;> iassumption
  isplitl [Hat]; · iexact Hat
  isplitl [Hc]; · iexact Hc
  isplitl [Hd]; · iexact Hd
  isplitl [Ht Ht' H1']
  · isplitl [Ht]; · iexact Ht
    isplitl [Ht'] <;> iassumption
  iexact H2'

theorem hopen2 (c : Dev nD) : iprop(Tk2 m c ∗ Pipeline.ownSems0 osem2 c ∗ levAts L lv) ⊢ (|={Set.univ}=> Xk2 m c : sProp 𝕄) := by
  rw [own2_eq]
  unfold Tk2 Xk2 Keep2 Inv' EndS EndR AR Tok2
  simp only [bigSep_sep']
  rw [bigSep_swap (fun (k : Fin 8) (i : Fin 3) => openTok ER (s2C c i k)), bigSep_swap (fun (k : Fin 8) (i : Fin 3) => atPos ER (s2C c i k) 0 ∅ 0),
    bigSep_swap (fun (k : Fin 8) (i : Fin 3) => reached ER (s2C c i k) 0),
    ← BI.bigSep_univ_prod (fun x : Fin 3 × Fin 8 => openTok ER (s2C c x.1 x.2)), ← BI.bigSep_univ_prod (fun x : Fin 3 × Fin 8 => openTok ER (r2C c x.1 x.2)),
    ← BI.bigSep_univ_prod (fun x : Fin 3 × Fin 8 => atPos ER (s2C c x.1 x.2) 0 ∅ 0), ← BI.bigSep_univ_prod (fun x : Fin 3 × Fin 8 => atPos ER (r2C c x.1 x.2) 0 ∅ 0),
    ← BI.bigSep_univ_prod (fun x : Fin 3 × Fin 8 => reached ER (s2C c x.1 x.2) 0), ← BI.bigSep_univ_prod (fun x : Fin 3 × Fin 8 => reached ER (r2C c x.1 x.2) 0)]
  iintro ⟨⟨⟨%κ, #HI⟩, Hat, Hc, Hd, ⟨Ht, Ht'⟩, Ho, Ho', Hc'⟩, ⟨Hs, Hr⟩, #HL⟩
  imod (open_cells m Finset.univ (fun x : Fin 3 × Fin 8 => s2C c x.1 x.2) κ (fun x => inv_s2 (vals m) κ c x.1 x.2)) $$ [Ho Hs] with H1
  · isplitr; · iexact HI
    isplitl [Ho] <;> iassumption
  imod (open_cells m Finset.univ (fun x : Fin 3 × Fin 8 => r2C c x.1 x.2) κ (fun x => inv_r2 (vals m) κ c x.1 x.2)) $$ [Ho' Hr] with H2
  · isplitr; · iexact HI
    isplitl [Ho'] <;> iassumption
  imodintro
  ihave H1 := (Entails.of_eq (bigSep_sep' Finset.univ (fun x : Fin 3 × Fin 8 => atPos ER (s2C c x.1 x.2) 0 ∅ 0) (fun x => reached ER (s2C c x.1 x.2) 0))) $$ H1
  ihave H2 := (Entails.of_eq (bigSep_sep' Finset.univ (fun x : Fin 3 × Fin 8 => atPos ER (r2C c x.1 x.2) 0 ∅ 0) (fun x => reached ER (r2C c x.1 x.2) 0))) $$ H2
  icases H1 with ⟨H1, H1'⟩
  icases H2 with ⟨H2, H2'⟩
  isplitr
  · isplitr; · iexists κ; iexact HI
    iexact HL
  isplitl [H1]; · iexact H1
  isplitl [Hc' H2]
  · isplitl [Hc'] <;> iassumption
  isplitl [Hat]; · iexact Hat
  isplitl [Hc]; · iexact Hc
  isplitl [Hd]; · iexact Hd
  isplitl [H2']; · iexact H2'
  isplitl [Ht]; · iexact Ht
  isplitl [Ht'] <;> iassumption

/-! ## Entry and exit -/

theorem held_none (c : Dev nD) (V : Valuation τ sig (Elt F)) : (StableHlo.held (c : Thread nD τ) ∅ V : sProp 𝕄) = iprop(emp) := by
  unfold StableHlo.held; exact BI.bigSep_empty

theorem rest1_split (c : Dev nD) : (Pipeline.scopedRest spec1 c : sProp 𝕄)
    = iprop(((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f)
        ∗ (∃ f : Buf (Elt F) ((c : Thread nD τ).loc cc1_scratch2), ((c : Thread nD τ).loc cc1_scratch2) ↦{fullShare} f))
      ∗ Pipeline.scopedRestBut spec1 c [cc1_scratch0, cc1_scratch1, cc1_scratch2]) :=
  Pipeline.scopedRest_split_of_list spec1 c [cc1_scratch0, cc1_scratch1, cc1_scratch2] (by decide) (by decide)

theorem hin0 (c : Dev nD) : iprop(Pipeline.scopedRest spec0 c ∗ (∃ r, prngReg c r) ∗ StableHlo.held (c : Thread nD τ) ∅ (V2 m c) ∗ emp)
    ⊢ ((pdats m 0 c).Φ 0 : sProp 𝕄) := by
  rw [show (pdats m 0 c).Φ 0 = iprop(Pipeline.scopedRest spec0 c ∗ ∃ r, prngReg c r) from rfl]
  iintro ⟨Hs, Hp, -, -⟩
  isplitl [Hs] <;> iassumption
theorem hout0 (c : Dev nD) : ((pdats m 0 c).Φ (Fin.last _) : sProp 𝕄)
    ⊢ iprop(Pipeline.scopedRest spec0 c ∗ (∃ r, prngReg c r) ∗ StableHlo.held (c : Thread nD τ) ∅ (W3 m c) ∗ Pipeline.ownSems0 (fun k : PEmpty => k.elim) c ∗ emp) := by
  rw [show (pdats m 0 c).Φ (Fin.last _) = iprop(Pipeline.scopedRest spec0 c ∗ ∃ r, prngReg c r) from rfl, held_none, Pipeline.ownSems0_none]
  iintro ⟨Hs, Hp⟩
  isplitl [Hs]; · iexact Hs
  isplitl [Hp]; · iexact Hp
  isplitr; · iempintro
  isplitr <;> iempintro

theorem hin1 (c : Dev nD) : iprop(Pipeline.scopedRest spec1 c ∗ (∃ r, prngReg c r) ∗ StableHlo.held (c : Thread nD τ) ∅ (W3 m c) ∗ Xk1 m c)
    ⊢ ((pdats m 1 c).Φ 0 : sProp 𝕄) := by
  rw [show (pdats m 1 c).Φ 0 = iprop(Inv' m ∗ rest1 c ∗ EndR1 c ∗ St1 c ∗ Any1 c) from rfl, rest1_split]
  unfold Xk1 rest1 Any1
  iintro ⟨⟨⟨H0, H1, H2⟩, Hs⟩, Hp, -, HI, HE, HS⟩
  isplitl [HI]; · iexact HI
  isplitl [Hs Hp]; · isplitl [Hp] <;> iassumption
  isplitl [HE]; · iexact HE
  isplitl [HS]; · iexact HS
  isplitl [H0]; · iexact H0
  isplitl [H1]; · iexact H1
  iexact H2
theorem hout1 (c : Dev nD) : ((pdats m 1 c).Φ (Fin.last _) : sProp 𝕄)
    ⊢ iprop(Pipeline.scopedRest spec1 c ∗ (∃ r, prngReg c r) ∗ StableHlo.held (c : Thread nD τ) ∅ (W4 m c) ∗ Pipeline.ownSems0 osem1 c ∗ semVal (bar0 c) 0) := by
  rw [show (pdats m 1 c).Φ (Fin.last _) = iprop(rest1 c ∗ semVal (bar0 c) 0 ∗ Sems1 c ∗ Full1 m c) from rfl, held_none, rest1_split, own1_eq]
  unfold rest1 Sems1 Full1
  rw [bigSep_sep']
  iintro ⟨⟨Hp, Hs⟩, Hb, ⟨H1, H2⟩, HC, HU, HV⟩
  isplitl [Hs HC HU HV]
  · isplitl [HC HU HV]
    · isplitl [HC]; · iexists _; iexact HC
      isplitl [HU]; · iexists _; iexact HU
      iexists _; iexact HV
    iexact Hs
  isplitl [Hp]; · iexact Hp
  isplitr; · iempintro
  isplitl [H1 H2]; · isplitl [H1] <;> iassumption
  iexact Hb

theorem hin2 (c : Dev nD) : iprop(Pipeline.scopedRest spec2 c ∗ (∃ r, prngReg c r) ∗ StableHlo.held (c : Thread nD τ) ∅ (W4 m c) ∗ Xk2 m c)
    ⊢ ((pdats m 2 c).Φ 0 : sProp 𝕄) := by
  rw [show (pdats m 2 c).Φ 0 = iprop(Inv' m ∗ rest2 c ∗ EndS c ∗ EndR c ∗ St2 c ∗ pcAny c bO Finset.univ) from rfl, scopedRest2_split]
  unfold Xk2 rest2 St2
  iintro ⟨⟨⟨HO, HG⟩, Hs⟩, Hp, -, HI, HES, HER, Ha, Hc, Hd, Hr, Ht⟩
  isplitl [HI]; · iexact HI
  isplitl [Hs Hp]; · isplitl [Hp] <;> iassumption
  isplitl [HES]; · iexact HES
  isplitl [HER]; · iexact HER
  isplitr [HO]
  · isplitl [Ha]; · iexact Ha
    isplitl [Hc]; · iexact Hc
    isplitl [Hd]; · iexact Hd
    isplitl [Hr]; · iexact Hr
    isplitl [Ht]; · iexact Ht
    iexact HG
  iexact HO
theorem hout2 (c : Dev nD) : ((pdats m 2 c).Φ (Fin.last _) : sProp 𝕄)
    ⊢ iprop(Pipeline.scopedRest spec2 c ∗ (∃ r, prngReg c r) ∗ StableHlo.held (c : Thread nD τ) ∅ (W5 m c) ∗ Pipeline.ownSems0 osem2 c ∗ semVal (bar1 c) 0) := by
  rw [show (pdats m 2 c).Φ (Fin.last _) = iprop(rest2 c ∗ semVal (bar1 c) 0 ∗ Fin2 (vals m) c ∗ pc c bO Finset.univ fullShare (oF m c)) from rfl,
    held_none, scopedRest2_split, own2_eq]
  unfold rest2 Fin2
  rw [bigSep_swap (fun (k : Fin 8) (i : Fin 3) => semVal (s2C c i k) 0), ← BI.bigSep_univ_prod (fun x : Fin 3 × Fin 8 => semVal (s2C c x.1 x.2) 0),
    ← BI.bigSep_univ_prod (fun x : Fin 3 × Fin 8 => semVal (r2C c x.1 x.2) 0)]
  iintro ⟨⟨Hp, Hs⟩, Hb, ⟨H1, H2, HG⟩, HO⟩
  isplitl [Hs HG HO]
  · isplitl [HG HO]
    · isplitl [HO]; · iexists _; iexact HO
      iexists _; iexact HG
    iexact Hs
  isplitl [Hp]; · iexact Hp
  isplitr; · iempintro
  isplitl [H1 H2]; · isplitl [H1] <;> iassumption
  iexact Hb

/-! ## The levels of the staging waits -/

theorem cut_of {O : CellTallies nD τ sig Unit} {b : ℕ} (h : Above b O) (g : GSem nD τ sig) (i : Unit) (hg : 0 < O g i) : i ∈ L g ∧ 0 < lv g i := by
  obtain ⟨h1, h2⟩ := h g i hg
  obtain ⟨⟨d, k⟩, sm⟩ := g
  have h1 : k = .tc := h1
  subst h1
  exact ⟨by rw [L_tc]; exact Finset.mem_singleton_self _, lt_of_le_of_lt (Nat.zero_le _) h2⟩
theorem cut0 : Pipeline.LevelCutOwed (pcfgs (F := F)) adm (pdats m) () L lv 0 (fun _ => 0) where
  hι c w s := by rw [L_tc]; exact Finset.mem_singleton_self _
  hιb c w s := by
    show lvK (ck (.dma ((cfg0.win w).sem s))) ≤ 0
    exact (by decide : ∀ (w : Fin cfg0.W) (s : Fin ((cfg0.win w).nbuf)), lvK (ck (.dma ((cfg0.win w).sem s))) ≤ 0) w s
  hD c t g i h := cut_of (above_add (above_mono (by decide) (above_owe2 c)) (above_owe1 c)) g i h

theorem cut1 : Pipeline.LevelCutOwed (pcfgs (F := F)) adm (pdats m) () L lv 1 (fun _ => 0) where
  hι c w s := by rw [L_tc]; exact Finset.mem_singleton_self _
  hιb c w s := by
    show lvK (ck (.dma ((cfg1.win w).sem s))) ≤ 0
    exact (by decide : ∀ (w : Fin cfg1.W) (s : Fin ((cfg1.win w).nbuf)), lvK (ck (.dma ((cfg1.win w).sem s))) ≤ 0) w s
  hD c t g i h := by
    have h : 0 < (if t.val = 0 then owe2 c + owe1 c else owe2 c) g i := h
    split at h
    · exact cut_of (above_add (above_mono (by decide) (above_owe2 c)) (above_owe1 c)) g i h
    · exact cut_of (above_owe2 c) g i h
theorem cut2 : Pipeline.LevelCutOwed (pcfgs (F := F)) adm (pdats m) () L lv 2 (fun _ => 0) where
  hι c w s := by rw [L_tc]; exact Finset.mem_singleton_self _
  hιb c w s := by
    show lvK (ck (.dma ((cfg2.win w).sem s))) ≤ 0
    exact (by decide : ∀ (w : Fin cfg2.W) (s : Fin ((cfg2.win w).nbuf)), lvK (ck (.dma ((cfg2.win w).sem s))) ≤ 0) w s
  hD c t g i h := by
    have h : 0 < (if t.val = 0 then owe2 c else oweF c t.val) g i := h
    split at h
    · exact cut_of (above_owe2 c) g i h
    · exact cut_of (above_oweF c t.val) g i h

/-! ## The segments -/

/-- The unscoped buffers a call does not name. -/
def Sr0 : Finset (DevRef τ sig) := Pipeline.ucRefs τ sig \ Pipeline.arrRefs spec0
def Sr1 : Finset (DevRef τ sig) := Pipeline.ucRefs τ sig \ Pipeline.arrRefs spec1
def Sr2 : Finset (DevRef τ sig) := Pipeline.ucRefs τ sig \ Pipeline.arrRefs spec2

theorem ne_arr {S : Finset (DevRef τ sig)} {a b : DevRef τ sig} (ha : a ∈ S) (hb : b ∉ S) : b ≠ a := fun h => hb (h ▸ ha)

theorem rest_0 (c : Dev nD) (b : DevRef τ sig) (hb : b ∈ Sr0) : W3 m c b = V2 m c b := by
  unfold W3
  rw [Function.update_of_ne (show b ≠ Proc.devRef .tc main_v12_2 from ne_arr (Finset.mem_map.mpr ⟨main_v12_2, Finset.mem_image.mpr ⟨5, Finset.mem_univ _, rfl⟩, rfl⟩) (Finset.mem_sdiff.mp hb).2), Function.update_of_ne (show b ≠ Proc.devRef .tc main_v12_1 from ne_arr (Finset.mem_map.mpr ⟨main_v12_1, Finset.mem_image.mpr ⟨4, Finset.mem_univ _, rfl⟩, rfl⟩) (Finset.mem_sdiff.mp hb).2), Function.update_of_ne (show b ≠ Proc.devRef .tc main_v12_0 from ne_arr (Finset.mem_map.mpr ⟨main_v12_0, Finset.mem_image.mpr ⟨3, Finset.mem_univ _, rfl⟩, rfl⟩) (Finset.mem_sdiff.mp hb).2)]

theorem rest_1 (c : Dev nD) (b : DevRef τ sig) (hb : b ∈ Sr1) : W4 m c b = W3 m c b := by
  unfold W4
  rw [Function.update_of_ne (show b ≠ Proc.devRef .tc main_v13_3 from ne_arr (Finset.mem_map.mpr ⟨main_v13_3, Finset.mem_image.mpr ⟨9, Finset.mem_univ _, rfl⟩, rfl⟩) (Finset.mem_sdiff.mp hb).2), Function.update_of_ne (show b ≠ Proc.devRef .tc main_v13_2 from ne_arr (Finset.mem_map.mpr ⟨main_v13_2, Finset.mem_image.mpr ⟨8, Finset.mem_univ _, rfl⟩, rfl⟩) (Finset.mem_sdiff.mp hb).2), Function.update_of_ne (show b ≠ Proc.devRef .tc main_v13_1 from ne_arr (Finset.mem_map.mpr ⟨main_v13_1, Finset.mem_image.mpr ⟨7, Finset.mem_univ _, rfl⟩, rfl⟩) (Finset.mem_sdiff.mp hb).2), Function.update_of_ne (show b ≠ Proc.devRef .tc main_v13_0 from ne_arr (Finset.mem_map.mpr ⟨main_v13_0, Finset.mem_image.mpr ⟨6, Finset.mem_univ _, rfl⟩, rfl⟩) (Finset.mem_sdiff.mp hb).2)]

theorem rest_2 (c : Dev nD) (b : DevRef τ sig) (hb : b ∈ Sr2) : W5 m c b = W4 m c b := by
  unfold W5
  rw [Function.update_of_ne (show b ≠ Proc.devRef .tc main_v14 from ne_arr (Finset.mem_map.mpr ⟨main_v14, Finset.mem_image.mpr ⟨6, Finset.mem_univ _, rfl⟩, rfl⟩) (Finset.mem_sdiff.mp hb).2)]

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)
theorem sub2 : Pipeline.arrRefs (τ := τ) spec2 ⊆ Pipeline.ucRefs τ sig := Pipeline.arrRefs_sub_ucRefs spec2 (by decide)

theorem osem1_facts : Pipeline.OwnSemFacts spec1 osem1 := by decide
theorem osem2_facts : Pipeline.OwnSemFacts spec2 osem2 := by decide

theorem share0 (c : Dev nD) (w : Fin cfg0.W) : (dat0 m c).share w = fullShare := by unfold Pipeline.Dat.share; split <;> rfl
theorem share1 (c : Dev nD) (w : Fin cfg1.W) : (dat1 m c).share w = fullShare := by unfold Pipeline.Dat.share; split <;> rfl
theorem share2 (c : Dev nD) (w : Fin cfg2.W) : (dat2 m c).share w = fullShare := by unfold Pipeline.Dat.share; split <;> rfl

theorem fupd_refl (P : sProp 𝕄) : P ⊢ (|={Set.univ}=> P : sProp 𝕄) := by iintro H; imodintro; iexact H

set_option backward.isDefEq.respectTransparency.types false in
/-- Call 0, which talks to no one: what the launch dealt rides along. -/
def reg0 : Pipeline.RegionSeg (pcfgs (F := F)) adm (pdats m) () defs₀ 𝒱₀ L lv 0 :=
  Pipeline.RegionSeg.ofTalk (pcfgs (F := F)) adm (pdats m) () defs₀ 𝒱₀ L lv 0 (fun k : PEmpty => k.elim) (Pipeline.OwnSemFacts.none _)
    ∅ Sr0 (Finset.empty_subset _) launch0.toP rfl (fun c => (body0 m c).loose)
    (fun c => owe2 c + owe1 c) (fun _ => 0) (fun c => (add_zero (owe2 c + owe1 c)).symm) (fun _ => rfl) (fun _ => rfl) (share0 m)
    (V2 m) (W3 m) (fun c b hb => rest_0 m c b (Finset.mem_sdiff.mp hb).1)
    (fun _ => iprop(emp)) (fun _ => iprop(emp)) (fun _ => iprop(emp)) (fun _ => iprop(emp))
    (fun c => by iintro -; imodintro; iempintro) (hin0 m) (hout0 m) (fun c => fupd_refl _) (fun _ => 0) (cut0 m)
    (fun c => iprop((∃ κ, Inv (vals m) κ) ∗ Keep1 c ∗ Keep2 c)) (fun _ _ => rfl) (fin0 m)

set_option backward.isDefEq.respectTransparency.types false in
/-- Call 1: the exchange along x. -/
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 osem1_facts
    ∅ Sr1 (Finset.empty_subset _) launch1.toP rfl (fun c => (body1 m c).loose)
    owe2 owe1 (fun _ => rfl) (fun _ => rfl) (fun _ => rfl) (share1 m)
    (W3 m) (W4 m) (fun c b hb => rest_1 m c b (Finset.mem_sdiff.mp hb).1)
    (Tk1 m) (fun c => semVal (bar0 c) 0) (Xk1 m) (fun c => semVal (bar0 c) 0)
    (hopen1 m) (hin1 m) (hout1 m) (fun c => fupd_refl _) (fun _ => 0) (cut1 m)
    (fun c => iprop((∃ κ, Inv (vals m) κ) ∗ Keep2 c)) (fun _ _ => rfl) (fin1 m)

set_option backward.isDefEq.respectTransparency.types false in
/-- Call 2: the gathering over y and z. -/
def reg2 : Pipeline.RegionSeg (pcfgs (F := F)) adm (pdats m) () defs₀ 𝒱₀ L lv 2 :=
  Pipeline.RegionSeg.ofTalk (pcfgs (F := F)) adm (pdats m) () defs₀ 𝒱₀ L lv 2 osem2 osem2_facts
    ∅ Sr2 (Finset.empty_subset _) launch2.toP rfl (fun c => (body2 m c).loose)
    (fun _ => 0) owe2 (fun c => (zero_add (owe2 c)).symm) (fun c => oweF_end c) (fun _ => rfl) (share2 m)
    (W4 m) (W5 m) (fun c b hb => rest_2 m c b (Finset.mem_sdiff.mp hb).1)
    (Tk2 m) (fun c => semVal (bar1 c) 0) (Xk2 m) (fun c => semVal (bar1 c) 0)
    (hopen2 m) (hin2 m) (hout2 m) (fun c => fupd_refl _) (fun _ => 0) (cut2 m)
    (fun c => semVal (bar0 c) 0) (fun _ _ => rfl) (fin2 m)

/-! ## From one segment to the next -/

/-- What rides along with the buffers before calls 0, 1, 2 and behind them. -/
def E0 (c : Dev nD) : sProp 𝕄 :=
  iprop((∃ r, prngReg c r) ∗ ((∃ κ, Inv (vals m) κ) ∗ Keep1 c ∗ Keep2 c) ∗ ∃ Wd, owes (c : Thread nD τ) (owe2 c + owe1 c) Wd)
def E2 (c : Dev nD) : sProp 𝕄 :=
  iprop((∃ r, prngReg c r) ∗ ((∃ κ, Inv (vals m) κ) ∗ Keep2 c) ∗ semVal (bar0 c) 0 ∗ ∃ Wd, owes (c : Thread nD τ) (owe2 c) Wd)
def Tn (c : Dev nD) : sProp 𝕄 := iprop(StableHlo.held (c : Thread nD τ) (Pipeline.ucRefs τ sig) (W5 m c) ∗ semVal (bar0 c) 0 ∗ semVal (bar1 c) 0)

theorem pre0 (c : Dev nD) : iprop(StableHlo.held (c : Thread nD τ) (Pipeline.ucRefs τ sig) (V2 m c) ∗ E0 m c) ⊢ (reg0 m).pre c := by
  show _ ⊢ iprop(StableHlo.held (c : Thread nD τ) (Pipeline.arrRefs spec0) (V2 m c) ∗ (∃ r, prngReg c r)
    ∗ (StableHlo.held (c : Thread nD τ) Sr0 (V2 m c) ∗ (∃ κ, Inv (vals m) κ) ∗ Keep1 c ∗ Keep2 c) ∗ emp
    ∗ ∃ Wd, owes (c : Thread nD τ) (owe2 c + owe1 c + 0) Wd)
  rw [StableHlo.held_sub_split (c : Thread nD τ) sub0 (V2 m c), add_zero]
  unfold E0
  iintro ⟨⟨Ha, Hr⟩, Hp, HK, HO⟩
  isplitl [Ha]; · iexact Ha
  isplitl [Hp]; · iexact Hp
  isplitl [Hr HK]
  · isplitl [Hr]; · iexact Hr
    iexact HK
  isplitr; · iempintro
  iexact HO
theorem post0 (c : Dev nD) : (reg0 m).post c ⊢ iprop(StableHlo.held (c : Thread nD τ) (Pipeline.ucRefs τ sig) (W3 m c) ∗ E0 m c) := by
  show iprop(StableHlo.held (c : Thread nD τ) (Pipeline.arrRefs spec0) (W3 m c) ∗ (∃ r, prngReg c r)
    ∗ (StableHlo.held (c : Thread nD τ) Sr0 (W3 m c) ∗ (∃ κ, Inv (vals m) κ) ∗ Keep1 c ∗ Keep2 c) ∗ emp
    ∗ ∃ Wd, owes (c : Thread nD τ) (owe2 c + owe1 c) Wd) ⊢ _
  rw [StableHlo.held_sub_split (c : Thread nD τ) sub0 (W3 m c)]
  unfold E0
  iintro ⟨Ha, Hp, ⟨Hr, HK⟩, -, HO⟩
  isplitl [Ha Hr]
  · isplitl [Ha]; · iexact Ha
    iexact Hr
  isplitl [Hp]; · iexact Hp
  isplitl [HK]; · iexact HK
  iexact HO

theorem pre1 (c : Dev nD) : iprop(StableHlo.held (c : Thread nD τ) (Pipeline.ucRefs τ sig) (W3 m c) ∗ E0 m c) ⊢ (reg1 m).pre c := by
  show _ ⊢ iprop(StableHlo.held (c : Thread nD τ) (Pipeline.arrRefs spec1) (W3 m c) ∗ (∃ r, prngReg c r)
    ∗ (StableHlo.held (c : Thread nD τ) Sr1 (W3 m c) ∗ (∃ κ, Inv (vals m) κ) ∗ Keep2 c) ∗ Tk1 m c
    ∗ ∃ Wd, owes (c : Thread nD τ) (owe2 c + owe1 c) Wd)
  rw [StableHlo.held_sub_split (c : Thread nD τ) sub1 (W3 m c)]
  unfold E0 Tk1
  iintro ⟨⟨Ha, Hr⟩, Hp, ⟨⟨%κ, #HI⟩, H1, H2⟩, HO⟩
  isplitl [Ha]; · iexact Ha
  isplitl [Hp]; · iexact Hp
  isplitl [Hr H2]
  · isplitl [Hr]; · iexact Hr
    isplitr; · iexists κ; iexact HI
    iexact H2
  isplitl [H1]
  · isplitr; · iexists κ; iexact HI
    iexact H1
  iexact HO
theorem post1 (c : Dev nD) : (reg1 m).post c ⊢ iprop(StableHlo.held (c : Thread nD τ) (Pipeline.ucRefs τ sig) (W4 m c) ∗ E2 m c) := by
  show iprop(StableHlo.held (c : Thread nD τ) (Pipeline.arrRefs spec1) (W4 m c) ∗ (∃ r, prngReg c r)
    ∗ (StableHlo.held (c : Thread nD τ) Sr1 (W4 m c) ∗ (∃ κ, Inv (vals m) κ) ∗ Keep2 c) ∗ semVal (bar0 c) 0
    ∗ ∃ Wd, owes (c : Thread nD τ) (owe2 c) Wd) ⊢ _
  rw [StableHlo.held_sub_split (c : Thread nD τ) sub1 (W4 m c)]
  unfold E2
  iintro ⟨Ha, Hp, ⟨Hr, HK⟩, Hb, HO⟩
  isplitl [Ha Hr]
  · isplitl [Ha]; · iexact Ha
    iexact Hr
  isplitl [Hp]; · iexact Hp
  isplitl [HK]; · iexact HK
  isplitl [Hb]; · iexact Hb
  iexact HO

theorem pre2 (c : Dev nD) : iprop(StableHlo.held (c : Thread nD τ) (Pipeline.ucRefs τ sig) (W4 m c) ∗ E2 m c) ⊢ (reg2 m).pre c := by
  show _ ⊢ iprop(StableHlo.held (c : Thread nD τ) (Pipeline.arrRefs spec2) (W4 m c) ∗ (∃ r, prngReg c r)
    ∗ (StableHlo.held (c : Thread nD τ) Sr2 (W4 m c) ∗ semVal (bar0 c) 0) ∗ Tk2 m c
    ∗ ∃ Wd, owes (c : Thread nD τ) (0 + owe2 c) Wd)
  rw [StableHlo.held_sub_split (c : Thread nD τ) sub2 (W4 m c), zero_add]
  unfold E2 Tk2
  iintro ⟨⟨Ha, Hr⟩, Hp, HK, Hb, HO⟩
  isplitl [Ha]; · iexact Ha
  isplitl [Hp]; · iexact Hp
  isplitl [Hr Hb]
  · isplitl [Hr]; · iexact Hr
    iexact Hb
  isplitl [HK]; · iexact HK
  iexact HO
theorem post2 (c : Dev nD) : (reg2 m).post c ⊢ (iprop(Tn m c ∗ ∃ W, owes (c : Thread nD τ) (0 : CellTallies nD τ sig Unit) W) : sProp 𝕄) := by
  show iprop(StableHlo.held (c : Thread nD τ) (Pipeline.arrRefs spec2) (W5 m c) ∗ (∃ r, prngReg c r)
    ∗ (StableHlo.held (c : Thread nD τ) Sr2 (W5 m c) ∗ semVal (bar0 c) 0) ∗ semVal (bar1 c) 0
    ∗ ∃ Wd, owes (c : Thread nD τ) (0 : CellTallies nD τ sig Unit) Wd) ⊢ _
  unfold Tn
  rw [StableHlo.held_sub_split (c : Thread nD τ) sub2 (W5 m c)]
  iintro ⟨Ha, -, ⟨Hr, Hb⟩, Hb', HO⟩
  isplitr [HO]
  · isplitl [Ha Hr]
    · isplitl [Ha]; · iexact Ha
      iexact Hr
    isplitl [Hb] <;> iassumption
  iexact HO

end Cert.KernelIdeal.Hand

end
-- ==== Proof.Start.lean ====
/-
  The launch: the cells' ghost state dealt to the devices, and the run of the whole program.
-/
module

public import proofs.«01_k».proof.Proof.Regs

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- The duties: the two barriers', then one for each copies' cell. -/
def tokOf (x : Dev nD × ((Unit ⊕ Fin 3) ⊕ (I1 ⊕ I2))) : GSem nD τ sig × ℕ × Fin 3 :=
  match x.2 with
  | .inl (.inl _) => (bar0 x.1, 0, 0)
  | .inl (.inr i) => (bar1 x.1, 0, i)
  | .inr s => (scOf (x.1, s), 0, 0)

theorem semS_dma (s : I1 ⊕ I2) : ∃ d, semS s = .dma d := by
  rcases s with (s | s) | (s | s) <;> exact ⟨_, rfl⟩

theorem tokOf_inj : Function.Injective tokOf := by
  rintro ⟨c, x⟩ ⟨c', y⟩ h
  have hc : c = c' := by
    have := congrArg (fun t : GSem nD τ sig × ℕ × Fin 3 => t.1.1.1) h
    rcases x with (x | x) | x <;> rcases y with (y | y) | y <;> exact this
  subst hc
  refine Prod.ext rfl ?_
  have hs := congrArg (fun t : GSem nD τ sig × ℕ × Fin 3 => t.1.2) h
  have hd := congrArg (fun t : GSem nD τ sig × ℕ × Fin 3 => t.2.2) h
  rcases x with (x | x) | x <;> rcases y with (y | y) | y
  · rfl
  · exact absurd (show (SemLoc.reg barrier0 : SemLoc sig) = .reg barrier1 from hs) (by decide)
  · obtain ⟨d, e⟩ := semS_dma y
    exact absurd ((show (SemLoc.reg barrier0 : SemLoc sig) = semS y from hs).trans e) (by intro h; cases h)
  · exact absurd (show (SemLoc.reg barrier1 : SemLoc sig) = .reg barrier0 from hs) (by decide)
  · exact congrArg (fun i => Sum.inl (Sum.inr i)) (show x = y from hd)
  · obtain ⟨d, e⟩ := semS_dma y
    exact absurd ((show (SemLoc.reg barrier1 : SemLoc sig) = semS y from hs).trans e) (by intro h; cases h)
  · obtain ⟨d, e⟩ := semS_dma x
    exact absurd ((show (SemLoc.reg barrier0 : SemLoc sig) = semS x from hs.symm).trans e) (by intro h; cases h)
  · obtain ⟨d, e⟩ := semS_dma x
    exact absurd ((show (SemLoc.reg barrier1 : SemLoc sig) = semS x from hs.symm).trans e) (by intro h; cases h)
  · exact congrArg Sum.inr (semS_inj (show semS x = semS y from hs))

def toks : Finset (GSem nD τ sig × ℕ × Fin 3) := Finset.univ.map ⟨tokOf, tokOf_inj⟩

def u₀ : UU :=
  (initOf (Pipeline.cells (Pipeline.pin (pcfgs (F := F)) adm) cellOf_inj) (Pipeline.launchToks (Pipeline.pin (pcfgs (F := F)) adm) cellOf_inj),
    launchOf barCells scCells toks)

/-- A resource held on one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [BI.bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (ER (launchOf barCells scCells toks)))

/-! ## The tokens, each to the device that pays -/

theorem around {A : Type} [Fintype A] (e : A → Dev nD ≃ Dev nD) (Φ : Dev nD → A → sProp 𝕄) :
    (bigSep Finset.univ (fun c => bigSep Finset.univ (fun a => Φ c a)) : sProp 𝕄)
      = bigSep Finset.univ (fun c => bigSep Finset.univ (fun a => Φ (e a c) a)) := by
  rw [bigSep_swap, bigSep_swap (fun c a => Φ (e a c) a)]
  exact BI.bigSep_congr fun a _ => BI.bigSep_univ_equiv (e a) (fun c => Φ c a)

/-- The tokens of the duties on a device's own cells. -/
def ownToks (c : Dev nD) : sProp 𝕄 :=
  iprop((dutyTok ER (bar0 c) 0 0 ∗ bigSep Finset.univ fun i : Fin 3 => dutyTok ER (bar1 c) 0 i)
    ∗ ((bigSep Finset.univ fun a : Fin 3 => dutyTok ER (s1C c a) 0 0) ∗ bigSep Finset.univ fun a : Fin 3 => dutyTok ER (r1C c a) 0 0)
    ∗ ((bigSep Finset.univ fun i : Fin 3 => bigSep Finset.univ fun k : Fin 8 => dutyTok ER (s2C c i k) 0 0)
      ∗ bigSep Finset.univ fun i : Fin 3 => bigSep Finset.univ fun k : Fin 8 => dutyTok ER (r2C c i k) 0 0))
/-- Of the duties a device pays. -/
def payToks (c : Dev nD) : sProp 𝕄 :=
  iprop((dutyTok ER (bar0 (px c)) 0 0 ∗ bigSep Finset.univ fun i : Fin 3 => dutyTok ER (bar1 (pe i c)) 0 i)
    ∗ ((bigSep Finset.univ fun a : Fin 3 => dutyTok ER (s1C c a) 0 0) ∗ bigSep Finset.univ fun a : Fin 3 => dutyTok ER (r1C (px c) a) 0 0)
    ∗ ((bigSep Finset.univ fun i : Fin 3 => bigSep Finset.univ fun k : Fin 8 => dutyTok ER (s2C c i k) 0 0)
      ∗ bigSep Finset.univ fun i : Fin 3 => bigSep Finset.univ fun k : Fin 8 => dutyTok ER (r2C (pe i c) i k) 0 0))

theorem toks_eq : bigSep toks (fun x => (dutyTok ER x.1 x.2.1 x.2.2 : sProp 𝕄)) = bigSep Finset.univ fun c : Dev nD => ownToks c := by
  unfold toks
  rw [BI.bigSep_map, BI.bigSep_univ_prod]
  refine BI.bigSep_congr fun c _ => ?_
  unfold ownToks
  rw [BI.bigSep_univ_sum, BI.bigSep_univ_sum, BI.bigSep_univ_sum, BI.bigSep_univ_sum, BI.bigSep_univ_sum,
    ← BI.bigSep_univ_prod (fun x : Fin 3 × Fin 8 => dutyTok ER (s2C c x.1 x.2) 0 0), ← BI.bigSep_univ_prod (fun x : Fin 3 × Fin 8 => dutyTok ER (r2C c x.1 x.2) 0 0),
    Finset.univ_unique, BI.bigSep_singleton]
  rfl

theorem toks_around : (bigSep Finset.univ fun c : Dev nD => (ownToks c : sProp 𝕄)) = bigSep Finset.univ fun c : Dev nD => payToks c := by
  unfold ownToks payToks
  simp only [bigSep_sep']
  rw [BI.bigSep_univ_equiv pxE (fun c : Dev nD => (dutyTok ER (bar0 c) 0 0 : sProp 𝕄)),
    around peE (fun c i => (dutyTok ER (bar1 c) 0 i : sProp 𝕄)),
    BI.bigSep_univ_equiv pxE (fun c : Dev nD => (bigSep Finset.univ fun a : Fin 3 => (dutyTok ER (r1C c a) 0 0 : sProp 𝕄))),
    around peE (fun c i => (bigSep Finset.univ fun k : Fin 8 => (dutyTok ER (r2C c i k) 0 0 : sProp 𝕄)))]
  rfl

/-! ## The launch credit -/

theorem cred_px (sm : SemLoc sig) (n : ℕ) (c : Dev nD) :
    (Pipeline.launchCred (fun d => tallyAt ((px d : Thread nD τ), sm) () n) c : sProp 𝕄) ⊢ cred (tallyAt ((c : Thread nD τ), sm) () n) :=
  Pipeline.launchCred_tallyAt sm px px px_px px_px () n c
theorem cred_pe (i : Fin 3) (sm : SemLoc sig) (n : ℕ) (c : Dev nD) :
    (Pipeline.launchCred (fun d => tallyAt ((pe i d : Thread nD τ), sm) () n) c : sProp 𝕄) ⊢ cred (tallyAt ((c : Thread nD τ), sm) () n) :=
  Pipeline.launchCred_tallyAt sm (pe i) (pe i) (pe_pe i) (pe_pe i) () n c

theorem creds1 (c : Dev nD) : (Pipeline.launchCred owe1 c : sProp 𝕄)
    ⊢ iprop(cred (tallyAt (bar0 c) () 1) ∗ bigSep Finset.univ fun a : Fin 3 => cred (tallyAt (r1C c a) () (n1 a))) := by
  rw [show (owe1 : Dev nD → CellTallies nD τ sig Unit) = fun d => (tallyAt (r1C (px d) 2) () (n1 2) + tallyAt (r1C (px d) 1) () (n1 1) + tallyAt (r1C (px d) 0) () (n1 0))
      + tallyAt (bar0 (px d)) () 1 from rfl, Pipeline.launchCred_add, Pipeline.launchCred_add, Pipeline.launchCred_add, bigSep_fin3]
  iintro ⟨⟨⟨H2, H1⟩, H0⟩, Hb⟩
  isplitl [Hb]; · iapply (cred_px (.reg barrier0) 1 c); iexact Hb
  isplitl [H0]; · iapply (cred_px (.dma (r1S 0)) (n1 0) c); iexact H0
  isplitl [H1]; · iapply (cred_px (.dma (r1S 1)) (n1 1) c); iexact H1
  iapply (cred_px (.dma (r1S 2)) (n1 2) c); iexact H2

theorem credsK (c : Dev nD) (k : Fin 8) : (Pipeline.launchCred (fun d => oweK d k) c : sProp 𝕄)
    ⊢ bigSep Finset.univ fun i : Fin 3 => cred (tallyAt (r2C c i k) () n2) := by
  rw [show (fun d => oweK d k : Dev nD → CellTallies nD τ sig Unit) = fun d => tallyAt (r2C (pe 2 d) 2 k) () n2 + tallyAt (r2C (pe 1 d) 1 k) () n2
      + tallyAt (r2C (pe 0 d) 0 k) () n2 from rfl, Pipeline.launchCred_add, Pipeline.launchCred_add, bigSep_fin3]
  iintro ⟨⟨H2, H1⟩, H0⟩
  isplitl [H0]; · iapply (cred_pe 0 (.dma (r2S 0 k)) n2 c); iexact H0
  isplitl [H1]; · iapply (cred_pe 1 (.dma (r2S 1 k)) n2 c); iexact H1
  iapply (cred_pe 2 (.dma (r2S 2 k)) n2 c); iexact H2

theorem creds2 (c : Dev nD) : (Pipeline.launchCred owe2 c : sProp 𝕄)
    ⊢ iprop(cred (tallyAt (bar1 c) () 3) ∗ bigSep Finset.univ fun i : Fin 3 => bigSep Finset.univ fun k : Fin 8 => cred (tallyAt (r2C c i k) () n2)) := by
  rw [show (owe2 : Dev nD → CellTallies nD τ sig Unit) = fun d => (∑ k ∈ rangeSet 8 0 8, oweK d k) + tallyAt (bar1 (pe 2 d)) () 1 + tallyAt (bar1 (pe 1 d)) () 1
      + tallyAt (bar1 (pe 0 d)) () 1 from rfl, Pipeline.launchCred_add, Pipeline.launchCred_add, Pipeline.launchCred_add,
    Pipeline.launchCred_sum (rangeSet 8 0 8) (fun k d => oweK d k) c, rangeSet_univ, bigSep_swap]
  iintro ⟨⟨⟨Hr, H2⟩, H1⟩, H0⟩
  ihave H0 := (cred_pe 0 (.reg barrier1) 1 c) $$ H0
  ihave H1 := (cred_pe 1 (.reg barrier1) 1 c) $$ H1
  ihave H2 := (cred_pe 2 (.reg barrier1) 1 c) $$ H2
  isplitl [H0 H1 H2]
  · iapply (Entails.of_eq (show (cred (tallyAt (bar1 c) () 1 + tallyAt (bar1 c) () 1 + tallyAt (bar1 c) () 1) : sProp 𝕄) = cred (tallyAt (bar1 c) () 3) from by
      rw [tallyAt_add, tallyAt_add]))
    iapply (cred_add _ _).2
    isplitl [H0 H1]
    · iapply (cred_add _ _).2
      isplitl [H0] <;> iassumption
    iexact H2
  iapply (bigSep_weaken (credsK c)); iexact Hr

/-! ## What each device starts with -/

/-- The positions and the rights to open its cells. -/
def linear (c : Dev nD) : sProp 𝕄 :=
  iprop((atPos ER (bar0 c) 0 ∅ 0 ∗ atPos ER (bar1 c) 0 ∅ 0)
    ∗ (((bigSep Finset.univ fun a : Fin 3 => openTok ER (s1C c a)) ∗ bigSep Finset.univ fun a : Fin 3 => openTok ER (r1C c a))
      ∗ ((bigSep Finset.univ fun i : Fin 3 => bigSep Finset.univ fun k : Fin 8 => openTok ER (s2C c i k))
        ∗ bigSep Finset.univ fun i : Fin 3 => bigSep Finset.univ fun k : Fin 8 => openTok ER (r2C c i k)))
    ∗ payToks c)

def bundle (c : Dev nD) : sProp 𝕄 :=
  iprop(StableHlo.held (c : Thread nD τ) (Pipeline.ucRefs τ sig) (V0 m c)
    ∗ (cred (tallyAt (bar0 c) () 1) ∗ bigSep Finset.univ fun a : Fin 3 => cred (tallyAt (r1C c a) () (n1 a)))
    ∗ (cred (tallyAt (bar1 c) () 3) ∗ bigSep Finset.univ fun i : Fin 3 => bigSep Finset.univ fun k : Fin 8 => cred (tallyAt (r2C c i k) () n2))
    ∗ owes (c : Thread nD τ) (owe2 c + owe1 c) ∅ ∗ ∃ r, prngReg c r)

theorem T0_intro (κ : GSem nD τ sig → ℕ) (c : Dev nD) : iprop(Inv (vals m) κ ∗ (linear c ∗ bundle m c))
    ⊢ iprop(StableHlo.held (c : Thread nD τ) (Pipeline.ucRefs τ sig) (V0 m c) ∗ E0 m c) := by
  unfold linear bundle E0 Keep1 Keep2 payToks
  simp only [bigSep_sep']
  rw [bigSep_swap (fun (k : Fin 8) (i : Fin 3) => dutyTok ER (s2C c i k) 0 0), bigSep_swap (fun (k : Fin 8) (i : Fin 3) => dutyTok ER (r2C (pe i c) i k) 0 0),
    bigSep_swap (fun (k : Fin 8) (i : Fin 3) => openTok ER (s2C c i k))]
  iintro ⟨#HI, ⟨⟨Ha0, Ha1⟩, ⟨⟨Ho1, Ho1'⟩, Ho2, Ho2'⟩, ⟨Hb0, Hb1⟩, ⟨Ht1, Ht1'⟩, Ht2, Ht2'⟩, Hh, ⟨Hc0, Hc1⟩, ⟨Hc2, Hc3⟩, HO, Hp⟩
  isplitl [Hh]; · iexact Hh
  isplitl [Hp]; · iexact Hp
  isplitr [HO]
  · isplitr; · iexists κ; iexact HI
    isplitl [Ha0 Hc0 Hb0 Ht1 Ht1' Ho1 Ho1' Hc1]
    · isplitl [Ha0]; · iexact Ha0
      isplitl [Hc0]; · iexact Hc0
      isplitl [Hb0]; · iexact Hb0
      isplitl [Ht1 Ht1']; · isplitl [Ht1] <;> iassumption
      isplitl [Ho1]; · iexact Ho1
      isplitl [Ho1'] <;> iassumption
    isplitl [Ha1]; · iexact Ha1
    isplitl [Hc2]; · iexact Hc2
    isplitl [Hb1]; · iexact Hb1
    isplitl [Ht2 Ht2']; · isplitl [Ht2] <;> iassumption
    isplitl [Ho2]; · iexact Ho2
    isplitl [Ho2'] <;> iassumption
  iexists ∅; iexact HO

theorem unscoped_eq : ∀ sm : SemLoc sig, sm.isScoped .tc = false → sm = .reg barrier0 ∨ sm = .reg barrier1 := by decide

theorem unscopedSems_eq (c : Dev nD) : (unscopedSems0 c : sProp 𝕄) = iprop(semVal (bar0 c) 0 ∗ semVal (bar1 c) 0) := by
  unfold unscopedSems0
  rw [show (Finset.univ.filter fun sm : SemLoc sig => ¬ sm.isScoped .tc) = {.reg barrier0, .reg barrier1} from by decide,
    BI.bigSep_insert (by decide), BI.bigSep_singleton]
  rfl

end Cert.KernelIdeal.Hand

end
-- ==== Proof.Runs.lean ====
/-
  The run of the whole program on the eight devices.
-/
module

public import proofs.«01_k».proof.Proof.Start

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (bigSep_fin3 bigSep_rangeSet_head bigSep_rangeSet_last bigSep_rangeSet_empty rangeSet rangeSet_head head_not_mem_rangeSet rangeSet_empty rangeSet_last last_not_mem_rangeSet rangeSet_univ)

variable {F : FTy → Type} [FloatOps F]

local notation "𝕄" => MT nD τ sig Unit (Elt F) ℕ UU ℕ

variable (m : (ℓ : Loc nD τ sig) → Buf (Elt F) ℓ) (ρ : Dev nD → PrngReg)

abbrev T₀ (c : Dev nD) : sProp 𝕄 := iprop(StableHlo.held (c : Thread nD τ) (Pipeline.ucRefs τ sig) (V0 m c) ∗ E0 m c)

theorem init_core (c : Dev nD) : iprop(unscopedBufs c (fun b => m ((c : Thread nD τ).loc b)) ∗ unscopedSems0 c
      ∗ owes (c : Thread nD τ) (owe2 c + owe1 c) ∅ ∗ Pipeline.launchCred (fun c => owe2 c + owe1 c) c ∗ prngReg c (ρ c) ∗ G c)
    ⊢ (iprop(bundle m c ∗ ((semVal (bar0 c) 0 ∗ semVal (bar1 c) 0) ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems_eq, Pipeline.launchCred_add]
  unfold bundle
  iintro ⟨Hh, Hus, HO, ⟨Hc2, Hc1⟩, Hp, HG⟩
  isplitr [Hus HG]
  · isplitl [Hh]; · iexact Hh
    isplitl [Hc1]; · iapply (creds1 c); iexact Hc1
    isplitl [Hc2]; · iapply (creds2 c); iexact Hc2
    isplitl [HO]; · iexact HO
    iexists (ρ c); iexact Hp
  isplitl [Hus] <;> iassumption

theorem bar_eq (Φ : GSem nD τ sig → sProp 𝕄) : bigSep barCells Φ = bigSep Finset.univ fun c : Dev nD => iprop(Φ (bar0 c) ∗ Φ (bar1 c)) := by
  unfold barCells
  rw [BI.bigSep_map, BI.bigSep_univ_prod]
  exact BI.bigSep_congr fun c _ => BI.bigSep_fin_two (fun k : Fin 2 => Φ (barOf (c, k)))

theorem sc_eq (Φ : GSem nD τ sig → sProp 𝕄) : bigSep scCells Φ = bigSep Finset.univ fun c : Dev nD =>
    iprop(((bigSep Finset.univ fun a : Fin 3 => Φ (s1C c a)) ∗ bigSep Finset.univ fun a : Fin 3 => Φ (r1C c a))
      ∗ ((bigSep Finset.univ fun i : Fin 3 => bigSep Finset.univ fun k : Fin 8 => Φ (s2C c i k))
        ∗ bigSep Finset.univ fun i : Fin 3 => bigSep Finset.univ fun k : Fin 8 => Φ (r2C c i k))) := by
  unfold scCells
  rw [BI.bigSep_map, BI.bigSep_univ_prod]
  refine BI.bigSep_congr fun c _ => ?_
  rw [BI.bigSep_univ_sum, BI.bigSep_univ_sum, BI.bigSep_univ_sum,
    ← BI.bigSep_univ_prod (fun x : Fin 3 × Fin 8 => Φ (s2C c x.1 x.2)), ← BI.bigSep_univ_prod (fun x : Fin 3 × Fin 8 => Φ (r2C c x.1 x.2))]
  rfl

theorem unpair {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)
theorem pair {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm

theorem init :
    iprop((bigSep Finset.univ fun c : Dev nD => iprop(unscopedBufs c (fun b => m ((c : Thread nD τ).loc b)) ∗ unscopedSems0 c
          ∗ owes (c : Thread nD τ) (owe2 c + owe1 c) ∅ ∗ Pipeline.launchCred (fun c => owe2 c + owe1 c) c ∗ prngReg c (ρ c) ∗ G c)) ∗ levAts L lv)
      ⊢ (|={Set.univ}=> bigSep Finset.univ (T₀ m) : sProp 𝕄) := by
  iintro ⟨H, -⟩
  ihave H' := (bigSep_weaken (init_core m ρ)) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells scCells toks)) from
    Entails.of_eq (bigSep_onDev (F := F) 0 (BI.own (ER (launchOf barCells scCells toks))))) $$ HG
  imod (Rounds.fund_launch ER (Rd (vals m)) disjoint_cells (fun g _ h => h) toks) $$ [Hv Hu] with ⟨%κ, -, #Hinv, #Hr, Hat, Hopen, Htok⟩
  · isplitl [Hv]
    · iapply (Entails.of_eq (bar_eq (fun g => semVal g 0)).symm) $$ Hv
    · iexact Hu
  imodintro
  iapply (bigSep_with_persistent (R := Inv (vals m) κ) (Φ := fun c => iprop(linear c ∗ bundle m c)) fun c _ => T0_intro m κ c)
  isplitr
  · unfold Inv
    isplitr; · iexact Hinv
    iexact Hr
  iapply pair
  isplitr [HB]
  · unfold linear
    iapply pair; isplitl [Hat]; · iapply (Entails.of_eq (bar_eq (fun g => atPos ER g 0 ∅ 0))) $$ Hat
    iapply pair; isplitl [Hopen]; · iapply (Entails.of_eq (sc_eq (fun g => openTok ER g))) $$ Hopen
    iapply (Entails.of_eq (toks_around (F := F)))
    iapply (Entails.of_eq (toks_eq (F := F))) $$ Htok
  · iexact HB

set_option backward.isDefEq.respectTransparency.types false in
/-- From any memory with its counters at zero, every weakly fair execution of the program ends, with every buffer at what
    the calls leave in it and every counter back at zero. -/
theorem run_main : θ_run defs (onTc (τ := τ) (main (F := F))) ⟨m, fun _ => 0, ρ⟩
    (fun r => (∀ c : Dev nD, ∀ b ∈ Pipeline.ucRefs τ sig, r.2.mem (c, b) = W5 m c b) ∧ r.2.sem = fun _ => 0) := by
  refine Pipeline.θ_run_regions_kit_dev_sems (pcfgs (F := F)) adm (pdats m) () cellOf_inj EP defs₀ 𝒱₀ L lv m ρ main
    (segs m 𝒱₀ L lv (fun _ => E0 m) () (pdats m) (reg0 m) (reg1 m) (reg2 m))
    (fun c Q => by
      rewrite [main_chain c, Pipeline.Seg.run_eq_chain, show (segs m 𝒱₀ L lv (fun _ => E0 m) () (pdats m) (reg0 m) (reg1 m) (reg2 m) c).map Pipeline.Seg.prog = [
          StableHlo.seq (hostOps0 c),
          StableHlo.seq hostOps0_1,
          Prog.lift (.customCall (Pipeline.entry 0) ()),
          Prog.lift (.customCall (Pipeline.entry 1) ()),
          Prog.lift (.customCall (Pipeline.entry 2) ())] from rfl]
      dsimp (config := { failIfUnchanged := false }) only
      exact .rfl)
    (fun c => by simp only [segs, Pipeline.Seg.pipes_host, Pipeline.Seg.pipes_region, Pipeline.Seg.pipes_nil]; decide)
    (fun c => owe2 c + owe1 c) L_of_ne G (u₀ (F := F)) ?_
    (T₀ := T₀ m) (Tₙ := Tn m)
    (hch := fun c => ⟨.rfl, .rfl, pre0 m c, (post0 m c).trans (pre1 m c), (post1 m c).trans (pre2 m c), post2 m c⟩)
    (hinit := init m ρ)
    (QY := fun c s => (∀ b ∈ Pipeline.ucRefs τ sig, s.mem (c, b) = W5 m c b) ∧ s.sem (bar0 c) = 0 ∧ s.sem (bar1 c) = 0)
    (hfin := fun c s' => ?_)
    (hQ := fun s h hs => ⟨fun c => (h c).1, sem_eq_zero hs fun c sm hsm => ?_⟩)
  · unfold u₀ G
    iintro Hu
    ihave H := (ownU_pair _ _) $$ Hu
    icases H with ⟨HP, HX⟩
    imodintro
    isplitl [HP]; · iexact HP
    rw [bigSep_onDev]; iexact HX
  · unfold Tn StableHlo.held
    iintro ⟨⟨Hh, Hb, Hb'⟩, HSI⟩
    icombine HSI Hb gives %hb
    icombine HSI Hb' gives %hb'
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact ⟨h, by simpa using hb, by simpa using hb'⟩
    iexact HSI
  · rcases unscoped_eq sm hsm with rfl | rfl
    · exact (h c).2.1
    · exact (h c).2.2

/-- A buffer no call writes reaches the end as launched. -/
theorem W5_arg (c : Dev nD) (b : Ref sig .tc) (h0 : b ∉ hostOps0_W) (h1 : b ∉ hostOps0_1_W)
    (h : b ∉ ([main_v12_0, main_v12_1, main_v12_2] : List (Ref sig .tc)) ∧ b ∉ ([main_v13_0, main_v13_1, main_v13_2, main_v13_3] : List (Ref sig .tc))
      ∧ b ∉ ([main_v14] : List (Ref sig .tc))) : W5 m c b = m ((c : Thread nD τ).loc b) :=
  (W5_of m c b h.2.2).trans ((W4_of m c b h.2.1).trans ((W3_of m c b h.1).trans (V2_arg m c b h0 h1)))

end Cert.KernelIdeal.Hand

end
-- ==== Proof.Spec.lean ====
/-
  The layer's mathematics over extended reals, entry by entry: what both programs' results are shown to be. Independent of
  either program: only array indices and sums.
-/
module

public import Idealize.ShloMosaic.PureOps.Ideal.Laws
public import Idealize.ShloMosaic.Lib.ValueIdx

@[expose] public section

set_option maxRecDepth 16384

noncomputable section

namespace Cert.Layer

open Idealize.ShloMosaic Idealize.ShloMosaic.ValueIdx
open scoped BigOperators

/-- A matrix of extended reals, and the input of four row groups. -/
abbrev Mat (a b : ℕ) := (⟨2, ![a, b]⟩ : Shape).Idx → EReal
abbrev Cube (a b c : ℕ) := (⟨3, ![a, b, c]⟩ : Shape).Idx → EReal

/-- Column d of head h, of 128 columns a head, and of 64. -/
def hd (h : Fin 32) (d : Fin 128) : Fin 4096 := ⟨128 * h.val + d.val, by omega⟩
def hr (h : Fin 32) (d : Fin 64) : Fin 2048 := ⟨64 * h.val + d.val, by omega⟩

/-- The head a column belongs to, and its column there. -/
def hdOf (n : Fin 4096) : Fin 32 := ⟨n.val / 128, by omega⟩
def hdIn (n : Fin 4096) : Fin 128 := ⟨n.val % 128, by omega⟩

theorem hd_of_in (n : Fin 4096) : hd (hdOf n) (hdIn n) = n := by
  apply Fin.ext; show 128 * (n.val / 128) + n.val % 128 = n.val; omega

/-- The scale of the scores. -/
def sigma : EReal := Ideal.ofBits .f32 0x3D93CD3A#32

/-- Row i of group g times a weight matrix. -/
def lin {N : ℕ} (x : Cube 4 256 4096) (w : Mat 4096 N) (g : Fin 4) (i : Fin 256) (n : Fin N) : EReal :=
  ∑ k : Fin 4096, x (ix3 g i k) * w (ix2 k n)

/-- A latent row expanded. -/
def up (c : Fin 256 → Fin 256 → EReal) (w : Mat 256 4096) (i : Fin 256) (n : Fin 4096) : EReal :=
  ∑ j : Fin 256, c i j * w (ix2 j n)

/-- The score of query row i against key row j in head h. -/
def score (q k : Fin 256 → Fin 4096 → EReal) (qr : Fin 256 → Fin 2048 → EReal) (kr : Fin 256 → Fin 64 → EReal)
    (h : Fin 32) (i j : Fin 256) : EReal :=
  ((∑ d : Fin 128, q i (hd h d) * k j (hd h d)) + ∑ r : Fin 64, qr i (hr h r) * kr j r) * sigma

/-- The largest entry of a row, from the pattern of minus infinity. -/
def top (f : Fin 256 → EReal) : EReal := (Finset.univ : Finset (Fin 256)).fold max (Ideal.ofBits .f32 0xFF800000#32) f

/-- A row's exponentials, its largest entry taken off first, and the row normalised. -/
def expo (f : Fin 256 → EReal) (j : Fin 256) : EReal := Ideal.exp (f j - top f)
def soft (f : Fin 256 → EReal) (j : Fin 256) : EReal := Ideal.div (expo f j) (∑ k : Fin 256, expo f k)

/-- The attention's row i at column n: the value rows weighted by the normalised scores of the column's head. -/
def att (q k v : Fin 256 → Fin 4096 → EReal) (qr : Fin 256 → Fin 2048 → EReal) (kr : Fin 256 → Fin 64 → EReal)
    (i : Fin 256) (n : Fin 4096) : EReal :=
  ∑ j : Fin 256, v j n * soft (score q k qr kr (hdOf n) i) j

/-- One group's attention from the arrays. -/
def attOf (x : Cube 4 256 4096) (wdkv : Mat 4096 256) (wuk wuv : Mat 256 4096) (wq : Mat 4096 4096) (wqr : Mat 4096 2048)
    (wkr : Mat 4096 64) (g : Fin 4) : Fin 256 → Fin 4096 → EReal :=
  att (lin x wq g) (up (lin x wdkv g) wuk) (up (lin x wdkv g) wuv) (lin x wqr g) (lin x wkr g)

/-- The layer: the attention times the output weight. -/
def layer (x : Cube 4 256 4096) (wdkv : Mat 4096 256) (wuk wuv : Mat 256 4096) (wq : Mat 4096 4096) (wqr : Mat 4096 2048)
    (wkr : Mat 4096 64) (wo : Mat 4096 4096) (g : Fin 4) (i : Fin 256) (n : Fin 4096) : EReal :=
  ∑ k : Fin 4096, attOf x wdkv wuk wuv wq wqr wkr g i k * wo (ix2 k n)

end Cert.Layer
-- ==== Proof.KerVal.lean ====
/-
  The kernel's operations over extended reals, read at an index: its products, the layout operations, a head's attention.
-/
module

public import proofs.«01_k».proof.Proof.Cont
public import proofs.«01_k».proof.Proof.Spec
public import Idealize.ShloMosaic.Lib.IdealHost
public import Idealize.ShloMosaic.Lib.Pipeline.Value

@[expose] public section

set_option maxRecDepth 16384

noncomputable section

namespace Cert.KernelIdeal.Hand

open Cert.KernelIdeal Cert.KernelIdeal.Gen Cert.Layer
open Idealize.ShloMosaic hiding ix1 ix2 ix3
open Idealize.ShloMosaic.TcCoe Idealize.ShloMosaic.ValueIdx
open scoped BigOperators

/-! ## The scale -/

theorem sigma_eq : ∃ r : ℝ, 0 ≤ r ∧ sigma = (r : EReal) := by
  refine ⟨(9686330 : ℝ) * (1 / 134217728), by positivity, ?_⟩
  simp [sigma, Ideal.ofBits, Ideal.ieee]
  norm_num

/-- A sum of scaled terms is the scaled sum. -/
theorem sum_sigma {ι : Type} (s : Finset ι) (f : ι → EReal) : ∑ i ∈ s, f i * sigma = (∑ i ∈ s, f i) * sigma := by
  classical
  obtain ⟨r, hr, e⟩ := sigma_eq
  induction s using Finset.induction_on with
  | empty => simp
  | insert a t ha ih =>
    rw [Finset.sum_insert ha, Finset.sum_insert ha, ih, e]
    exact (EReal.right_distrib_of_nonneg_of_ne_top (by exact_mod_cast hr) (EReal.coe_ne_top r) _ _).symm

/-! ## Products -/

theorem kerDot {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (j : so.Idx)
    (L : Fin n → sl.Idx) (R : Fin n → sr.Idx)
    (hL : ∀ k, D.lhsIdx j ((contrEquiv1 D n hr hs).symm k) = L k) (hR : ∀ k, D.rhsIdx j ((contrEquiv1 D n hr hs).symm k) = R k) :
    matmul D none l r (constant so .f32 0x00000000#32) j = ∑ k : Fin n, l (L k) * r (R k) := by
  simp only [matmul]
  rw [Ideal.matmul_constant_zero_apply, ← Equiv.sum_comp (contrEquiv1 D n hr hs).symm]
  exact Finset.sum_congr rfl fun k _ => by rw [hL, hR]

section Dots
variable {φ₁ φ₂ : FTy}

theorem dot128 (l : FVec Ideal S256x4096 φ₁) (r : FVec Ideal S4096x128 φ₂) (i : Fin 256) (n : Fin 128) :
    matmul dot_S256x4096_S4096x128_S256x128_1_0_0_1_n_n none l r (constant S256x128 .f32 0x00000000#32) (ix2 i n)
      = ∑ k : Fin 4096, l (ix2 i k) * r (ix2 k n) := by
  have hk := contrEquiv1_symm_val dot_S256x4096_S4096x128_S256x128_1_0_0_1_n_n 4096 rfl rfl
  refine kerDot _ 4096 rfl rfl l r _ _ _ (fun k => ?_) (fun k => ?_) <;> funext a <;> apply Fin.ext
  · match a with | ⟨0, _⟩ => rfl | ⟨1, _⟩ => exact hk k
  · match a with | ⟨0, _⟩ => exact hk k | ⟨1, _⟩ => rfl

theorem dot64 (l : FVec Ideal S256x4096 φ₁) (r : FVec Ideal S4096x64 φ₂) (i : Fin 256) (n : Fin 64) :
    matmul dot_S256x4096_S4096x64_S256x64_1_0_0_1_n_n none l r (constant S256x64 .f32 0x00000000#32) (ix2 i n)
      = ∑ k : Fin 4096, l (ix2 i k) * r (ix2 k n) := by
  have hk := contrEquiv1_symm_val dot_S256x4096_S4096x64_S256x64_1_0_0_1_n_n 4096 rfl rfl
  refine kerDot _ 4096 rfl rfl l r _ _ _ (fun k => ?_) (fun k => ?_) <;> funext a <;> apply Fin.ext
  · match a with | ⟨0, _⟩ => rfl | ⟨1, _⟩ => exact hk k
  · match a with | ⟨0, _⟩ => exact hk k | ⟨1, _⟩ => rfl

theorem dot512 (l : FVec Ideal S256x4096 φ₁) (r : FVec Ideal S4096x512 φ₂) (i : Fin 256) (n : Fin 512) :
    matmul dot_S256x4096_S4096x512_S256x512_1_0_0_1_n_n none l r (constant S256x512 .f32 0x00000000#32) (ix2 i n)
      = ∑ k : Fin 4096, l (ix2 i k) * r (ix2 k n) := by
  have hk := contrEquiv1_symm_val dot_S256x4096_S4096x512_S256x512_1_0_0_1_n_n 4096 rfl rfl
  refine kerDot _ 4096 rfl rfl l r _ _ _ (fun k => ?_) (fun k => ?_) <;> funext a <;> apply Fin.ext
  · match a with | ⟨0, _⟩ => rfl | ⟨1, _⟩ => exact hk k
  · match a with | ⟨0, _⟩ => exact hk k | ⟨1, _⟩ => rfl

theorem dot2048 (l : FVec Ideal S256x128 φ₁) (r : FVec Ideal S128x2048 φ₂) (i : Fin 256) (n : Fin 2048) :
    matmul dot_S256x128_S128x2048_S256x2048_1_0_0_1_n_n none l r (constant S256x2048 .f32 0x00000000#32) (ix2 i n)
      = ∑ k : Fin 128, l (ix2 i k) * r (ix2 k n) := by
  have hk := contrEquiv1_symm_val dot_S256x128_S128x2048_S256x2048_1_0_0_1_n_n 128 rfl rfl
  refine kerDot _ 128 rfl rfl l r _ _ _ (fun k => ?_) (fun k => ?_) <;> funext a <;> apply Fin.ext
  · match a with | ⟨0, _⟩ => rfl | ⟨1, _⟩ => exact hk k
  · match a with | ⟨0, _⟩ => exact hk k | ⟨1, _⟩ => rfl

theorem dotPV (l : FVec Ideal S256x256 φ₁) (r : FVec Ideal S256x128 φ₂) (i : Fin 256) (n : Fin 128) :
    matmul dot_S256x256_S256x128_S256x128_1_0_0_1_n_n none l r (constant S256x128 .f32 0x00000000#32) (ix2 i n)
      = ∑ k : Fin 256, l (ix2 i k) * r (ix2 k n) := by
  have hk := contrEquiv1_symm_val dot_S256x256_S256x128_S256x128_1_0_0_1_n_n 256 rfl rfl
  refine kerDot _ 256 rfl rfl l r _ _ _ (fun k => ?_) (fun k => ?_) <;> funext a <;> apply Fin.ext
  · match a with | ⟨0, _⟩ => rfl | ⟨1, _⟩ => exact hk k
  · match a with | ⟨0, _⟩ => exact hk k | ⟨1, _⟩ => rfl

/-- Rows against rows, over the 128 and the 64 columns side by side. -/
theorem dot192 (l : FVec Ideal S256x192 φ₁) (r : FVec Ideal S256x192 φ₂) (i j : Fin 256) :
    matmul dot_S256x192_S256x192_S256x256_1_1_0_0_n_n none l r (constant S256x256 .f32 0x00000000#32) (ix2 i j)
      = (∑ d : Fin 128, l (ix2 i (Fin.castAdd 64 d)) * r (ix2 j (Fin.castAdd 64 d)))
        + ∑ d : Fin 64, l (ix2 i (Fin.natAdd 128 d)) * r (ix2 j (Fin.natAdd 128 d)) := by
  have hk := contrEquiv1_symm_val dot_S256x192_S256x192_S256x256_1_1_0_0_n_n 192 rfl rfl
  refine (kerDot _ 192 rfl rfl l r _ (fun k => ix2 i k) (fun k => ix2 j k) (fun k => ?_) (fun k => ?_)).trans
    (Fin.sum_univ_add (a := 128) (b := 64) fun k : Fin 192 => (l (ix2 i k) * r (ix2 j k) : EReal)) <;> funext a <;> apply Fin.ext
  · match a with | ⟨0, _⟩ => rfl | ⟨1, _⟩ => exact hk k
  · match a with | ⟨0, _⟩ => rfl | ⟨1, _⟩ => exact hk k

end Dots

/-! ## Layout -/

section Layout
variable {α : Type}

/-- A reshape to the same shape changes nothing. -/
theorem cast_same {s : Shape} (x : s.Idx → α) (e : s.ShapeCasts s) : shapeCast s x e = x :=
  funext fun j => shapeCast_apply x e j j rfl

theorem duo_ix {a b : ℕ} (i : Fin a) (j : Fin b) : duo (d := ![a, b]) i j = ix2 i j := by
  funext x; match x with | ⟨0, _⟩ => rfl | ⟨1, _⟩ => rfl
theorem pair_ix {a b : ℕ} (i : Fin a) (j : Fin b) : Shape.pair (d := ![a, b]) i j = ix2 i j := by
  funext x; match x with | ⟨0, _⟩ => rfl | ⟨1, _⟩ => rfl
theorem tri_ix {a b c : ℕ} (i : Fin a) (j : Fin b) (k : Fin c) : tri (d := ![a, b, c]) i j k = ix3 i j k := by
  funext x; match x with | ⟨0, _⟩ => rfl | ⟨1, _⟩ => rfl | ⟨2, _⟩ => rfl

/-- A leading axis of size one dropped, and put on. -/
theorem cast_drop {a b : ℕ} (x : (⟨3, ![1, a, b]⟩ : Shape).Idx → α) (e) (i : Fin a) (j : Fin b) :
    shapeCast (⟨2, ![a, b]⟩ : Shape) x e (ix2 i j) = x (ix3 (0 : Fin 1) i j) := by
  refine shapeCast_apply x e _ _ ?_
  rw [Shape.rowMajor_val_two, Shape.rowMajor_val_three]
  show (0 * a + i.val) * b + j.val = i.val * b + j.val
  rw [Nat.zero_mul, Nat.zero_add]
theorem cast_put {a b : ℕ} (x : (⟨2, ![a, b]⟩ : Shape).Idx → α) (e) (z : Fin 1) (i : Fin a) (j : Fin b) :
    shapeCast (⟨3, ![1, a, b]⟩ : Shape) x e (ix3 z i j) = x (ix2 i j) := by
  refine shapeCast_apply x e _ _ ?_
  rw [Shape.rowMajor_val_two, Shape.rowMajor_val_three]
  show i.val * b + j.val = (z.val * a + i.val) * b + j.val
  have : z.val = 0 := by omega
  rw [this, Nat.zero_mul, Nat.zero_add]

/-- A column of one entry a row, broadcast along the row. -/
theorem col_row (x : S256.Idx → α) (e1) (e2) (i j : Fin 256) :
    broadcastTo S256x256 (shapeCast S256x1 x e1) e2 (ix2 i j) = x (ix1 i) := by
  refine (broadcastTo_apply _ e2 _ (ix2 i (0 : Fin 1)) (fun a => ?_)).trans (shapeCast_apply x e1 _ _ ?_)
  · match a with | ⟨0, _⟩ => rfl | ⟨1, _⟩ => rfl
  · rw [Shape.rowMajor_val_two, Shape.rowMajor_val_one]
    show i.val = i.val * 1 + 0
    omega

theorem join_left (x : S256x128.Idx → α) (y : S256x64.Idx → α) (e) (i : Fin 256) (d : Fin 128) :
    concatenate S256x192 1 [⟨S256x128, x⟩, ⟨S256x64, y⟩] e (ix2 i (Fin.castAdd 64 d)) = x (ix2 i d) := by
  refine concatenate_pair_apply_left 1 x y e _ rfl (ix2 i d) (fun b => ?_)
  match b with | ⟨0, _⟩ => rfl | ⟨1, _⟩ => rfl
theorem join_right (x : S256x128.Idx → α) (y : S256x64.Idx → α) (e) (i : Fin 256) (d : Fin 64) :
    concatenate S256x192 1 [⟨S256x128, x⟩, ⟨S256x64, y⟩] e (ix2 i (Fin.natAdd 128 d)) = y (ix2 i d) := by
  refine concatenate_pair_apply_right 1 x y e _ rfl rfl (ix2 i d) (fun b hb => ?_) ?_
  · match b with | ⟨0, _⟩ => rfl | ⟨1, _⟩ => exact absurd rfl hb
  · show d.val + 128 = 128 + d.val; omega

end Layout

/-! ## Rows -/

theorem lift_ix (i j : Fin 256) : reduces_S256x256_S256.lift (ix1 i) j = ix2 i j := by
  funext a; apply Fin.ext
  match a with | ⟨0, _⟩ => rfl | ⟨1, _⟩ => rfl

theorem row_max (s : FVec Ideal S256x256 .f32) (h1 h2) (i : Fin 256) :
    multiReduction .maximumf [1] S256 s 0xFF800000#32 reduces_S256x256_S256 h1 h2 (ix1 i) = top (fun j => s (ix2 i j)) := by
  rw [Ideal.multiReduction_maximumf_single]
  have hx : (s ∘ reduces_S256x256_S256.lift (ix1 i)) = fun j : Fin 256 => s (ix2 i j) := funext fun j => congrArg s (lift_ix i j)
  rw [hx]
  rfl

theorem row_sum (s : FVec Ideal S256x256 .f32) (h1 h2) (i : Fin 256) :
    multiReduction .add [1] S256 s 0x00000000#32 reduces_S256x256_S256 h1 h2 (ix1 i) = ∑ j : Fin 256, s (ix2 i j) := by
  rw [Ideal.multiReduction_add_single]
  exact Finset.sum_congr rfl fun j _ => congrArg s (lift_ix i j)

end Cert.KernelIdeal.Hand
-- ==== Proof.KerAttn.lean ====
/-
  The three calls' contents over extended reals, entry by entry: the attention of a head, the projections, the gathered rows.
-/
module

public import proofs.«01_k».proof.Proof.KerVal

@[expose] public section

set_option maxRecDepth 16384

noncomputable section

namespace Cert.KernelIdeal.Hand

open Cert.KernelIdeal Cert.KernelIdeal.Gen Cert.Layer
open Idealize.ShloMosaic hiding ix1 ix2 ix3
open Idealize.ShloMosaic.TcCoe Idealize.ShloMosaic.ValueIdx
open scoped BigOperators

/-! ## A head's attention -/

/-- A row of scores, exponentiated with its largest entry taken off. -/
theorem expo_val (s : FVec Ideal S256x256 .f32) (h1 h2 e1 e2) (i j : Fin 256) :
    exp (subf s (broadcastTo S256x256 (shapeCast S256x1 (multiReduction .maximumf [1] S256 s 0xFF800000#32 reduces_S256x256_S256 h1 h2) e1) e2)) (ix2 i j)
      = expo (fun j => s (ix2 i j)) j := by
  show Ideal.exp (s (ix2 i j) - _) = _
  rw [col_row, row_max]
  rfl

theorem soft_val (p : FVec Ideal S256x256 .f32) (f : Fin 256 → EReal) (h1 h2 e1 e2) (i j : Fin 256) (hp : ∀ j, p (ix2 i j) = expo f j) :
    divf p (broadcastTo S256x256 (shapeCast S256x1 (multiReduction .add [1] S256 p 0x00000000#32 reduces_S256x256_S256 h1 h2) e1) e2) (ix2 i j)
      = soft f j := by
  rw [divf_apply, col_row, row_sum, hp]
  unfold soft
  exact congrArg _ (Finset.sum_congr rfl fun k _ => hp k)

theorem attn1_val (q : FVec Ideal S256x128 .bf16) (qr : FVec Ideal S256x64 .bf16) (k : FVec Ideal S256x128 .bf16)
    (kr : FVec Ideal S256x64 .bf16) (v : FVec Ideal S256x128 .bf16) (f : Fin 256 → EReal) (i : Fin 256) (d : Fin 128)
    (hf : ∀ y : Fin 256, (∑ e : Fin 128, q (ix2 i e) * k (ix2 y e)) + (∑ e : Fin 64, qr (ix2 i e) * kr (ix2 y e)) = f y) :
    attn1 q qr k kr v (ix2 i d) = ∑ j : Fin 256, v (ix2 j d) * soft f j := by
  unfold attn1
  refine (congrFun (cast_same _ _) _).trans ((dotPV _ _ i d).trans (Finset.sum_congr rfl fun j _ => ?_))
  refine (mul_comm _ _).trans (congrArg₂ (fun a b : EReal => a * b) (congrFun (cast_same v _) _) ?_)
  refine soft_val _ f _ _ _ _ i j (fun y => ?_)
  refine (expo_val _ _ _ _ _ i y).trans (congrArg (fun g => expo g y) (funext fun z => ?_))
  refine (dot192 _ _ i z).trans (Eq.trans ?_ (hf z))
  simp only [join_left, join_right, cast_same]

theorem colsH_val (x : FVec Ideal S256x4096 .bf16) (h : Fin 32) (i : Fin 256) (d : Fin 128) : colsH x h (ix2 i d) = x (ix2 i (hd h d)) := by
  refine congrArg x (funext fun a => Fin.ext ?_)
  match a with
  | ⟨0, _⟩ => show 0 + 1 * i.val = i.val; omega
  | ⟨1, _⟩ => show 128 * h.val + 1 * d.val = 128 * h.val + d.val; omega

theorem colsR_val (x : FVec Ideal S256x2048 .bf16) (h : Fin 32) (e) (i : Fin 256) (d : Fin 64) :
    extractStridedSlice S256x64 ![0, 64 * h.val] x e (ix2 i d) = x (ix2 i (hr h d)) := by
  refine extractStridedSlice_apply _ x e _ _ (fun a => ?_)
  match a with
  | ⟨0, _⟩ => show i.val = 0 + i.val; omega
  | ⟨1, _⟩ => rfl

/-- The attention, once its queries carry the scale. -/
theorem attO_val (q k v : FVec Ideal S256x4096 .bf16) (qr : FVec Ideal S256x2048 .bf16) (kr : FVec Ideal S256x64 .bf16)
    (Q K V : Fin 256 → Fin 4096 → EReal) (QR : Fin 256 → Fin 2048 → EReal) (KR : Fin 256 → Fin 64 → EReal)
    (hq : ∀ i n, q (ix2 i n) = Q i n * sigma) (hk : ∀ i n, k (ix2 i n) = K i n) (hv : ∀ i n, v (ix2 i n) = V i n)
    (hqr : ∀ i n, qr (ix2 i n) = QR i n * sigma) (hkr : ∀ i n, kr (ix2 i n) = KR i n) (i : Fin 256) (n : Fin 4096) :
    attO q k v qr kr (ix2 i n) = att Q K V QR KR i n := by
  show headO q k v qr kr (hdOf n) (Shape.pair (d := ![256, 128]) i (hdIn n)) = _
  rw [pair_ix]
  unfold headO
  refine (attn1_val _ _ _ _ _ (score Q K QR KR (hdOf n) i) i (hdIn n) (fun y => ?_)).trans (Finset.sum_congr rfl fun j _ => ?_)
  · simp only [cast_same, colsH_val, colsR_val, hq, hk, hqr, hkr, mul_right_comm _ sigma]
    rw [sum_sigma, sum_sigma]
    obtain ⟨r, hr, e⟩ := sigma_eq
    unfold score
    rw [e]
    exact (EReal.right_distrib_of_nonneg_of_ne_top (by exact_mod_cast hr) (EReal.coe_ne_top r) _ _).symm
  · rw [colsH_val, hd_of_in, hv]

/-! ## The arrays the devices start from -/

/-- The row group of a device, and its place along the first mesh axis. -/
def grp (c : Dev nD) : Fin 4 := ⟨c.val % 4, Nat.mod_lt _ (by decide)⟩
def pos (c : Dev nD) : Fin 2 := ⟨c.val / 4, by have : c.val < 8 := c.isLt; omega⟩
/-- Entry j of half s of 256. -/
def hf (s : Fin 2) (j : Fin 128) : Fin 256 := ⟨128 * s.val + j.val, by omega⟩

/-- The devices hold the reference's arrays: whole, or the half their place names. -/
structure Held (m : (ℓ : Loc nD τ sig) → Buf (Elt Ideal) ℓ) (X : Cube 4 256 4096) (WD : Mat 4096 256) (WK WV : Mat 256 4096)
    (WQ : Mat 4096 4096) (WQR : Mat 4096 2048) (WKR : Mat 4096 64) (WO : Mat 4096 4096) : Prop where
  x : ∀ c i k, xi m c (ix2 i k) = X (ix3 (grp c) i k)
  wd : ∀ c k j, wdkv m c (ix2 k j) = WD (ix2 k (hf (pos c) j))
  wk : ∀ c j n, wuk m c (ix2 j n) = WK (ix2 (hf (pos c) j) n)
  wv : ∀ c j n, wuv m c (ix2 j n) = WV (ix2 (hf (pos c) j) n)
  wq : ∀ c, wq m c = WQ
  wqr : ∀ c, wqr m c = WQR
  wkr : ∀ c, wkr m c = WKR
  wo : ∀ c, wo m c = WO

theorem grp_xdev (x : Fin 2) (c : Dev nD) : grp (xdev x c) = grp c := by
  apply Fin.ext; show (4 * x.val + c.val % 4) % 4 = c.val % 4; omega
theorem pos_xdev (x : Fin 2) (c : Dev nD) : pos (xdev x c) = x := by
  apply Fin.ext; show (4 * x.val + c.val % 4) / 4 = x.val; omega

/-- Column n of a matrix, as column n % 512 of its block n / 512. -/
theorem blkC_val {N : ℕ} (w : FVec Ideal ⟨2, ![4096, N]⟩ .bf16) (n : Fin N) (h) (k : Fin 4096) :
    blkC w (n.val / 512) h (ix2 k ⟨n.val % 512, Nat.mod_lt _ (by decide)⟩) = w (ix2 k n) := by
  have h' : 512 * (n.val / 512) + n.val % 512 < N := by have := n.isLt; omega
  refine congrArg w ((duo_ix k (⟨512 * (n.val / 512) + n.val % 512, h'⟩ : Fin N)).trans (congrArg (ix2 k) (Fin.ext ?_)))
  show 512 * (n.val / 512) + n.val % 512 = n.val
  omega

theorem pay1_val (x : FVec Ideal S256x4096 .bf16) (w : FVec Ideal S4096x512 .bf16) (i : Fin 256) (n : Fin 512) :
    k1_pay1 x w (ix2 i n) = (∑ k : Fin 4096, x (ix2 i k) * w (ix2 k n)) * sigma := by
  unfold k1_pay1
  rw [cast_same, cast_same]
  exact congrArg (fun a : EReal => a * sigma) (dot512 x w i n)

theorem pay2_val (x : FVec Ideal S256x4096 .bf16) (w : FVec Ideal S4096x512 .bf16) (i : Fin 256) (n : Fin 512) :
    k1_pay2 x w (ix2 i n) = (∑ k : Fin 4096, x (ix2 i k) * w (ix2 k n)) * sigma := by
  unfold k1_pay2
  rw [cast_same, cast_same]
  exact congrArg (fun a : EReal => a * sigma) (dot512 x w i n)

theorem pay65_val (o : FVec Ideal S256x4096 .bf16) (w : FVec Ideal S4096x512 .bf16) (z : Fin 1) (i : Fin 256) (n : Fin 512) :
    k2_pay65 (k2_pay64 o w) (ix3 z i n) = ∑ k : Fin 4096, o (ix2 i k) * w (ix2 k n) := by
  unfold k2_pay65 k2_pay64
  rw [cast_same]
  exact (cast_put _ _ z i n).trans (dot512 o w i n)

section Contents
variable {m : (ℓ : Loc nD τ sig) → Buf (Elt Ideal) ℓ} {X : Cube 4 256 4096} {WD : Mat 4096 256} {WK WV : Mat 256 4096}
  {WQ : Mat 4096 4096} {WQR : Mat 4096 2048} {WKR : Mat 4096 64} {WO : Mat 4096 4096} (H : Held m X WD WK WV WQ WQR WKR WO)
include H

theorem xbO_val (c : Dev nD) (i : Fin 256) (k : Fin 4096) : xbO m c (ix2 i k) = X (ix3 (grp c) i k) := by
  unfold xbO k0_pay1
  rw [cast_same]; exact H.x c i k

theorem cO_val (c : Dev nD) (i : Fin 256) (j : Fin 128) : cO m c (ix2 i j) = lin X WD (grp c) i (hf (pos c) j) := by
  unfold cO k0_pay2 k0_pay1
  simp only [cast_same]
  rw [truncf_apply, dot128]
  exact Finset.sum_congr rfl fun k _ => by rw [H.x, H.wd]

theorem krO_val (c : Dev nD) (i : Fin 256) (j : Fin 64) : krO m c (ix2 i j) = lin X WKR (grp c) i j := by
  unfold krO k0_pay3 k0_pay1
  simp only [cast_same]
  rw [truncf_apply, dot64]
  exact Finset.sum_congr rfl fun k _ => by rw [H.x, H.wkr]

theorem qO_val (c : Dev nD) (i : Fin 256) (n : Fin 4096) : qO m c (ix2 i n) = lin X WQ (grp c) i n * sigma := by
  refine (congrArg (k1_pay1 (xbO m c) (blkC (wq m c) (n.val / 512) _)) (duo_ix i (⟨n.val % 512, Nat.mod_lt _ (by decide)⟩ : Fin 512))).trans ?_
  refine (pay1_val _ _ i _).trans (congrArg (fun a : EReal => a * sigma) (Finset.sum_congr rfl fun k _ => ?_))
  rw [xbO_val H, H.wq]
  exact congrArg _ (blkC_val WQ n _ k)

theorem qrO_val (c : Dev nD) (i : Fin 256) (n : Fin 2048) : qrO m c (ix2 i n) = lin X WQR (grp c) i n * sigma := by
  refine (congrArg (k1_pay2 (xbO m c) (blkC (wqr m c) (n.val / 512) _)) (duo_ix i (⟨n.val % 512, Nat.mod_lt _ (by decide)⟩ : Fin 512))).trans ?_
  refine (pay2_val _ _ i _).trans (congrArg (fun a : EReal => a * sigma) (Finset.sum_congr rfl fun k _ => ?_))
  rw [xbO_val H, H.wqr]
  exact congrArg _ (blkC_val WQR n _ k)

/-! ## The exchange -/

theorem cF_val (c : Dev nD) (s : Fin 2) (i : Fin 256) (j : Fin 128) : cF m c (ix3 s i j) = lin X WD (grp c) i (hf s j) := by
  show k1_pay3 (cO m (xdev s c)) (tri (d := ![1, 256, 128]) (0 : Fin 1) i j) = _
  unfold k1_pay3
  rw [tri_ix, cast_same, cast_put, cO_val H, grp_xdev, pos_xdev]

theorem uF_val (c : Dev nD) (s : Fin 2) (j : Fin 128) (n : Fin 4096) : uF m c (ix3 s j n) = WK (ix2 (hf s j) n) := by
  show k1_pay4 (wuk m (xdev s c)) (tri (d := ![1, 128, 4096]) (0 : Fin 1) j n) = _
  unfold k1_pay4
  rw [tri_ix, cast_same, cast_put, H.wk, pos_xdev]

theorem vF_val (c : Dev nD) (s : Fin 2) (j : Fin 128) (n : Fin 4096) : vF m c (ix3 s j n) = WV (ix2 (hf s j) n) := by
  show k1_pay5 (wuv m (xdev s c)) (tri (d := ![1, 128, 4096]) (0 : Fin 1) j n) = _
  unfold k1_pay5
  rw [tri_ix, cast_same, cast_put, H.wv, pos_xdev]

end Contents

/-- A slot read. -/
theorem slot_val {n k : ℕ} (f : FVec Ideal ⟨3, ![2, n, k]⟩ .bf16) (s : Fin 2) (z : Fin 1) (i : Fin n) (j : Fin k) :
    slotOf f s (ix3 z i j) = f (ix3 s i j) := congrArg f (tri_ix s i j)

/-- A sum over 256 is the sums over its halves. -/
theorem sum_halves (f : Fin 256 → EReal) : ∑ j : Fin 256, f j = (∑ j : Fin 128, f (hf 0 j)) + ∑ j : Fin 128, f (hf 1 j) := by
  refine (Fin.sum_univ_add (a := 128) (b := 128) f).trans (congrArg₂ (fun a b : EReal => a + b) ?_ ?_)
  · exact Finset.sum_congr rfl fun j _ => congrArg f (Fin.ext (by show j.val = 128 * 0 + j.val; omega))
  · exact Finset.sum_congr rfl fun j _ => congrArg f (Fin.ext (by show 128 + j.val = 128 * 1 + j.val; omega))

/-- Half of the columns of the latent expanded over both slots, from column o. -/
theorem half_val (c0 c1 : FVec Ideal S256x128 .bf16) (u0 u1 : FVec Ideal S128x4096 .bf16) (o : ℕ) (e0 : S128x4096.Slices ![0, o] S128x2048)
    (i : Fin 256) (n : Fin 2048) (p : Fin 4096) (hp : p.val = o + n.val) :
    truncf .bf16 (addf (matmul dot_S256x128_S128x2048_S256x2048_1_0_0_1_n_n none c0 (extractStridedSlice S128x2048 ![0, o] u0 e0) (constant S256x2048 .f32 0x00000000#32))
      (matmul dot_S256x128_S128x2048_S256x2048_1_0_0_1_n_n none c1 (extractStridedSlice S128x2048 ![0, o] u1 e0) (constant S256x2048 .f32 0x00000000#32)))
      bitsLt_bf16_f32 (ix2 i n)
      = (∑ j : Fin 128, c0 (ix2 i j) * u0 (ix2 j p)) + ∑ j : Fin 128, c1 (ix2 i j) * u1 (ix2 j p) := by
  have hs : ∀ (u : FVec Ideal S128x4096 .bf16) (j : Fin 128), extractStridedSlice S128x2048 ![0, o] u e0 (ix2 j n) = u (ix2 j p) := fun u j => by
    refine extractStridedSlice_apply _ u e0 _ _ (fun a => ?_)
    match a with
    | ⟨0, _⟩ => show j.val = 0 + j.val; omega
    | ⟨1, _⟩ => exact hp
  rw [truncf_apply, addf_apply, dot2048, dot2048]
  simp only [hs]

/-- Two halves put side by side, read where each lies. -/
theorem halves_val (a b : FVec Ideal S256x2048 .bf16) (i : Fin 256) (n : Fin 4096) (z : EReal)
    (ha : ∀ p : Fin 2048, n.val = 0 + p.val → a (ix2 i p) = z) (hb : ∀ p : Fin 2048, n.val = 2048 + p.val → b (ix2 i p) = z) :
    halves a b (ix2 i n) = z := by
  unfold halves
  split
  next h => exact (congrArg a (duo_ix i (⟨n.val, h⟩ : Fin 2048))).trans (ha ⟨n.val, h⟩ (by show n.val = 0 + n.val; omega))
  next h => exact (congrArg b (duo_ix i (⟨n.val - 2048, by omega⟩ : Fin 2048))).trans (hb ⟨n.val - 2048, by omega⟩ (by have h' : ¬ n.val < 2048 := h; show n.val = 2048 + (n.val - 2048); omega))

section Contents2
variable {m : (ℓ : Loc nD τ sig) → Buf (Elt Ideal) ℓ} {X : Cube 4 256 4096} {WD : Mat 4096 256} {WK WV : Mat 256 4096}
  {WQ : Mat 4096 4096} {WQR : Mat 4096 2048} {WKR : Mat 4096 64} {WO : Mat 4096 4096} (H : Held m X WD WK WV WQ WQR WKR WO)
include H

theorem kO_val (c : Dev nD) (i : Fin 256) (n : Fin 4096) : kO m c (ix2 i n) = up (lin X WD (grp c)) WK i n := by
  have e := sum_halves fun j => lin X WD (grp c) i j * WK (ix2 j n)
  unfold kO k1_pay7 k1_pay10 k1_pay6 k1_pay9
  refine halves_val _ _ i n _ (fun p hp => ?_) (fun p hp => ?_) <;>
    refine (half_val _ _ _ _ _ _ i p n hp).trans (Eq.trans ?_ e.symm) <;>
    simp only [cast_drop, slot_val, cF_val H, uF_val H]

theorem vO_val (c : Dev nD) (i : Fin 256) (n : Fin 4096) : vO m c (ix2 i n) = up (lin X WD (grp c)) WV i n := by
  have e := sum_halves fun j => lin X WD (grp c) i j * WV (ix2 j n)
  unfold vO k1_pay8 k1_pay11
  refine halves_val _ _ i n _ (fun p hp => ?_) (fun p hp => ?_) <;>
    refine (half_val _ _ _ _ _ _ i p n hp).trans (Eq.trans ?_ e.symm) <;>
    simp only [cast_drop, slot_val, cF_val H, vF_val H]

/-! ## The result -/

theorem oF_val (c : Dev nD) (i : Fin 256) (n : Fin 4096) : oF m c (ix2 i n) = attOf X WD WK WV WQ WQR WKR (grp c) i n :=
  attO_val _ _ _ _ _ _ _ _ _ _ (qO_val H c) (kO_val H c) (vO_val H c) (qrO_val H c) (krO_val H c) i n

theorem gF_val (c : Dev nD) (g : Fin 4) (i : Fin 256) (n : Fin 4096) : gF m c (ix3 g i n) = layer X WD WK WV WQ WQR WKR WO g i n := by
  show k2_pay65 (k2_pay64 (oF m (at4 c g.val g.isLt)) (blkC (wo m (at4 c g.val g.isLt)) (n.val / 512) (div512 (n := 8) n)))
    (tri (d := ![1, 256, 512]) (0 : Fin 1) i ⟨n.val % 512, Nat.mod_lt _ (by decide)⟩) = _
  refine (congrArg (k2_pay65 _) (tri_ix (0 : Fin 1) i (⟨n.val % 512, Nat.mod_lt _ (by decide)⟩ : Fin 512))).trans ?_
  refine (pay65_val _ _ _ i _).trans (Finset.sum_congr rfl fun k _ => ?_)
  have hg : grp (at4 c g.val g.isLt) = g := by
    apply Fin.ext; show (4 * (c.val / 4) + g.val) % 4 = g.val; omega
  rw [oF_val H, hg, H.wo]
  exact congrArg _ (blkC_val WO n _ k)

/-- The result on device c is the layer of the reference's arrays. -/
theorem out_val (c : Dev nD) : outF (vals m) c = fun j => layer X WD WK WV WQ WQR WKR WO (j 0) (j 1) (j 2) := by
  funext j
  obtain ⟨g, i, n, rfl⟩ : ∃ (g : Fin 4) (i : Fin 256) (n : Fin 4096), j = ix3 g i n := ⟨j 0, j 1, j 2, ValueIdx.eq_ix3 j⟩
  unfold outF k2_pay60
  show _ = layer X WD WK WV WQ WQR WKR WO g i n
  rw [show (tri (d := ![1, 256, 4096]) (0 : Fin 1) (ix3 g i n 1) (ix3 g i n 2)) = ix3 (0 : Fin 1) i n from tri_ix (0 : Fin 1) i n]
  rw [cast_put, extf_apply, cast_drop]
  exact (congrArg (gF m c) (tri_ix g i n)).trans (gF_val H c g i n)

end Contents2

end Cert.KernelIdeal.Hand
-- ==== Proof.KerHeld.lean ====
/-
  What the devices hold at the start, against the reference's arrays: the row group a device takes from the input, and the halves
  of the weights.
-/
module

public import proofs.«01_k».proof.Proof.KerAttn
public import Idealize.ShloMosaic.Lib.DynamicIndex
public import Idealize.ShloMosaic.Lib.Layout
public import Idealize.ShloMosaic.Lib.StableHlo.Run
public import Idealize.ShloMosaic.Lib.StableHlo.RunClose

@[expose] public section

set_option maxRecDepth 16384

noncomputable section

namespace Cert.KernelIdeal.Hand

open Cert.KernelIdeal Cert.KernelIdeal.Gen Cert.Layer
open Idealize.ShloMosaic hiding ix1 ix2 ix3
open Idealize.ShloMosaic.TcCoe Idealize.ShloMosaic.ValueIdx
open scoped BigOperators

variable {F : FTy → Type} [FloatOps F] (m : (ℓ : Loc nD τ sig) → Buf (Elt F) ℓ)

/-- The word the host stretch computes from the device's number, a scalar. -/
def grpW (c : Dev nD) : IVec S_ 32 :=
  addi (muli (constantI S_ 32 2#32) (Host.remui (Host.divui (constantI S_ 32 (Dev.word c)) (constantI S_ 32 2#32)) (constantI S_ 32 2#32)))
    (Host.remui (Host.divui (constantI S_ 32 (Dev.word c)) (constantI S_ 32 1#32)) (constantI S_ 32 2#32))

theorem V1_v10 (c : Dev nD) : V1 m c main_v10 = grpW c := by
  unfold V1
  after_results_simp <;> rfl

/-- It is the device's number modulo 4. -/
theorem grpW_eq (c : Dev nD) : grpW c = constantI S_ 32 (BitVec.ofNat 32 (c.val % 4)) := by
  funext i
  revert c
  show ∀ c : Dev nD, (2#32 * ((Dev.word c).udiv 2#32).umod 2#32 + ((Dev.word c).udiv 1#32).umod 2#32 : BitVec 32) = BitVec.ofNat 32 (c.val % 4)
  decide

/-- The row the device takes of the input, reshaped to a matrix. -/
theorem V2_v11 (c : Dev nD) : V2 m c main_v11
    = shapeCast S256x4096 (Host.dynamicSlice S1x256x4096 (m ((c : Thread nD τ).loc main_arg0) : S4x256x4096.Idx → F .bf16)
        (fun k => ((![select (cmpi .slt (grpW c) (constantI S_ 32 0#32)) (addi (grpW c) (constantI S_ 32 4#32)) (grpW c),
          constantI S_ 32 0#32, constantI S_ 32 0#32] : Fin 3 → IVec S_ 32) k (Shape.Idx.first h_S_)).toInt)
        sliceFits_S4x256x4096_S1x256x4096) shapeCasts_S1x256x4096_S256x4096 := by
  rw [← V1_v10 m c]
  have e : V1 m c main_arg0 = m ((c : Thread nD τ).loc main_arg0) := (V1_of m c main_arg0 (by decide)).trans rfl
  rw [← e]
  unfold V2
  generalize V1 m c = V
  after_results_simp_entrywise <;> rfl

/-- Entry by entry: the row group of the device's number modulo 4. -/
theorem xi_row (c : Dev nD) (i : Fin 256) (k : Fin 4096) :
    xi m c (ix2 i k) = m ((c : Thread nD τ).loc main_arg0) (ix3 (grp c) i k) := by
  refine (congrFun (V2_v11 m c) _).trans ((cast_drop _ _ i k).trans ?_)
  have hs : S4x256x4096.Slices ![c.val % 4, 0, 0] S1x256x4096 :=
    ⟨rfl, fun a => match a with
      | ⟨0, _⟩ => by show c.val % 4 + 1 ≤ 4; omega
      | ⟨1, _⟩ => by show 0 + 256 ≤ 256; omega
      | ⟨2, _⟩ => by show 0 + 4096 ≤ 4096; omega⟩
  refine (congrFun (Host.dynamicSlice_eq_extractStridedSlice S1x256x4096 _ _ ![c.val % 4, 0, 0] _ hs (fun a => ?_)) _).trans ?_
  · rw [grpW_eq c]
    match a with
    | ⟨0, _⟩ => exact toInt_wrap_ofNat (c.val % 4) (by omega)
    | ⟨1, _⟩ => rfl
    | ⟨2, _⟩ => rfl
  · refine extractStridedSlice_apply _ _ hs _ _ (fun a => ?_)
    match a with
    | ⟨0, _⟩ => show c.val % 4 = c.val % 4 + 0; rfl
    | ⟨1, _⟩ => show i.val = 0 + i.val; omega
    | ⟨2, _⟩ => show k.val = 0 + k.val; omega

/-! ## The halves of the weights -/

theorem half_col (c : Dev nD) (w : Mat 4096 256) (k : Fin 4096) (j : Fin 128) :
    (Layout.blockN ⟨2, ![4096, 128]⟩ ⟨2, ![4096, 256]⟩ (Layout.meshBlock [2, 2, 2] ![[], [0]] c) w) (ix2 k j) = w (ix2 k (hf (pos c) j)) := by
  refine congrArg w (funext fun a => Fin.ext ?_)
  match a with
  | ⟨0, _⟩ => show 0 * 4096 + k.val = k.val; omega
  | ⟨1, _⟩ =>
    show (c.val / 4 % 2 * 1 + 0) * 128 + j.val = 128 * (c.val / 4) + j.val
    have := c.isLt
    change c.val < 8 at this
    omega

theorem half_row (c : Dev nD) (w : Mat 256 4096) (j : Fin 128) (n : Fin 4096) :
    (Layout.blockN ⟨2, ![128, 4096]⟩ ⟨2, ![256, 4096]⟩ (Layout.meshBlock [2, 2, 2] ![[0], []] c) w) (ix2 j n) = w (ix2 (hf (pos c) j) n) := by
  refine congrArg w (funext fun a => Fin.ext ?_)
  match a with
  | ⟨0, _⟩ =>
    show (c.val / 4 % 2 * 1 + 0) * 128 + j.val = 128 * (c.val / 4) + j.val
    have := c.isLt
    change c.val < 8 at this
    omega
  | ⟨1, _⟩ => show 0 * 4096 + n.val = n.val; omega

end Cert.KernelIdeal.Hand
-- ==== Proof.RefVal.lean ====
/-
  The reference's result, entry by entry: each host operation read at an index, and the whole equal to the layer's closed form.
-/
module

public import proofs.«01_k».proof.Proof.Spec
public import proofs.«01_k».proof.Proof.Gen.ReferenceIdeal.Run
public import Idealize.ShloMosaic.Lib.IdealHost
public import Idealize.ShloMosaic.Lib.Pipeline.Value

@[expose] public section

set_option maxRecDepth 16384

noncomputable section

namespace Cert.Layer.Ref

open Cert.ReferenceIdeal Cert.ReferenceIdeal.Gen Cert.Layer
open Idealize.ShloMosaic Idealize.ShloMosaic.TcCoe Idealize.ShloMosaic.ValueIdx
open scoped BigOperators

/-- A host product of one contracted axis, read at an index: a sum over that axis, at the operand indices given. -/
theorem hostDot {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (j : so.Idx)
    (L : Fin n → sl.Idx) (R : Fin n → sr.Idx)
    (hL : ∀ k, D.lhsIdx j ((contrEquiv1 D n hr hs).symm k) = L k) (hR : ∀ k, D.rhsIdx j ((contrEquiv1 D n hr hs).symm k) = R k) :
    Host.dotGeneral D none l r j = ∑ k : Fin n, l (L k) * r (R k) := by
  simp only [Host.dotGeneral]
  rw [Ideal.dotGeneral_apply, ← Equiv.sum_comp (contrEquiv1 D n hr hs).symm]
  exact Finset.sum_congr rfl fun k _ => by rw [hL, hR]

section Dots
variable {φ₁ φ₂ : FTy}

theorem dotX (l : FVec Ideal S4x256x4096 φ₁) (r : FVec Ideal S4096x256 φ₂) (g : Fin 4) (i : Fin 256) (n : Fin 256) :
    Host.dotGeneral dot_S4x256x4096_S4096x256_S4x256x256_2_0_01_1_n_n none l r (ix3 g i n)
      = ∑ k : Fin 4096, l (ix3 g i k) * r (ix2 k n) := by
  have hk := contrEquiv1_symm_val dot_S4x256x4096_S4096x256_S4x256x256_2_0_01_1_n_n 4096 rfl rfl
  refine hostDot _ 4096 rfl rfl l r _ _ _ (fun k => ?_) (fun k => ?_) <;> funext a <;> apply Fin.ext
  · match a with | ⟨0, _⟩ => rfl | ⟨1, _⟩ => rfl | ⟨2, _⟩ => exact hk k
  · match a with | ⟨0, _⟩ => exact hk k | ⟨1, _⟩ => rfl

theorem dotU (l : FVec Ideal S4x256x256 φ₁) (r : FVec Ideal S256x4096 φ₂) (g : Fin 4) (i : Fin 256) (n : Fin 4096) :
    Host.dotGeneral dot_S4x256x256_S256x4096_S4x256x4096_2_0_01_1_n_n none l r (ix3 g i n)
      = ∑ k : Fin 256, l (ix3 g i k) * r (ix2 k n) := by
  have hk := contrEquiv1_symm_val dot_S4x256x256_S256x4096_S4x256x4096_2_0_01_1_n_n 256 rfl rfl
  refine hostDot _ 256 rfl rfl l r _ _ _ (fun k => ?_) (fun k => ?_) <;> funext a <;> apply Fin.ext
  · match a with | ⟨0, _⟩ => rfl | ⟨1, _⟩ => rfl | ⟨2, _⟩ => exact hk k
  · match a with | ⟨0, _⟩ => exact hk k | ⟨1, _⟩ => rfl

theorem dotQ (l : FVec Ideal S4x256x4096 φ₁) (r : FVec Ideal S4096x4096 φ₂) (g : Fin 4) (i : Fin 256) (n : Fin 4096) :
    Host.dotGeneral dot_S4x256x4096_S4096x4096_S4x256x4096_2_0_01_1_n_n none l r (ix3 g i n)
      = ∑ k : Fin 4096, l (ix3 g i k) * r (ix2 k n) := by
  have hk := contrEquiv1_symm_val dot_S4x256x4096_S4096x4096_S4x256x4096_2_0_01_1_n_n 4096 rfl rfl
  refine hostDot _ 4096 rfl rfl l r _ _ _ (fun k => ?_) (fun k => ?_) <;> funext a <;> apply Fin.ext
  · match a with | ⟨0, _⟩ => rfl | ⟨1, _⟩ => rfl | ⟨2, _⟩ => exact hk k
  · match a with | ⟨0, _⟩ => exact hk k | ⟨1, _⟩ => rfl

theorem dotQR (l : FVec Ideal S4x256x4096 φ₁) (r : FVec Ideal S4096x2048 φ₂) (g : Fin 4) (i : Fin 256) (n : Fin 2048) :
    Host.dotGeneral dot_S4x256x4096_S4096x2048_S4x256x2048_2_0_01_1_n_n none l r (ix3 g i n)
      = ∑ k : Fin 4096, l (ix3 g i k) * r (ix2 k n) := by
  have hk := contrEquiv1_symm_val dot_S4x256x4096_S4096x2048_S4x256x2048_2_0_01_1_n_n 4096 rfl rfl
  refine hostDot _ 4096 rfl rfl l r _ _ _ (fun k => ?_) (fun k => ?_) <;> funext a <;> apply Fin.ext
  · match a with | ⟨0, _⟩ => rfl | ⟨1, _⟩ => rfl | ⟨2, _⟩ => exact hk k
  · match a with | ⟨0, _⟩ => exact hk k | ⟨1, _⟩ => rfl

theorem dotKR (l : FVec Ideal S4x256x4096 φ₁) (r : FVec Ideal S4096x64 φ₂) (g : Fin 4) (i : Fin 256) (n : Fin 64) :
    Host.dotGeneral dot_S4x256x4096_S4096x64_S4x256x64_2_0_01_1_n_n none l r (ix3 g i n)
      = ∑ k : Fin 4096, l (ix3 g i k) * r (ix2 k n) := by
  have hk := contrEquiv1_symm_val dot_S4x256x4096_S4096x64_S4x256x64_2_0_01_1_n_n 4096 rfl rfl
  refine hostDot _ 4096 rfl rfl l r _ _ _ (fun k => ?_) (fun k => ?_) <;> funext a <;> apply Fin.ext
  · match a with | ⟨0, _⟩ => rfl | ⟨1, _⟩ => rfl | ⟨2, _⟩ => exact hk k
  · match a with | ⟨0, _⟩ => exact hk k | ⟨1, _⟩ => rfl

/-- Scores of a head: queries against keys over 128 columns, and over the 64 rotary ones. -/
theorem dotQK (l : FVec Ideal S4x256x32x128 φ₁) (r : FVec Ideal S4x256x32x128 φ₂) (g : Fin 4) (h : Fin 32) (i j : Fin 256) :
    Host.dotGeneral dot_S4x256x32x128_S4x256x32x128_S4x32x256x256_3_3_1_1_02_02 none l r (ix4 g h i j)
      = ∑ d : Fin 128, l (ix4 g i h d) * r (ix4 g j h d) := by
  have hk := contrEquiv1_symm_val dot_S4x256x32x128_S4x256x32x128_S4x32x256x256_3_3_1_1_02_02 128 rfl rfl
  refine hostDot _ 128 rfl rfl l r _ _ _ (fun k => ?_) (fun k => ?_) <;> funext a <;> apply Fin.ext
  · match a with | ⟨0, _⟩ => rfl | ⟨1, _⟩ => rfl | ⟨2, _⟩ => rfl | ⟨3, _⟩ => exact hk k
  · match a with | ⟨0, _⟩ => rfl | ⟨1, _⟩ => rfl | ⟨2, _⟩ => rfl | ⟨3, _⟩ => exact hk k

theorem dotRR (l : FVec Ideal S4x256x32x64 φ₁) (r : FVec Ideal S4x256x32x64 φ₂) (g : Fin 4) (h : Fin 32) (i j : Fin 256) :
    Host.dotGeneral dot_S4x256x32x64_S4x256x32x64_S4x32x256x256_3_3_1_1_02_02 none l r (ix4 g h i j)
      = ∑ d : Fin 64, l (ix4 g i h d) * r (ix4 g j h d) := by
  have hk := contrEquiv1_symm_val dot_S4x256x32x64_S4x256x32x64_S4x32x256x256_3_3_1_1_02_02 64 rfl rfl
  refine hostDot _ 64 rfl rfl l r _ _ _ (fun k => ?_) (fun k => ?_) <;> funext a <;> apply Fin.ext
  · match a with | ⟨0, _⟩ => rfl | ⟨1, _⟩ => rfl | ⟨2, _⟩ => rfl | ⟨3, _⟩ => exact hk k
  · match a with | ⟨0, _⟩ => rfl | ⟨1, _⟩ => rfl | ⟨2, _⟩ => rfl | ⟨3, _⟩ => exact hk k

/-- The value rows against the weights, head by head. -/
theorem dotVW (l : FVec Ideal S4x256x32x128 φ₁) (r : FVec Ideal S4x32x256x256 φ₂) (g : Fin 4) (h : Fin 32) (d : Fin 128) (i : Fin 256) :
    Host.dotGeneral dot_S4x256x32x128_S4x32x256x256_S4x32x128x256_1_3_3_2_02_01 none l r (ix4 g h d i)
      = ∑ j : Fin 256, l (ix4 g j h d) * r (ix4 g h i j) := by
  have hk := contrEquiv1_symm_val dot_S4x256x32x128_S4x32x256x256_S4x32x128x256_1_3_3_2_02_01 256 rfl rfl
  refine hostDot _ 256 rfl rfl l r _ _ _ (fun k => ?_) (fun k => ?_) <;> funext a <;> apply Fin.ext
  · match a with | ⟨0, _⟩ => rfl | ⟨1, _⟩ => exact hk k | ⟨2, _⟩ => rfl | ⟨3, _⟩ => rfl
  · match a with | ⟨0, _⟩ => rfl | ⟨1, _⟩ => rfl | ⟨2, _⟩ => rfl | ⟨3, _⟩ => exact hk k

end Dots

section Layout
variable {α : Type}

theorem castH (x : S4x256x4096.Idx → α) (e) (g : Fin 4) (i : Fin 256) (h : Fin 32) (d : Fin 128) :
    shapeCast S4x256x32x128 x e (ix4 g i h d) = x (ix3 g i (hd h d)) := by
  refine shapeCast_apply x e _ _ ?_
  rw [Shape.rowMajor_val_three, Shape.rowMajor_val_four]
  show (g.val * 256 + i.val) * 4096 + (128 * h.val + d.val) = ((g.val * 256 + i.val) * 32 + h.val) * 128 + d.val
  omega

theorem castHR (x : S4x256x2048.Idx → α) (e) (g : Fin 4) (i : Fin 256) (h : Fin 32) (d : Fin 64) :
    shapeCast S4x256x32x64 x e (ix4 g i h d) = x (ix3 g i (hr h d)) := by
  refine shapeCast_apply x e _ _ ?_
  rw [Shape.rowMajor_val_three, Shape.rowMajor_val_four]
  show (g.val * 256 + i.val) * 2048 + (64 * h.val + d.val) = ((g.val * 256 + i.val) * 32 + h.val) * 64 + d.val
  omega

theorem castK (x : S4x256x64.Idx → α) (e) (g : Fin 4) (i : Fin 256) (z : Fin 1) (d : Fin 64) :
    shapeCast S4x256x1x64 x e (ix4 g i z d) = x (ix3 g i d) := by
  refine shapeCast_apply x e _ _ ?_
  rw [Shape.rowMajor_val_three, Shape.rowMajor_val_four]
  show (g.val * 256 + i.val) * 64 + d.val = ((g.val * 256 + i.val) * 1 + z.val) * 64 + d.val
  omega

theorem castO (x : S4x256x32x128.Idx → α) (e) (g : Fin 4) (i : Fin 256) (n : Fin 4096) :
    shapeCast S4x256x4096 x e (ix3 g i n) = x (ix4 g i (hdOf n) (hdIn n)) := by
  refine shapeCast_apply x e _ _ ?_
  rw [Shape.rowMajor_val_three, Shape.rowMajor_val_four]
  show ((g.val * 256 + i.val) * 32 + n.val / 128) * 128 + n.val % 128 = (g.val * 256 + i.val) * 4096 + n.val
  omega

theorem transO (x : S4x32x128x256.Idx → α) (e) (g : Fin 4) (i : Fin 256) (h : Fin 32) (d : Fin 128) :
    transpose S4x256x32x128 [0, 3, 1, 2] x e (ix4 g i h d) = x (ix4 g h d i) := by
  refine transpose_apply _ x e _ _ (fun b => ?_)
  match b with | ⟨0, _⟩ => rfl | ⟨1, _⟩ => rfl | ⟨2, _⟩ => rfl | ⟨3, _⟩ => rfl

theorem bcK (e) (x : S4x256x1x64.Idx → α) (g : Fin 4) (i : Fin 256) (h : Fin 32) (d : Fin 64) :
    broadcastInDim S4x256x32x64 ![0, 1, 2, 3] e x (ix4 g i h d) = x (ix4 g i 0 d) := by
  refine broadcastInDim_apply _ e x _ _ (fun b => ?_)
  match b with | ⟨0, _⟩ => rfl | ⟨1, _⟩ => rfl | ⟨2, _⟩ => rfl | ⟨3, _⟩ => rfl

theorem bcS (e) (x : S4x32x256x1.Idx → α) (g : Fin 4) (h : Fin 32) (i j : Fin 256) :
    broadcastInDim S4x32x256x256 ![0, 1, 2, 3] e x (ix4 g h i j) = x (ix4 g h i 0) := by
  refine broadcastInDim_apply _ e x _ _ (fun b => ?_)
  match b with | ⟨0, _⟩ => rfl | ⟨1, _⟩ => rfl | ⟨2, _⟩ => rfl | ⟨3, _⟩ => rfl

theorem bcR (e) (x : S4x32x256.Idx → α) (g : Fin 4) (h : Fin 32) (i : Fin 256) (z : Fin 1) :
    broadcastInDim S4x32x256x1 ![0, 1, 2] e x (ix4 g h i z) = x (ix3 g h i) := by
  refine broadcastInDim_apply _ e x _ _ (fun b => ?_)
  match b with | ⟨0, _⟩ => rfl | ⟨1, _⟩ => rfl | ⟨2, _⟩ => rfl

end Layout

theorem redW : S4x32x256x256.Reduces [3] S4x32x256 := by decide

theorem lift_row (g : Fin 4) (h : Fin 32) (i j : Fin 256) : redW.lift (ix3 g h i) j = ix4 g h i j := by
  funext a; apply Fin.ext
  match a with | ⟨0, _⟩ => rfl | ⟨1, _⟩ => rfl | ⟨2, _⟩ => rfl | ⟨3, _⟩ => rfl

/-- A row's sum, and its largest entry. -/
theorem sumRow (x : FVec Ideal S4x32x256x256 .f32) (e : S4x32x256x256.ReducesTo [3] S4x32x256) (u : 0 < S_.numel) (g : Fin 4) (h : Fin 32) (i : Fin 256) :
    Host.reduceAdd x (constant (F := Ideal) S_ .f32 0x00000000#32) e u (ix3 g h i) = ∑ j : Fin 256, x (ix4 g h i j) := by
  rw [hostReduceAdd_apply, Ideal.hostReduceAdd_single e redW]
  show Ideal.ofBits .f32 0x00000000#32 + _ = _
  rw [Ideal.ofBits_zero_f32, zero_add]
  exact Finset.sum_congr rfl fun j _ => congrArg x (lift_row g h i j)

theorem maxRow (x : FVec Ideal S4x32x256x256 .f32) (e : S4x32x256x256.ReducesTo [3] S4x32x256) (u : 0 < S_.numel) (g : Fin 4) (h : Fin 32) (i : Fin 256) :
    Host.reduce (FloatOps.maximumf (F := Ideal) (φ := .f32)) x (constant (F := Ideal) S_ .f32 0xFF800000#32) e u (ix3 g h i)
      = top (fun j => x (ix4 g h i j)) := by
  rw [Host.reduce_eq_fold_single _ _ _ _ redW]
  have hx : (x ∘ redW.lift (ix3 g h i)) = fun j : Fin 256 => x (ix4 g h i j) := funext fun j => congrArg x (lift_row g h i j)
  rw [hx]
  rfl

/-- A row of scores, exponentiated with its largest entry taken off, and the row normalised. -/
theorem expoRow (s : FVec Ideal S4x32x256x256 .f32) (e1 e2 e3 e4) (g : Fin 4) (h : Fin 32) (i j : Fin 256) :
    Host.exp (subf s (broadcastInDim S4x32x256x256 ![0, 1, 2, 3] e1 (broadcastInDim S4x32x256x1 ![0, 1, 2] e2
      (Host.reduce (FloatOps.maximumf (F := Ideal) (φ := .f32)) s (constant (F := Ideal) S_ .f32 0xFF800000#32)
        (e3 : S4x32x256x256.ReducesTo [3] S4x32x256) (e4 : 0 < S_.numel))))) (ix4 g h i j)
      = expo (fun j => s (ix4 g h i j)) j := by
  show Ideal.exp (s (ix4 g h i j) - _) = _
  rw [bcS, bcR, maxRow]
  rfl

theorem softRow (p : FVec Ideal S4x32x256x256 .f32) (e1 e2) (e3 : S4x32x256x256.ReducesTo [3] S4x32x256) (e4 : 0 < S_.numel)
    (f : Fin 256 → EReal) (g : Fin 4) (h : Fin 32) (i j : Fin 256) (hp : ∀ j, p (ix4 g h i j) = expo f j) :
    Host.divf p (broadcastInDim S4x32x256x256 ![0, 1, 2, 3] e1 (broadcastInDim S4x32x256x1 ![0, 1, 2] e2
      (Host.reduceAdd p (constant (F := Ideal) S_ .f32 0x00000000#32) e3 e4))) (ix4 g h i j)
      = soft f j := by
  rw [hostDivf_apply, bcS, bcR, sumRow, hp]
  unfold soft
  exact congrArg _ (Finset.sum_congr rfl fun k _ => hp k)

/-- The scores, from the arrays of queries and keys. -/
theorem scoreRow (a : FVec Ideal S4x32x256x256 .f32) (b : FVec Ideal S4x32x256x256 .f32) (e) (g : Fin 4) (h : Fin 32) (i j : Fin 256) :
    mulf (addf a b) (broadcastInDim S4x32x256x256 ![] e (constant (F := Ideal) S_ .f32 0x3D93CD3A#32)) (ix4 g h i j)
      = (a (ix4 g h i j) + b (ix4 g h i j)) * sigma := by
  rw [mulf_apply, addf_apply, broadcastInDim_scalar_apply]
  rfl

/-- The layer of the reference's arrays. -/
abbrev arr (m : (ℓ : Loc nD τ sig) → Buf (Elt Ideal) ℓ) (c : Dev nD) : S4x256x4096.Idx → EReal :=
  fun j => layer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (j 0) (j 1) (j 2)

theorem result (m : (ℓ : Loc nD τ sig) → Buf (Elt Ideal) ℓ) (c : Dev nD) :
    Cert.ReferenceIdeal.Value.res_main_v37 m c = arr m c := by
  funext j
  obtain ⟨g, i, n, rfl⟩ : ∃ (g : Fin 4) (i : Fin 256) (n : Fin 4096), j = ix3 g i n := ⟨j 0, j 1, j 2, eq_ix3 j⟩
  unfold Cert.ReferenceIdeal.Value.res_main_v37
  refine (dotQ _ _ g i n).trans (Finset.sum_congr rfl fun k _ => congrArg₂ (fun a b : EReal => a * b) ?_ rfl)
  rw [castO, transO, dotVW]
  show _ = ∑ j : Fin 256, up (lin _ _ g) _ j k * soft (score (lin _ _ g) (up (lin _ _ g) _) (lin _ _ g) (lin _ _ g) (hdOf k) i) j
  refine Finset.sum_congr rfl fun t _ => congrArg₂ (fun a b : EReal => a * b) ?_ ?_
  · rw [castH, hd_of_in, dotU]
    refine Finset.sum_congr rfl fun u _ => congrArg₂ (fun a b : EReal => a * b) ?_ rfl
    exact dotX _ _ g t u
  · refine softRow _ _ _ _ _ _ g (hdOf k) i t (fun w => ?_)
    rw [expoRow]
    refine congrArg (fun f => expo f w) (funext fun y => ?_)
    rw [scoreRow]
    refine congrArg (fun a : EReal => a * sigma) (congrArg₂ (fun a b : EReal => a + b) ?_ ?_)
    · rw [dotQK]
      refine Finset.sum_congr rfl fun d _ => congrArg₂ (fun a b : EReal => a * b) ?_ ?_
      · rw [castH]; exact dotQ _ _ g i _
      · rw [castH, dotU]
        refine Finset.sum_congr rfl fun u _ => congrArg₂ (fun a b : EReal => a * b) ?_ rfl
        exact dotX _ _ g y u
    · rw [dotRR]
      refine Finset.sum_congr rfl fun d _ => congrArg₂ (fun a b : EReal => a * b) ?_ ?_
      · rw [castHR]; exact dotQR _ _ g i _
      · rw [bcK, castK]; exact dotKR _ _ g y _

end Cert.Layer.Ref
-- ==== Proof.lean ====
/- The claims about the fused latent-attention kernel on eight devices: the frames of the program and of its reading over
   the reals, the frame of the reference, that no rewrite was made, and that every device's result is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Runs
public import proofs.«01_k».proof.Proof.KerHeld
public import proofs.«01_k».proof.Proof.RefVal
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem
open Idealize.ShloMosaic.TcCoe
open Cert.KernelIdeal Cert.KernelIdeal.Gen Cert.KernelIdeal.Hand

variable {F : FTy → Type} [FloatOps F]

/-- What the arguments are at the end, of what every buffer is. -/
theorem arg_end {m : (ℓ : Loc nD τ sig) → Buf (Elt F) ℓ} {s : MemSt nD τ sig (Elt F)}
    (h : ∀ c : Dev nD, ∀ b ∈ Pipeline.ucRefs τ sig, s.mem (c, b) = W5 m c b) (c : Dev nD) (b : Ref sig .tc) (hb : b.isScoped = false)
    (h0 : b ∉ hostOps0_W) (h1 : b ∉ hostOps0_1_W)
    (h2 : b ∉ ([main_v12_0, main_v12_1, main_v12_2] : List (Ref sig .tc)) ∧ b ∉ ([main_v13_0, main_v13_1, main_v13_2, main_v13_3] : List (Ref sig .tc))
      ∧ b ∉ ([main_v14] : List (Ref sig .tc))) :
    s.mem ((c : Thread nD τ).loc b) = m ((c : Thread nD τ).loc b) :=
  (h c (Proc.devRef .tc b) (Finset.mem_filter.mpr ⟨StableHlo.devRef_mem_tcRefs b, fun h => Bool.false_ne_true (hb.symm.trans h)⟩)).trans (W5_arg m c b h0 h1 h2)

theorem args_end {m : (ℓ : Loc nD τ sig) → Buf (Elt F) ℓ} {s : MemSt nD τ sig (Elt F)}
    (h : ∀ c : Dev nD, ∀ b ∈ Pipeline.ucRefs τ sig, s.mem (c, b) = W5 m c b) (c : Dev nD) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7) :=
  ⟨arg_end h c main_arg0 rfl (by decide) (by decide) (by decide), arg_end h c main_arg1 rfl (by decide) (by decide) (by decide),
    arg_end h c main_arg2 rfl (by decide) (by decide) (by decide), arg_end h c main_arg3 rfl (by decide) (by decide) (by decide),
    arg_end h c main_arg4 rfl (by decide) (by decide) (by decide), arg_end h c main_arg5 rfl (by decide) (by decide) (by decide),
    arg_end h c main_arg6 rfl (by decide) (by decide) (by decide), arg_end h c main_arg7 rfl (by decide) (by decide) (by decide)⟩

set_option maxHeartbeats 4000000
set_option synthInstance.maxHeartbeats 400000
/-- The frame, over any float values. -/
theorem frame_any (m : (ℓ : Loc nD τ sig) → Buf (Elt F) ℓ) (ρ : Dev nD → PrngReg) :
    θ_run (Cert.KernelIdeal.defs (F := F)) (onTc (τ := τ) (Cert.KernelIdeal.main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7))
      ∧ r.2.sem = fun _ => 0) :=
  (θ_run Cert.KernelIdeal.defs _ _).mono (fun _ h => ⟨args_end h.1, h.2⟩) (run_main m ρ)

/-- The two programs have the same text, the kernels' bodies one at a time. -/
theorem same_defs₀ : Cert.Kernel.defs₀ (F := Bits) = Cert.KernelIdeal.defs₀ (F := Bits) :=
  congrArg (Defs.onTc (nD := nD) (τ := τ) (sig := sig) (Val := Elt Bits) (Λ := Cert.KernelIdeal.Λ₀)) (funext fun l => funext fun a => match l, a with
    | 0, (_, _) => rfl
    | 1, (_, _) => rfl
    | 2, (_, _) => rfl)
theorem same_defs : Cert.Kernel.defs (F := Bits) = Cert.KernelIdeal.defs (F := Bits) :=
  congrArg (Pipeline.defs (Cert.KernelIdeal.pcfgs (F := Bits))) same_defs₀
theorem same_main : Cert.Kernel.main (F := Bits) = Cert.KernelIdeal.main (F := Bits) := funext fun _ => rfl

theorem frame_kernel : Cert.quiescent_Kernel := fun m ρ _ =>
  (congrArg₂ (fun d p => θ_run (nD := nD) (τ := τ) (sig := sig) d (onTc (τ := τ) p) ⟨m, fun _ => 0, ρ⟩ _) same_defs same_main).mpr (frame_any (F := Bits) m ρ)

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the whole of the reference's result: both are the layer's entries. -/
theorem algebraic : Cert.algebraic_KernelIdeal_ReferenceIdeal := fun m ρ m' ρ' _ hb => by
  have H : Held m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg4))
      (m' (((0 : Dev Cert.ReferenceIdeal.nD).tc : Thread _ Cert.ReferenceIdeal.τ).loc Cert.ReferenceIdeal.main_arg5))
      (m' (((0 : Dev Cert.ReferenceIdeal.nD).tc : Thread _ Cert.ReferenceIdeal.τ).loc Cert.ReferenceIdeal.main_arg6))
      (m' (((0 : Dev Cert.ReferenceIdeal.nD).tc : Thread _ Cert.ReferenceIdeal.τ).loc Cert.ReferenceIdeal.main_arg7)) :=
    { x := fun c i k => (xi_row m c i k).trans (congrFun (hb c).1 _)
      wd := fun c k j => (congrFun (hb c).2.1 _).trans (half_col c _ k j)
      wk := fun c j n => (congrFun (hb c).2.2.1 _).trans (half_row c _ j n)
      wv := fun c j n => (congrFun (hb c).2.2.2.1 _).trans (half_row c _ j n)
      wq := fun c => (hb c).2.2.2.2.1
      wqr := fun c => (hb c).2.2.2.2.2.1
      wkr := fun c => (hb c).2.2.2.2.2.2.1
      wo := fun c => (hb c).2.2.2.2.2.2.2 }
  refine ⟨Cert.Layer.Ref.arr m' 0, ?_, ?_⟩
  · refine (θ_run Cert.KernelIdeal.defs _ _).mono (fun r h c => ⟨?_, args_end h.1 c⟩) (run_main m ρ)
    refine (h.1 c (Proc.devRef .tc main_v14) (Finset.mem_filter.mpr ⟨StableHlo.devRef_mem_tcRefs main_v14, fun h => Bool.false_ne_true h⟩)).trans ?_
    exact (W5_v14 m c).trans (out_val H c)
  · exact (θ_run Cert.ReferenceIdeal.defs _ _).mono (fun r h => ⟨(h 0).1.trans (Cert.Layer.Ref.result m' 0), (h 0).2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, algebraic⟩

end Cert.Proof

end
